-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnRefIdeal (m : (ℓ : Loc Cert.DAttnRefIdeal.nD Cert.DAttnRefIdeal.τ Cert.DAttnRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3)
      ∧ r.2.mem ((c.tc : Thread Cert.AdamMod.nD Cert.AdamMod.τ).loc Cert.AdamMod.main_arg4) = m ((c.tc : Thread Cert.AdamMod.nD Cert.AdamMod.τ).loc Cert.AdamMod.main_arg4))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
      ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3)
      ∧ r.2.mem ((c.tc : Thread Cert.AdamModRefIdeal.nD Cert.AdamModRefIdeal.τ).loc Cert.AdamModRefIdeal.main_arg4) = m ((c.tc : Thread Cert.AdamModRefIdeal.nD Cert.AdamModRefIdeal.τ).loc Cert.AdamModRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v15) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_v8) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v7) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v5) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_DAttn_DAttnIdeal : Prop :=
  True

def algebraic_DAttnIdeal_DAttnRefIdeal [hDAttnIdeal : Cert.DAttnIdeal.Facts] [hDAttnRefIdeal : Cert.DAttnRefIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v5) = v0 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v4) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)
      ∧ m' ((c.tc : Thread Cert.AdamModRefIdeal.nD Cert.AdamModRefIdeal.τ).loc Cert.AdamModRefIdeal.main_arg4) = m ((c.tc : Thread Cert.AdamModIdeal.nD Cert.AdamModIdeal.τ).loc Cert.AdamModIdeal.main_arg4)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3)
          ∧ r.2.mem ((c.tc : Thread Cert.AdamModIdeal.nD Cert.AdamModIdeal.τ).loc Cert.AdamModIdeal.main_arg4) = m ((c.tc : Thread Cert.AdamModIdeal.nD Cert.AdamModIdeal.τ).loc Cert.AdamModIdeal.main_arg4))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v4) = v0 c
          ∧ r.2.mem ((c.tc : Thread Cert.AdamModRefIdeal.nD Cert.AdamModRefIdeal.τ).loc Cert.AdamModRefIdeal.main_v28) = v1 c
          ∧ r.2.mem ((c.tc : Thread Cert.AdamModRefIdeal.nD Cert.AdamModRefIdeal.τ).loc Cert.AdamModRefIdeal.main_v9) = v2 c
          ∧ r.2.mem ((c.tc : Thread Cert.AdamModRefIdeal.nD Cert.AdamModRefIdeal.τ).loc Cert.AdamModRefIdeal.main_v15) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3)
          ∧ r.2.mem ((c.tc : Thread Cert.AdamModRefIdeal.nD Cert.AdamModRefIdeal.τ).loc Cert.AdamModRefIdeal.main_arg4) = m' ((c.tc : Thread Cert.AdamModRefIdeal.nD Cert.AdamModRefIdeal.τ).loc Cert.AdamModRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v6_0)) (v1 : (c : Dev Cert.AdamDownIdeal.nD) → Buf (Elt Ideal) ((c.tc : Thread Cert.AdamDownIdeal.nD Cert.AdamDownIdeal.τ).loc Cert.AdamDownIdeal.main_v6_1)) (v2 : (c : Dev Cert.AdamDownIdeal.nD) → Buf (Elt Ideal) ((c.tc : Thread Cert.AdamDownIdeal.nD Cert.AdamDownIdeal.τ).loc Cert.AdamDownIdeal.main_v6_2)) (v3 : (c : Dev Cert.AdamDownIdeal.nD) → Buf (Elt Ideal) ((c.tc : Thread Cert.AdamDownIdeal.nD Cert.AdamDownIdeal.τ).loc Cert.AdamDownIdeal.main_v6_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v6_0) = v0 c
          ∧ r.2.mem ((c.tc : Thread Cert.AdamDownIdeal.nD Cert.AdamDownIdeal.τ).loc Cert.AdamDownIdeal.main_v6_1) = v1 c
          ∧ r.2.mem ((c.tc : Thread Cert.AdamDownIdeal.nD Cert.AdamDownIdeal.τ).loc Cert.AdamDownIdeal.main_v6_2) = v2 c
          ∧ r.2.mem ((c.tc : Thread Cert.AdamDownIdeal.nD Cert.AdamDownIdeal.τ).loc Cert.AdamDownIdeal.main_v6_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v14) = v0 c
          ∧ r.2.mem ((c.tc : Thread Cert.AdamDownRefIdeal.nD Cert.AdamDownRefIdeal.τ).loc Cert.AdamDownRefIdeal.main_v38) = v1 c
          ∧ r.2.mem ((c.tc : Thread Cert.AdamDownRefIdeal.nD Cert.AdamDownRefIdeal.τ).loc Cert.AdamDownRefIdeal.main_v19) = v2 c
          ∧ r.2.mem ((c.tc : Thread Cert.AdamDownRefIdeal.nD Cert.AdamDownRefIdeal.τ).loc Cert.AdamDownRefIdeal.main_v25) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v6_0)) (v1 : (c : Dev Cert.AdamUpIdeal.nD) → Buf (Elt Ideal) ((c.tc : Thread Cert.AdamUpIdeal.nD Cert.AdamUpIdeal.τ).loc Cert.AdamUpIdeal.main_v6_1)) (v2 : (c : Dev Cert.AdamUpIdeal.nD) → Buf (Elt Ideal) ((c.tc : Thread Cert.AdamUpIdeal.nD Cert.AdamUpIdeal.τ).loc Cert.AdamUpIdeal.main_v6_2)) (v3 : (c : Dev Cert.AdamUpIdeal.nD) → Buf (Elt Ideal) ((c.tc : Thread Cert.AdamUpIdeal.nD Cert.AdamUpIdeal.τ).loc Cert.AdamUpIdeal.main_v6_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v6_0) = v0 c
          ∧ r.2.mem ((c.tc : Thread Cert.AdamUpIdeal.nD Cert.AdamUpIdeal.τ).loc Cert.AdamUpIdeal.main_v6_1) = v1 c
          ∧ r.2.mem ((c.tc : Thread Cert.AdamUpIdeal.nD Cert.AdamUpIdeal.τ).loc Cert.AdamUpIdeal.main_v6_2) = v2 c
          ∧ r.2.mem ((c.tc : Thread Cert.AdamUpIdeal.nD Cert.AdamUpIdeal.τ).loc Cert.AdamUpIdeal.main_v6_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v14) = v0 c
          ∧ r.2.mem ((c.tc : Thread Cert.AdamUpRefIdeal.nD Cert.AdamUpRefIdeal.τ).loc Cert.AdamUpRefIdeal.main_v38) = v1 c
          ∧ r.2.mem ((c.tc : Thread Cert.AdamUpRefIdeal.nD Cert.AdamUpRefIdeal.τ).loc Cert.AdamUpRefIdeal.main_v19) = v2 c
          ∧ r.2.mem ((c.tc : Thread Cert.AdamUpRefIdeal.nD Cert.AdamUpRefIdeal.τ).loc Cert.AdamUpRefIdeal.main_v25) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v6_0)) (v1 : (c : Dev Cert.AdamOutIdeal.nD) → Buf (Elt Ideal) ((c.tc : Thread Cert.AdamOutIdeal.nD Cert.AdamOutIdeal.τ).loc Cert.AdamOutIdeal.main_v6_1)) (v2 : (c : Dev Cert.AdamOutIdeal.nD) → Buf (Elt Ideal) ((c.tc : Thread Cert.AdamOutIdeal.nD Cert.AdamOutIdeal.τ).loc Cert.AdamOutIdeal.main_v6_2)) (v3 : (c : Dev Cert.AdamOutIdeal.nD) → Buf (Elt Ideal) ((c.tc : Thread Cert.AdamOutIdeal.nD Cert.AdamOutIdeal.τ).loc Cert.AdamOutIdeal.main_v6_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v6_0) = v0 c
          ∧ r.2.mem ((c.tc : Thread Cert.AdamOutIdeal.nD Cert.AdamOutIdeal.τ).loc Cert.AdamOutIdeal.main_v6_1) = v1 c
          ∧ r.2.mem ((c.tc : Thread Cert.AdamOutIdeal.nD Cert.AdamOutIdeal.τ).loc Cert.AdamOutIdeal.main_v6_2) = v2 c
          ∧ r.2.mem ((c.tc : Thread Cert.AdamOutIdeal.nD Cert.AdamOutIdeal.τ).loc Cert.AdamOutIdeal.main_v6_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v14) = v0 c
          ∧ r.2.mem ((c.tc : Thread Cert.AdamOutRefIdeal.nD Cert.AdamOutRefIdeal.τ).loc Cert.AdamOutRefIdeal.main_v38) = v1 c
          ∧ r.2.mem ((c.tc : Thread Cert.AdamOutRefIdeal.nD Cert.AdamOutRefIdeal.τ).loc Cert.AdamOutRefIdeal.main_v19) = v2 c
          ∧ r.2.mem ((c.tc : Thread Cert.AdamOutRefIdeal.nD Cert.AdamOutRefIdeal.τ).loc Cert.AdamOutRefIdeal.main_v25) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)) (v3 : (c : Dev Cert.AdamInIdeal.nD) → Buf (Elt Ideal) ((c.tc : Thread Cert.AdamInIdeal.nD Cert.AdamInIdeal.τ).loc Cert.AdamInIdeal.main_v6_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_v6_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v14) = v0 c
          ∧ r.2.mem ((c.tc : Thread Cert.AdamInRefIdeal.nD Cert.AdamInRefIdeal.τ).loc Cert.AdamInRefIdeal.main_v38) = v1 c
          ∧ r.2.mem ((c.tc : Thread Cert.AdamInRefIdeal.nD Cert.AdamInRefIdeal.τ).loc Cert.AdamInRefIdeal.main_v19) = v2 c
          ∧ r.2.mem ((c.tc : Thread Cert.AdamInRefIdeal.nD Cert.AdamInRefIdeal.τ).loc Cert.AdamInRefIdeal.main_v25) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hMlpUp : Cert.MlpUp.Facts) (hMlpUpIdeal : Cert.MlpUpIdeal.Facts) (hMlpUpRefIdeal : Cert.MlpUpRefIdeal.Facts) (hDwIn : Cert.DwIn.Facts) (hDwInIdeal : Cert.DwInIdeal.Facts) (hDwInRefIdeal : Cert.DwInRefIdeal.Facts) (hDH2 : Cert.DH2.Facts) (hDH2Ideal : Cert.DH2Ideal.Facts) (hDH2RefIdeal : Cert.DH2RefIdeal.Facts) (hMlpDown : Cert.MlpDown.Facts) (hMlpDownIdeal : Cert.MlpDownIdeal.Facts) (hMlpDownRefIdeal : Cert.MlpDownRefIdeal.Facts) (hDH1 : Cert.DH1.Facts) (hDH1Ideal : Cert.DH1Ideal.Facts) (hDH1RefIdeal : Cert.DH1RefIdeal.Facts) (hDAttn : Cert.DAttn.Facts) (hDAttnIdeal : Cert.DAttnIdeal.Facts) (hDAttnRefIdeal : Cert.DAttnRefIdeal.Facts) (hDwOut : Cert.DwOut.Facts) (hDwOutIdeal : Cert.DwOutIdeal.Facts) (hDwOutRefIdeal : Cert.DwOutRefIdeal.Facts) (hOutProj : Cert.OutProj.Facts) (hOutProjIdeal : Cert.OutProjIdeal.Facts) (hOutProjRefIdeal : Cert.OutProjRefIdeal.Facts) (hProjA : Cert.ProjA.Facts) (hProjAIdeal : Cert.ProjAIdeal.Facts) (hProjARefIdeal : Cert.ProjARefIdeal.Facts) (hAdamSmall : Cert.AdamSmall.Facts) (hAdamSmallIdeal : Cert.AdamSmallIdeal.Facts) (hAdamSmallRefIdeal : Cert.AdamSmallRefIdeal.Facts) (hAdamMod : Cert.AdamMod.Facts) (hAdamModIdeal : Cert.AdamModIdeal.Facts) (hAdamModRefIdeal : Cert.AdamModRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DAttn (hDAttn := hDAttn)
    ∧ quiescent_DAttnIdeal (hDAttnIdeal := hDAttnIdeal)
    ∧ quiescent_DAttnRefIdeal (hDAttnRefIdeal := hDAttnRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjA (hProjA := hProjA)
    ∧ quiescent_ProjAIdeal (hProjAIdeal := hProjAIdeal)
    ∧ quiescent_ProjARefIdeal (hProjARefIdeal := hProjARefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_MlpUp_MlpUpIdeal
    ∧ algebraic_MlpUpIdeal_MlpUpRefIdeal (hMlpUpIdeal := hMlpUpIdeal) (hMlpUpRefIdeal := hMlpUpRefIdeal)
    ∧ preserves_DwIn_DwInIdeal
    ∧ algebraic_DwInIdeal_DwInRefIdeal (hDwInIdeal := hDwInIdeal) (hDwInRefIdeal := hDwInRefIdeal)
    ∧ preserves_DH2_DH2Ideal
    ∧ algebraic_DH2Ideal_DH2RefIdeal (hDH2Ideal := hDH2Ideal) (hDH2RefIdeal := hDH2RefIdeal)
    ∧ preserves_MlpDown_MlpDownIdeal
    ∧ algebraic_MlpDownIdeal_MlpDownRefIdeal (hMlpDownIdeal := hMlpDownIdeal) (hMlpDownRefIdeal := hMlpDownRefIdeal)
    ∧ preserves_DH1_DH1Ideal
    ∧ algebraic_DH1Ideal_DH1RefIdeal (hDH1Ideal := hDH1Ideal) (hDH1RefIdeal := hDH1RefIdeal)
    ∧ preserves_DAttn_DAttnIdeal
    ∧ algebraic_DAttnIdeal_DAttnRefIdeal (hDAttnIdeal := hDAttnIdeal) (hDAttnRefIdeal := hDAttnRefIdeal)
    ∧ preserves_DwOut_DwOutIdeal
    ∧ algebraic_DwOutIdeal_DwOutRefIdeal (hDwOutIdeal := hDwOutIdeal) (hDwOutRefIdeal := hDwOutRefIdeal)
    ∧ preserves_OutProj_OutProjIdeal
    ∧ algebraic_OutProjIdeal_OutProjRefIdeal (hOutProjIdeal := hOutProjIdeal) (hOutProjRefIdeal := hOutProjRefIdeal)
    ∧ preserves_ProjA_ProjAIdeal
    ∧ algebraic_ProjAIdeal_ProjARefIdeal (hProjAIdeal := hProjAIdeal) (hProjARefIdeal := hProjARefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamMod_AdamModIdeal
    ∧ algebraic_AdamModIdeal_AdamModRefIdeal (hAdamModIdeal := hAdamModIdeal) (hAdamModRefIdeal := hAdamModRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
-- ==== Pre_finite.lean ====
abbrev S2048x3072 : Shape := ⟨2, ![2048, 3072]⟩
abbrev S2048x128 : Shape := ⟨2, ![2048, 128]⟩
abbrev S2048x2048 : Shape := ⟨2, ![2048, 2048]⟩
abbrev S2048x8 : Shape := ⟨2, ![2048, 8]⟩
abbrev S2048x1024 : Shape := ⟨2, ![2048, 1024]⟩
abbrev S_ : Shape := ⟨0, ![]⟩

class Facts : Prop where
  bitsLt_bf16_f32 : FTy.bits .bf16 < FTy.bits .f32
  slices_S2048x128_S2048x8_0_0 : S2048x128.Slices ![0, 0] S2048x8
  slices_S2048x2048_S2048x1024_0_0 : S2048x2048.Slices ![0, 0] S2048x1024
  bcast_S_S2048x3072 : S_.BroadcastsInDim S2048x3072 (![] : Fin 0 → Fin S2048x3072.rank)
  bcast_S_S2048x8 : S_.BroadcastsInDim S2048x8 (![] : Fin 0 → Fin S2048x8.rank)
  bcast_S_S2048x1024 : S_.BroadcastsInDim S2048x1024 (![] : Fin 0 → Fin S2048x1024.rank)

variable [Facts]

def fn {F : FTy → Type} [FloatOps F] (main_arg0 : FVec F S2048x3072 .bf16) (main_arg1 : FVec F S2048x128 .f32) (main_arg2 : FVec F S2048x2048 .bf16) : IVec S2048x3072 1 × IVec S2048x8 1 × IVec S2048x1024 1 :=
  let main_v0 : FVec F S2048x3072 .f32 := (extf .f32 · bitsLt_bf16_f32) main_arg0
  let main_v1 : FVec F S2048x8 .f32 := (extractStridedSlice S2048x8 ![0, 0] · slices_S2048x128_S2048x8_0_0) main_arg1
  let main_v2 : FVec F S2048x1024 .bf16 := (extractStridedSlice S2048x1024 ![0, 0] · slices_S2048x2048_S2048x1024_0_0) main_arg2
  let main_v3 : FVec F S2048x1024 .f32 := (extf .f32 · bitsLt_bf16_f32) main_v2
  let main_v4 : FVec F S2048x3072 .f32 := Host.absf main_v0
  let main_cst : FVec F S_ .f32 := constant S_ .f32 0x7F800000#32
  let main_v5 : FVec F S2048x3072 .f32 := broadcastInDim S2048x3072 ![] bcast_S_S2048x3072 main_cst
  let main_v6 : IVec S2048x3072 1 := cmpf .olt main_v4 main_v5
  let main_v7 : FVec F S2048x8 .f32 := Host.absf main_v1
  let main_cst_0 : FVec F S_ .f32 := constant S_ .f32 0x7F800000#32
  let main_v8 : FVec F S2048x8 .f32 := broadcastInDim S2048x8 ![] bcast_S_S2048x8 main_cst_0
  let main_v9 : IVec S2048x8 1 := cmpf .olt main_v7 main_v8
  let main_v10 : FVec F S2048x1024 .f32 := Host.absf main_v3
  let main_cst_1 : FVec F S_ .f32 := constant S_ .f32 0x7F800000#32
  let main_v11 : FVec F S2048x1024 .f32 := broadcastInDim S2048x1024 ![] bcast_S_S2048x1024 main_cst_1
  let main_v12 : IVec S2048x1024 1 := cmpf .olt main_v10 main_v11
  (main_v6, main_v9, main_v12)
-- ==== Kernel.lean ====
abbrev S2048x3072 : Shape := ⟨2, ![2048, 3072]⟩
abbrev S2048x128 : Shape := ⟨2, ![2048, 128]⟩
abbrev S2048x2048 : Shape := ⟨2, ![2048, 2048]⟩
abbrev S128x2048 : Shape := ⟨2, ![128, 2048]⟩
abbrev S8x2048 : Shape := ⟨2, ![8, 2048]⟩
abbrev S2048x1024 : Shape := ⟨2, ![2048, 1024]⟩
abbrev S2048x8x128 : Shape := ⟨3, ![2048, 8, 128]⟩
abbrev S2048x8 : Shape := ⟨2, ![2048, 8]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S1x2048x2048 : Shape := ⟨3, ![1, 2048, 2048]⟩
abbrev S1x2048 : Shape := ⟨2, ![1, 2048]⟩
abbrev S2048 : Shape := ⟨1, ![2048]⟩
abbrev S2048x1 : Shape := ⟨2, ![2048, 1]⟩
abbrev S512x128 : Shape := ⟨2, ![512, 128]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1024x128 : Shape := ⟨2, ![1024, 128]⟩
abbrev S1x1024 : Shape := ⟨2, ![1, 1024]⟩
abbrev S512x1024 : Shape := ⟨2, ![512, 1024]⟩
abbrev S1024 : Shape := ⟨1, ![1024]⟩
abbrev S1536x128 : Shape := ⟨2, ![1536, 128]⟩
abbrev S1x1536 : Shape := ⟨2, ![1, 1536]⟩
abbrev S512x1536 : Shape := ⟨2, ![512, 1536]⟩
abbrev S1536 : Shape := ⟨1, ![1536]⟩
abbrev S512x2048 : Shape := ⟨2, ![512, 2048]⟩

abbrev nBuf : Space → Nat
  | .hbm => 58
  | .vmem => 21
  | .smem => 0
  | _ => 0

abbrev bufTy : (tb : Table) → Fin (tcTables nBuf tb) → BufTy
  | .hbm, ⟨0, _⟩ => ⟨S2048x3072, .bf16⟩
  | .hbm, ⟨1, _⟩ => ⟨S2048x128, .f32⟩
  | .hbm, ⟨2, _⟩ => ⟨S2048x2048, .bf16⟩
  | .hbm, ⟨3, _⟩ => ⟨S128x2048, .f32⟩
  | .hbm, ⟨4, _⟩ => ⟨S8x2048, .f32⟩
  | .hbm, ⟨5, _⟩ => ⟨S2048x1024, .bf16⟩
  | .hbm, ⟨6, _⟩ => ⟨S2048x1024, .f32⟩
  | .hbm, ⟨7, _⟩ => ⟨S2048x8x128, .f32⟩
  | .hbm, ⟨8, _⟩ => ⟨S2048x1024, .bf16⟩
  | .hbm, ⟨9, _⟩ => ⟨S2048x1024, .f32⟩
  | .hbm, ⟨10, _⟩ => ⟨S2048x8x128, .f32⟩
  | .hbm, ⟨11, _⟩ => ⟨S2048x8, .f32⟩
  | .hbm, ⟨12, _⟩ => ⟨S8x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S2048x8, .f32⟩
  | .hbm, ⟨51, _⟩ => ⟨S_, .i32⟩
  | .hbm, ⟨52, _⟩ => ⟨S_, .f32⟩
  | .hbm, ⟨53, _⟩ => ⟨S2048x128, .f32⟩
  | .hbm, ⟨54, _⟩ => ⟨S2048x1024, .bf16⟩
  | .hbm, ⟨55, _⟩ => ⟨S2048x1024, .bf16⟩
  | .hbm, ⟨56, _⟩ => ⟨S2048x1024, .bf16⟩
  | .hbm, ⟨57, _⟩ => ⟨S8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S8x2048, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S8x2048, .f32⟩
  | .local _ .vmem, ⟨18, _⟩ => ⟨S2048x128, .f32⟩
  | .local _ .vmem, ⟨19, _⟩ => ⟨S2048x128, .f32⟩
  | .local _ .vmem, ⟨20, _⟩ => ⟨S1x2048, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_3 : Ref sig .tc := ⟨.hbm, 51, rfl⟩
abbrev main_call2_v0 : Ref sig .tc := ⟨.hbm, 52, rfl⟩
abbrev main_v32 : Ref sig .tc := ⟨.hbm, 53, rfl⟩
abbrev main_v33_0 : Ref sig .tc := ⟨.hbm, 54, rfl⟩
abbrev main_v33_1 : Ref sig .tc := ⟨.hbm, 55, rfl⟩
abbrev main_v33_2 : Ref sig .tc := ⟨.hbm, 56, rfl⟩
abbrev main_v33_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v8 : Index := Scalar.indexCast arg0
  let c0_2 : Index := 0#32
  ![v8.toNat, 0]
def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.addi c8_i32 v16
  let c0_i32_5 : BitVec 32 := 0#32
  let c0_i32_6 : BitVec 32 := 0#32
  ![c0_i32_5.toNat, v17.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c16_i32 : BitVec 32 := 16#32
  let v17 : BitVec 32 := Scalar.addi c16_i32 v16
  let c0_i32_5 : BitVec 32 := 0#32
  let c0_i32_6 : BitVec 32 := 0#32
  ![c0_i32_5.toNat, v17.toNat]

def cc0_transform_3 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  ![c0_i32_6.toNat, v17.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2048x3072 : Shape := ⟨2, ![2048, 3072]⟩
abbrev S2048x128 : Shape := ⟨2, ![2048, 128]⟩
abbrev S2048x2048 : Shape := ⟨2, ![2048, 2048]⟩
abbrev S2048x1024 : Shape := ⟨2, ![2048, 1024]⟩
abbrev S2048x8 : Shape := ⟨2, ![2048, 8]⟩
abbrev S8x2048 : Shape := ⟨2, ![8, 2048]⟩
abbrev S2048x8x128 : Shape := ⟨3, ![2048, 8, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S1x2048x2048 : Shape := ⟨3, ![1, 2048, 2048]⟩
abbrev S8x128x2048 : Shape := ⟨3, ![8, 128, 2048]⟩
abbrev S8x2048x128 : Shape := ⟨3, ![8, 2048, 128]⟩

abbrev nBuf : Space → Nat
  | .hbm => 132
  | .vmem => 0
  | .smem => 0
  | _ => 0

abbrev hbmTy0_0 (i : Nat) : BufTy := match i % 128 with
  | 0 => ⟨S2048x3072, .bf16⟩
  | 1 => ⟨S2048x128, .f32⟩
  | 2 => ⟨S2048x2048, .bf16⟩
  | 3 => ⟨S2048x3072, .f32⟩
  | 4 => ⟨S2048x1024, .f32⟩
  | 5 => ⟨S2048x1024, .f32⟩
  | 6 => ⟨S2048x1024, .f32⟩
  | 7 => ⟨S2048x8, .f32⟩
  | 8 => ⟨S8x2048, .f32⟩
  | 9 => ⟨S2048x8x128, .f32⟩
  | 10 => ⟨S2048x8x128, .f32⟩
  | 11 => ⟨S2048x8x128, .f32⟩
  | 12 => ⟨S8x2048x2048, .f32⟩
  | 13 => ⟨S_, .f32⟩
  | 14 => ⟨S8x2048x2048, .f32⟩
  | 15 => ⟨S8x2048x2048, .f32⟩
  | 16 => ⟨S8x2048x1, .f32⟩
  | 17 => ⟨S8x2048x2048, .f32⟩
  | 18 => ⟨S8x2048x2048, .f32⟩
  | 19 => ⟨S8x1x2048, .f32⟩
  | 20 => ⟨S8x2048x2048, .f32⟩
  | 21 => ⟨S8x2048x2048, .f32⟩
  | 22 => ⟨S_, .i1⟩
  | 23 => ⟨S2048x2048, .i1⟩
  | 24 => ⟨S2048x2048, .i32⟩
  | 25 => ⟨S_, .i32⟩
  | 26 => ⟨S2048x2048, .i32⟩
  | 27 => ⟨S2048x2048, .i32⟩
  | 28 => ⟨S2048x2048, .i32⟩
  | 29 => ⟨S2048x2048, .i1⟩
  | 30 => ⟨S_, .i1⟩
  | 31 => ⟨S2048x2048, .i1⟩
  | 32 => ⟨S2048x2048, .i1⟩
  | 33 => ⟨S1x2048x2048, .i1⟩
  | 34 => ⟨S_, .f32⟩
  | 35 => ⟨S_, .f32⟩
  | 36 => ⟨S8x2048x2048, .i1⟩
  | 37 => ⟨S8x2048x2048, .f32⟩
  | 38 => ⟨S8x2048x2048, .f32⟩
  | 39 => ⟨S_, .f32⟩
  | 40 => ⟨S8x2048x2048, .f32⟩
  | 41 => ⟨S_, .f32⟩
  | 42 => ⟨S8x2048, .f32⟩
  | 43 => ⟨S8x2048x1, .f32⟩
  | 44 => ⟨S8x2048x2048, .f32⟩
  | 45 => ⟨S8x2048x2048, .i1⟩
  | 46 => ⟨S8x2048x2048, .f32⟩
  | 47 => ⟨S_, .f32⟩
  | 48 => ⟨S8x2048, .f32⟩
  | 49 => ⟨S_, .f32⟩
  | 50 => ⟨S8x2048, .f32⟩
  | 51 => ⟨S8x2048, .f32⟩
  | 52 => ⟨S_, .f32⟩
  | 53 => ⟨S8x2048, .f32⟩
  | 54 => ⟨S8x2048, .i1⟩
  | 55 => ⟨S_, .f32⟩
  | 56 => ⟨S8x2048, .f32⟩
  | 57 => ⟨S8x2048, .i1⟩
  | 58 => ⟨S_, .f32⟩
  | 59 => ⟨S8x2048, .f32⟩
  | 60 => ⟨S_, .f32⟩
  | 61 => ⟨S8x2048, .f32⟩
  | 62 => ⟨S_, .f32⟩
  | 63 => ⟨S8x2048, .f32⟩
  | 64 => ⟨S8x2048, .f32⟩
  | 65 => ⟨S8x2048, .f32⟩
  | 66 => ⟨S8x2048x1, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x2048x1, .f32⟩
  | 73 => ⟨S8x2048x2048, .f32⟩
  | 74 => ⟨S8x2048x2048, .f32⟩
  | 75 => ⟨S8x2048x1, .f32⟩
  | 76 => ⟨S_, .f32⟩
  | 77 => ⟨S8x2048x1, .f32⟩
  | 78 => ⟨S8x2048x1, .f32⟩
  | 79 => ⟨S8x128x2048, .f32⟩
  | 80 => ⟨S2048x8x128, .f32⟩
  | 81 => ⟨S2048x1024, .f32⟩
  | 82 => ⟨S2048x1024, .bf16⟩
  | 83 => ⟨S2048x1024, .f32⟩
  | 84 => ⟨S2048x8x128, .f32⟩
  | 85 => ⟨S8x128x2048, .f32⟩
  | 86 => ⟨S8x2048x2048, .f32⟩
  | 87 => ⟨S8x128x2048, .f32⟩
  | 88 => ⟨S2048x8x128, .f32⟩
  | 89 => ⟨S8x2048x2048, .f32⟩
  | 90 => ⟨S8x2048x2048, .f32⟩
  | 91 => ⟨S8x2048x2048, .f32⟩
  | 92 => ⟨S_, .f32⟩
  | 93 => ⟨S8x2048, .f32⟩
  | 94 => ⟨S8x2048x1, .f32⟩
  | 95 => ⟨S8x2048x1, .f32⟩
  | 96 => ⟨S8x2048x2048, .f32⟩
  | 97 => ⟨S8x2048x2048, .f32⟩
  | 98 => ⟨S_, .f32⟩
  | 99 => ⟨S8x2048, .f32⟩
  | 100 => ⟨S8x2048x2048, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .f32⟩
  | 106 => ⟨S8x2048x2048, .f32⟩
  | 107 => ⟨S_, .f32⟩
  | 108 => ⟨S8x2048, .f32⟩
  | 109 => ⟨S8x1x2048, .f32⟩
  | 110 => ⟨S_, .f32⟩
  | 111 => ⟨S8x2048, .f32⟩
  | 112 => ⟨S_, .f32⟩
  | 113 => ⟨S8x2048, .f32⟩
  | 114 => ⟨S8x2048x1, .f32⟩
  | 115 => ⟨S_, .f32⟩
  | 116 => ⟨S8x2048, .f32⟩
  | 117 => ⟨S8x2048, .f32⟩
  | 118 => ⟨S_, .f32⟩
  | 119 => ⟨S8x2048x2048, .f32⟩
  | 120 => ⟨S8x2048x2048, .f32⟩
  | 121 => ⟨S8x2048x128, .f32⟩
  | 122 => ⟨S2048x8x128, .f32⟩
  | 123 => ⟨S8x2048x128, .f32⟩
  | 124 => ⟨S2048x8x128, .f32⟩
  | 125 => ⟨S2048x1024, .f32⟩
  | 126 => ⟨S2048x1024, .f32⟩
  | 127 => ⟨S2048x1024, .f32⟩
  | _ => ⟨S2048x3072, .bf16⟩

abbrev hbmTy0_1 (i : Nat) : BufTy := match i % 128 with
  | 0 => ⟨S2048x1024, .bf16⟩
  | 1 => ⟨S2048x1024, .bf16⟩
  | 2 => ⟨S2048x1024, .bf16⟩
  | 3 => ⟨S8x2048, .f32⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_call1_v0 : Ref sig .tc := ⟨.hbm, 35, rfl⟩
abbrev main_v21_1 : Ref sig .tc := ⟨.hbm, 36, rfl⟩
abbrev main_call1_v2 : Ref sig .tc := ⟨.hbm, 37, rfl⟩
abbrev main_v21_0 : Ref sig .tc := ⟨.hbm, 38, rfl⟩
abbrev main_call1_cst : Ref sig .tc := ⟨.hbm, 39, rfl⟩
abbrev main_v21_2 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call2_cst : Ref sig .tc := ⟨.hbm, 103, rfl⟩
abbrev main_call2_v0 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]
-- ==== DAct.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S8192x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DwDown.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | .hbm, ⟨11, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpUp.lean ====
abbrev S2048x2048 : Shape := ⟨2, ![2048, 2048]⟩
abbrev S8x2048x1024 : Shape := ⟨3, ![8, 2048, 1024]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x2048, .f32⟩
  | .hbm, ⟨3, _⟩ => ⟨S2048x8x1024, .bf16⟩
  | .hbm, ⟨4, _⟩ => ⟨S2048x8192, .bf16⟩
  | .hbm, ⟨5, _⟩ => ⟨S2048x8192, .f32⟩
  | .hbm, ⟨6, _⟩ => ⟨S2048x8192, .f32⟩
  | .hbm, ⟨7, _⟩ => ⟨S2048x8192, .bf16⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S2048x8192, .f32⟩
  | .hbm, ⟨12, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwIn.lean ====
abbrev S2048x5120 : Shape := ⟨2, ![2048, 5120]⟩
abbrev S2048x2048 : Shape := ⟨2, ![2048, 2048]⟩
abbrev S5120x2048 : Shape := ⟨2, ![5120, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2048x2048, .bf16⟩
  | .hbm, ⟨2, _⟩ => ⟨S5120x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S2048x5120 : Shape := ⟨2, ![2048, 5120]⟩
abbrev S2048x2048 : Shape := ⟨2, ![2048, 2048]⟩
abbrev S_ : Shape := ⟨0, ![]⟩
abbrev S5120x2048 : Shape := ⟨2, ![5120, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x2048, .bf16⟩
  | .hbm, ⟨2, _⟩ => ⟨S_, .f32⟩
  | .hbm, ⟨3, _⟩ => ⟨S2048x5120, .f32⟩
  | .hbm, ⟨4, _⟩ => ⟨S2048x2048, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S5120x2048, .f32⟩
  | .hbm, ⟨10, _⟩ => ⟨S5120x2048, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DH2.lean ====
abbrev S2048x8192 : Shape := ⟨2, ![2048, 8192]⟩
abbrev S8x2048x1024 : Shape := ⟨3, ![8, 2048, 1024]⟩
abbrev S2048x2048 : Shape := ⟨2, ![2048, 2048]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 3
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH2RefIdeal.lean ====
abbrev S2048x8192 : Shape := ⟨2, ![2048, 8192]⟩
abbrev S8x2048x1024 : Shape := ⟨3, ![8, 2048, 1024]⟩
abbrev S2048x8x1024 : Shape := ⟨3, ![2048, 8, 1024]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x8x1024, .bf16⟩
  | .hbm, ⟨3, _⟩ => ⟨S2048x8192, .bf16⟩
  | .hbm, ⟨4, _⟩ => ⟨S_, .f32⟩
  | .hbm, ⟨5, _⟩ => ⟨S2048x2048, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpDown.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH1.lean ====
abbrev S2048x5120 : Shape := ⟨2, ![2048, 5120]⟩
abbrev S2048x2048 : Shape := ⟨2, ![2048, 2048]⟩
abbrev S1024x2560 : Shape := ⟨2, ![1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x2048, .bf16⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1RefIdeal.lean ====
abbrev S2048x5120 : Shape := ⟨2, ![2048, 5120]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S_, .f32⟩
  | .hbm, ⟨3, _⟩ => ⟨S2048x2048, .f32⟩
  | .hbm, ⟨4, _⟩ => ⟨S2048x5120, .f32⟩
  | .hbm, ⟨5, _⟩ => ⟨S2048x5120, .f32⟩
  | .hbm, ⟨6, _⟩ => ⟨S2048x5120, .f32⟩
  | .hbm, ⟨7, _⟩ => ⟨S2048x2048, .f32⟩
  | .hbm, ⟨8, _⟩ => ⟨S2048x2048, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DAttn.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S2048x2048 : Shape := ⟨2, ![2048, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjA.lean ====
abbrev S2048x2048 : Shape := ⟨2, ![2048, 2048]⟩
abbrev S2048x5120 : Shape := ⟨2, ![2048, 5120]⟩
abbrev S2048x3072 : Shape := ⟨2, ![2048, 3072]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S2048x2048 : Shape := ⟨2, ![2048, 2048]⟩
abbrev S2048x5120 : Shape := ⟨2, ![2048, 5120]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x5120, .f32⟩
  | .hbm, ⟨4, _⟩ => ⟨S2048x5120, .f32⟩
  | .hbm, ⟨5, _⟩ => ⟨S2048x3072, .f32⟩
  | .hbm, ⟨6, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamSmall.lean ====
abbrev S8x20864 : Shape := ⟨2, ![8, 20864]⟩
abbrev S1x20864 : Shape := ⟨2, ![1, 20864]⟩

abbrev nBuf : Space → Nat
  | .hbm => 8
  | .vmem => 8
  | .smem => 0
  | _ => 0

abbrev bufTy : (tb : Table) → Fin (tcTables nBuf tb) → BufTy
  | .hbm, ⟨0, _⟩ => ⟨S8x20864, .f32⟩
  | .hbm, ⟨1, _⟩ => ⟨S1x20864, .f32⟩
  | .hbm, ⟨2, _⟩ => ⟨S1x20864, .f32⟩
  | .hbm, ⟨3, _⟩ => ⟨S1x20864, .f32⟩
  | .hbm, ⟨4, _⟩ => ⟨S1x20864, .f32⟩
  | .hbm, ⟨5, _⟩ => ⟨S1x20864, .f32⟩
  | .hbm, ⟨6, _⟩ => ⟨S1x20864, .f32⟩
  | .hbm, ⟨7, _⟩ => ⟨S1x20864, .f32⟩
  | .local _ .vmem, ⟨0, _⟩ => ⟨S8x20864, .f32⟩
  | .local _ .vmem, ⟨1, _⟩ => ⟨S1x20864, .f32⟩
  | .local _ .vmem, ⟨2, _⟩ => ⟨S1x20864, .f32⟩
  | .local _ .vmem, ⟨3, _⟩ => ⟨S1x20864, .f32⟩
  | .local _ .vmem, ⟨4, _⟩ => ⟨S1x20864, .f32⟩
  | .local _ .vmem, ⟨5, _⟩ => ⟨S1x20864, .f32⟩
  | .local _ .vmem, ⟨6, _⟩ => ⟨S1x20864, .f32⟩
  | .local _ .vmem, ⟨7, _⟩ => ⟨S1x20864, .f32⟩
  | _, _ => ⟨S8x20864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x20864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x20864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20864 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20864 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20864 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20864 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AdamSmallRefIdeal.lean ====
abbrev S8x20864 : Shape := ⟨2, ![8, 20864]⟩
abbrev S1x20864 : Shape := ⟨2, ![1, 20864]⟩
abbrev S_ : Shape := ⟨0, ![]⟩
abbrev S20864 : Shape := ⟨1, ![20864]⟩

abbrev nBuf : Space → Nat
  | .hbm => 40
  | .vmem => 0
  | .smem => 0
  | _ => 0

abbrev bufTy : (tb : Table) → Fin (tcTables nBuf tb) → BufTy
  | .hbm, ⟨0, _⟩ => ⟨S8x20864, .f32⟩
  | .hbm, ⟨1, _⟩ => ⟨S1x20864, .f32⟩
  | .hbm, ⟨2, _⟩ => ⟨S1x20864, .f32⟩
  | .hbm, ⟨3, _⟩ => ⟨S1x20864, .f32⟩
  | .hbm, ⟨4, _⟩ => ⟨S_, .f32⟩
  | .hbm, ⟨5, _⟩ => ⟨S20864, .f32⟩
  | .hbm, ⟨6, _⟩ => ⟨S1x20864, .f32⟩
  | .hbm, ⟨7, _⟩ => ⟨S_, .f32⟩
  | .hbm, ⟨8, _⟩ => ⟨S1x20864, .f32⟩
  | .hbm, ⟨9, _⟩ => ⟨S1x20864, .f32⟩
  | .hbm, ⟨10, _⟩ => ⟨S_, .f32⟩
  | .hbm, ⟨11, _⟩ => ⟨S1x20864, .f32⟩
  | .hbm, ⟨12, _⟩ => ⟨S1x20864, .f32⟩
  | .hbm, ⟨13, _⟩ => ⟨S1x20864, .f32⟩
  | .hbm, ⟨14, _⟩ => ⟨S_, .f32⟩
  | .hbm, ⟨15, _⟩ => ⟨S1x20864, .f32⟩
  | .hbm, ⟨16, _⟩ => ⟨S1x20864, .f32⟩
  | .hbm, ⟨17, _⟩ => ⟨S1x20864, .f32⟩
  | .hbm, ⟨18, _⟩ => ⟨S_, .f32⟩
  | .hbm, ⟨19, _⟩ => ⟨S1x20864, .f32⟩
  | .hbm, ⟨20, _⟩ => ⟨S1x20864, .f32⟩
  | .hbm, ⟨21, _⟩ => ⟨S1x20864, .f32⟩
  | .hbm, ⟨22, _⟩ => ⟨S_, .f32⟩
  | .hbm, ⟨23, _⟩ => ⟨S1x20864, .f32⟩
  | .hbm, ⟨24, _⟩ => ⟨S1x20864, .f32⟩
  | .hbm, ⟨25, _⟩ => ⟨S_, .f32⟩
  | .hbm, ⟨26, _⟩ => ⟨S1x20864, .f32⟩
  | .hbm, ⟨27, _⟩ => ⟨S1x20864, .f32⟩
  | .hbm, ⟨28, _⟩ => ⟨S1x20864, .f32⟩
  | .hbm, ⟨29, _⟩ => ⟨S_, .f32⟩
  | .hbm, ⟨30, _⟩ => ⟨S1x20864, .f32⟩
  | .hbm, ⟨31, _⟩ => ⟨S1x20864, .f32⟩
  | .hbm, ⟨32, _⟩ => ⟨S1x20864, .f32⟩
  | .hbm, ⟨33, _⟩ => ⟨S_, .f32⟩
  | .hbm, ⟨34, _⟩ => ⟨S1x20864, .f32⟩
  | .hbm, ⟨35, _⟩ => ⟨S1x20864, .f32⟩
  | .hbm, ⟨36, _⟩ => ⟨S1x20864, .f32⟩
  | .hbm, ⟨37, _⟩ => ⟨S_, .f32⟩
  | .hbm, ⟨38, _⟩ => ⟨S1x20864, .f32⟩
  | .hbm, ⟨39, _⟩ => ⟨S1x20864, .f32⟩
  | _, _ => ⟨S8x20864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMod.lean ====
abbrev S8x2048 : Shape := ⟨2, ![8, 2048]⟩
abbrev S8x1536 : Shape := ⟨2, ![8, 1536]⟩
abbrev S2048x1536 : Shape := ⟨2, ![2048, 1536]⟩
abbrev S8x256 : Shape := ⟨2, ![8, 256]⟩
abbrev S256x1536 : Shape := ⟨2, ![256, 1536]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamModRefIdeal.lean ====
abbrev S8x2048 : Shape := ⟨2, ![8, 2048]⟩
abbrev S8x1536 : Shape := ⟨2, ![8, 1536]⟩
abbrev S2048x1536 : Shape := ⟨2, ![2048, 1536]⟩
abbrev S_ : Shape := ⟨0, ![]⟩
abbrev S1536x2048 : Shape := ⟨2, ![1536, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S_, .f32⟩
  | .hbm, ⟨6, _⟩ => ⟨S2048x1536, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x1536, .f32⟩
  | .hbm, ⟨17, _⟩ => ⟨S1536x2048, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S_, .f32⟩
  | .hbm, ⟨46, _⟩ => ⟨S2048x1536, .f32⟩
  | .hbm, ⟨47, _⟩ => ⟨S2048x1536, .f32⟩
  | .hbm, ⟨48, _⟩ => ⟨S2048x1536, .f32⟩
  | .hbm, ⟨49, _⟩ => ⟨S_, .f32⟩
  | .hbm, ⟨50, _⟩ => ⟨S2048x1536, .f32⟩
  | .hbm, ⟨51, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== AdamDown.lean ====
abbrev S4x1024x2048 : Shape := ⟨3, ![4, 1024, 2048]⟩
abbrev S1024x2048 : Shape := ⟨2, ![1024, 2048]⟩
abbrev S_ : Shape := ⟨0, ![]⟩
abbrev S1 : Shape := ⟨1, ![1]⟩
abbrev S4 : Shape := ⟨1, ![4]⟩
abbrev S1x256x2048 : Shape := ⟨3, ![1, 256, 2048]⟩
abbrev S256x2048 : Shape := ⟨2, ![256, 2048]⟩

abbrev nBuf : Space → Nat
  | .hbm => 18
  | .vmem => 22
  | .smem => 1
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .smem, ⟨0, _⟩ => ⟨S4, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownIdeal.lean ====
abbrev S4x1024x2048 : Shape := ⟨3, ![4, 1024, 2048]⟩
abbrev S1024x2048 : Shape := ⟨2, ![1024, 2048]⟩
abbrev S_ : Shape := ⟨0, ![]⟩
abbrev S1 : Shape := ⟨1, ![1]⟩
abbrev S4 : Shape := ⟨1, ![4]⟩
abbrev S1x256x2048 : Shape := ⟨3, ![1, 256, 2048]⟩
abbrev S256x2048 : Shape := ⟨2, ![256, 2048]⟩

abbrev nBuf : Space → Nat
  | .hbm => 18
  | .vmem => 22
  | .smem => 1
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .smem, ⟨0, _⟩ => ⟨S4, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownRefIdeal.lean ====
abbrev S4x1024x2048 : Shape := ⟨3, ![4, 1024, 2048]⟩
abbrev S1024x2048 : Shape := ⟨2, ![1024, 2048]⟩
abbrev S1x1024x2048 : Shape := ⟨3, ![1, 1024, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S1x1024x2048, .bf16⟩
  | .hbm, ⟨9, _⟩ => ⟨S1024x2048, .bf16⟩
  | .hbm, ⟨10, _⟩ => ⟨S1024x2048, .f32⟩
  | .hbm, ⟨11, _⟩ => ⟨S1024x2048, .f32⟩
  | .hbm, ⟨12, _⟩ => ⟨S1x1024x2048, .bf16⟩
  | .hbm, ⟨13, _⟩ => ⟨S1024x2048, .bf16⟩
  | .hbm, ⟨14, _⟩ => ⟨S1024x2048, .f32⟩
  | .hbm, ⟨15, _⟩ => ⟨S1024x2048, .f32⟩
  | .hbm, ⟨16, _⟩ => ⟨S1x1024x2048, .bf16⟩
  | .hbm, ⟨17, _⟩ => ⟨S1024x2048, .bf16⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S_, .f32⟩
  | .hbm, ⟨51, _⟩ => ⟨S1024x2048, .f32⟩
  | .hbm, ⟨52, _⟩ => ⟨S1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamUp.lean ====
abbrev S4x2048x1024 : Shape := ⟨3, ![4, 2048, 1024]⟩
abbrev S2048x1024 : Shape := ⟨2, ![2048, 1024]⟩
abbrev S_ : Shape := ⟨0, ![]⟩
abbrev S1 : Shape := ⟨1, ![1]⟩
abbrev S4 : Shape := ⟨1, ![4]⟩
abbrev S1x256x1024 : Shape := ⟨3, ![1, 256, 1024]⟩
abbrev S256x1024 : Shape := ⟨2, ![256, 1024]⟩

abbrev nBuf : Space → Nat
  | .hbm => 18
  | .vmem => 22
  | .smem => 1
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .smem, ⟨0, _⟩ => ⟨S4, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpIdeal.lean ====
abbrev S4x2048x1024 : Shape := ⟨3, ![4, 2048, 1024]⟩
abbrev S2048x1024 : Shape := ⟨2, ![2048, 1024]⟩
abbrev S_ : Shape := ⟨0, ![]⟩
abbrev S1 : Shape := ⟨1, ![1]⟩
abbrev S4 : Shape := ⟨1, ![4]⟩
abbrev S1x256x1024 : Shape := ⟨3, ![1, 256, 1024]⟩
abbrev S256x1024 : Shape := ⟨2, ![256, 1024]⟩

abbrev nBuf : Space → Nat
  | .hbm => 18
  | .vmem => 22
  | .smem => 1
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .smem, ⟨0, _⟩ => ⟨S4, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpRefIdeal.lean ====
abbrev S4x2048x1024 : Shape := ⟨3, ![4, 2048, 1024]⟩
abbrev S2048x1024 : Shape := ⟨2, ![2048, 1024]⟩
abbrev S1x2048x1024 : Shape := ⟨3, ![1, 2048, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S1x2048x1024, .bf16⟩
  | .hbm, ⟨9, _⟩ => ⟨S2048x1024, .bf16⟩
  | .hbm, ⟨10, _⟩ => ⟨S2048x1024, .f32⟩
  | .hbm, ⟨11, _⟩ => ⟨S2048x1024, .f32⟩
  | .hbm, ⟨12, _⟩ => ⟨S1x2048x1024, .bf16⟩
  | .hbm, ⟨13, _⟩ => ⟨S2048x1024, .bf16⟩
  | .hbm, ⟨14, _⟩ => ⟨S2048x1024, .f32⟩
  | .hbm, ⟨15, _⟩ => ⟨S2048x1024, .f32⟩
  | .hbm, ⟨16, _⟩ => ⟨S1x2048x1024, .bf16⟩
  | .hbm, ⟨17, _⟩ => ⟨S2048x1024, .bf16⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamOut.lean ====
abbrev S4x256x2048 : Shape := ⟨3, ![4, 256, 2048]⟩
abbrev S256x2048 : Shape := ⟨2, ![256, 2048]⟩
abbrev S_ : Shape := ⟨0, ![]⟩
abbrev S1 : Shape := ⟨1, ![1]⟩
abbrev S4 : Shape := ⟨1, ![4]⟩
abbrev S1x256x2048 : Shape := ⟨3, ![1, 256, 2048]⟩

abbrev nBuf : Space → Nat
  | .hbm => 18
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S4, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== AdamOutIdeal.lean ====
abbrev S4x256x2048 : Shape := ⟨3, ![4, 256, 2048]⟩
abbrev S256x2048 : Shape := ⟨2, ![256, 2048]⟩
abbrev S_ : Shape := ⟨0, ![]⟩
abbrev S1 : Shape := ⟨1, ![1]⟩
abbrev S4 : Shape := ⟨1, ![4]⟩
abbrev S1x256x2048 : Shape := ⟨3, ![1, 256, 2048]⟩

abbrev nBuf : Space → Nat
  | .hbm => 18
  | .vmem => 11
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S4, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== AdamOutRefIdeal.lean ====
abbrev S4x256x2048 : Shape := ⟨3, ![4, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S1x256x2048, .bf16⟩
  | .hbm, ⟨9, _⟩ => ⟨S256x2048, .bf16⟩
  | .hbm, ⟨10, _⟩ => ⟨S256x2048, .f32⟩
  | .hbm, ⟨11, _⟩ => ⟨S256x2048, .f32⟩
  | .hbm, ⟨12, _⟩ => ⟨S1x256x2048, .bf16⟩
  | .hbm, ⟨13, _⟩ => ⟨S256x2048, .bf16⟩
  | .hbm, ⟨14, _⟩ => ⟨S256x2048, .f32⟩
  | .hbm, ⟨15, _⟩ => ⟨S256x2048, .f32⟩
  | .hbm, ⟨16, _⟩ => ⟨S1x256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamIn.lean ====
abbrev S4x577x2048 : Shape := ⟨3, ![4, 577, 2048]⟩
abbrev S577x2048 : Shape := ⟨2, ![577, 2048]⟩
abbrev S_ : Shape := ⟨0, ![]⟩
abbrev S1 : Shape := ⟨1, ![1]⟩
abbrev S4 : Shape := ⟨1, ![4]⟩
abbrev S1x577x512 : Shape := ⟨3, ![1, 577, 512]⟩
abbrev S577x512 : Shape := ⟨2, ![577, 512]⟩

abbrev nBuf : Space → Nat
  | .hbm => 18
  | .vmem => 22
  | .smem => 1
  | _ => 0

abbrev bufTy : (tb : Table) → Fin (tcTables nBuf tb) → BufTy
  | .hbm, ⟨0, _⟩ => ⟨S4x577x2048, .bf16⟩
  | .hbm, ⟨1, _⟩ => ⟨S4x577x2048, .bf16⟩
  | .hbm, ⟨2, _⟩ => ⟨S577x2048, .f32⟩
  | .hbm, ⟨3, _⟩ => ⟨S577x2048, .f32⟩
  | .hbm, ⟨4, _⟩ => ⟨S577x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S4, .i32⟩
  | .hbm, ⟨14, _⟩ => ⟨S577x2048, .f32⟩
  | .hbm, ⟨15, _⟩ => ⟨S577x2048, .f32⟩
  | .hbm, ⟨16, _⟩ => ⟨S577x2048, .f32⟩
  | .hbm, ⟨17, _⟩ => ⟨S577x2048, .f32⟩
  | .local _ .vmem, ⟨0, _⟩ => ⟨S1x577x512, .bf16⟩
  | .local _ .vmem, ⟨1, _⟩ => ⟨S1x577x512, .bf16⟩
  | .local _ .vmem, ⟨2, _⟩ => ⟨S1x577x512, .bf16⟩
  | .local _ .vmem, ⟨3, _⟩ => ⟨S1x577x512, .bf16⟩
  | .local _ .vmem, ⟨4, _⟩ => ⟨S1x577x512, .bf16⟩
  | .local _ .vmem, ⟨5, _⟩ => ⟨S1x577x512, .bf16⟩
  | .local _ .vmem, ⟨6, _⟩ => ⟨S1x577x512, .bf16⟩
  | .local _ .vmem, ⟨7, _⟩ => ⟨S1x577x512, .bf16⟩
  | .local _ .vmem, ⟨8, _⟩ => ⟨S577x512, .f32⟩
  | .local _ .vmem, ⟨9, _⟩ => ⟨S577x512, .f32⟩
  | .local _ .vmem, ⟨10, _⟩ => ⟨S577x512, .f32⟩
  | .local _ .vmem, ⟨11, _⟩ => ⟨S577x512, .f32⟩
  | .local _ .vmem, ⟨12, _⟩ => ⟨S577x512, .f32⟩
  | .local _ .vmem, ⟨13, _⟩ => ⟨S577x512, .f32⟩
  | .local _ .vmem, ⟨14, _⟩ => ⟨S577x512, .f32⟩
  | .local _ .vmem, ⟨15, _⟩ => ⟨S577x512, .f32⟩
  | .local _ .vmem, ⟨16, _⟩ => ⟨S577x512, .f32⟩
  | .local _ .vmem, ⟨17, _⟩ => ⟨S577x512, .f32⟩
  | .local _ .vmem, ⟨18, _⟩ => ⟨S577x512, .f32⟩
  | .local _ .vmem, ⟨19, _⟩ => ⟨S577x512, .f32⟩
  | .local _ .vmem, ⟨20, _⟩ => ⟨S577x512, .f32⟩
  | .local _ .vmem, ⟨21, _⟩ => ⟨S577x512, .f32⟩
  | .local _ .smem, ⟨0, _⟩ => ⟨S4, .i32⟩
  | _, _ => ⟨S4x577x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S4_S1_0 : ∀ a, (![0] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  ![v0.toNat, arg0.toNat, arg1.toNat]

def cc0_transform_1 (inb_S4_S1_1 : ∀ a, (![1] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S4) ![1] S1.size inb_S4_S1_1) numel1_S1
  let c0_i32 : BitVec 32 := 0#32
  ![v0.toNat, arg0.toNat, arg1.toNat]

def cc0_transform_2 (inb_S4_S1_2 : ∀ a, (![2] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2 : Index := 2#32
  let v0 : BitVec 32 := pf.at 0 (Rect.unit (s := S4) ![2] S1.size inb_S4_S1_2) numel1_S1
  let c0_i32 : BitVec 32 := 0#32
  ![v0.toNat, arg0.toNat, arg1.toNat]

def cc0_transform_3 (inb_S4_S1_3 : ∀ a, (![3] : Fin 1 → Nat) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  ![v0.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x577x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x577x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x577x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x577x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S577x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S577x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S577x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S577x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S577x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S577x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S577x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S4x577x2048 : Shape := ⟨3, ![4, 577, 2048]⟩
abbrev S577x2048 : Shape := ⟨2, ![577, 2048]⟩
abbrev S1x577x2048 : Shape := ⟨3, ![1, 577, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4x577x2048, .bf16⟩
  | .hbm, ⟨1, _⟩ => ⟨S4x577x2048, .bf16⟩
  | .hbm, ⟨2, _⟩ => ⟨S577x2048, .f32⟩
  | .hbm, ⟨3, _⟩ => ⟨S577x2048, .f32⟩
  | .hbm, ⟨4, _⟩ => ⟨S577x2048, .f32⟩
  | .hbm, ⟨5, _⟩ => ⟨S1x577x2048, .bf16⟩
  | .hbm, ⟨6, _⟩ => ⟨S577x2048, .bf16⟩
  | .hbm, ⟨7, _⟩ => ⟨S577x2048, .f32⟩
  | .hbm, ⟨8, _⟩ => ⟨S1x577x2048, .bf16⟩
  | .hbm, ⟨9, _⟩ => ⟨S577x2048, .bf16⟩
  | .hbm, ⟨10, _⟩ => ⟨S577x2048, .f32⟩
  | .hbm, ⟨11, _⟩ => ⟨S577x2048, .f32⟩
  | .hbm, ⟨12, _⟩ => ⟨S1x577x2048, .bf16⟩
  | .hbm, ⟨13, _⟩ => ⟨S577x2048, .bf16⟩
  | .hbm, ⟨14, _⟩ => ⟨S577x2048, .f32⟩
  | .hbm, ⟨15, _⟩ => ⟨S577x2048, .f32⟩
  | .hbm, ⟨16, _⟩ => ⟨S1x577x2048, .bf16⟩
  | .hbm, ⟨17, _⟩ => ⟨S577x2048, .bf16⟩
  | .hbm, ⟨18, _⟩ => ⟨S577x2048, .f32⟩
  | .hbm, ⟨19, _⟩ => ⟨S577x2048, .f32⟩
  | .hbm, ⟨20, _⟩ => ⟨S_, .f32⟩
  | .hbm, ⟨21, _⟩ => ⟨S577x2048, .f32⟩
  | .hbm, ⟨22, _⟩ => ⟨S577x2048, .f32⟩
  | .hbm, ⟨23, _⟩ => ⟨S_, .f32⟩
  | .hbm, ⟨24, _⟩ => ⟨S577x2048, .f32⟩
  | .hbm, ⟨25, _⟩ => ⟨S577x2048, .f32⟩
  | .hbm, ⟨26, _⟩ => ⟨S577x2048, .f32⟩
  | .hbm, ⟨27, _⟩ => ⟨S_, .f32⟩
  | .hbm, ⟨28, _⟩ => ⟨S577x2048, .f32⟩
  | .hbm, ⟨29, _⟩ => ⟨S577x2048, .f32⟩
  | .hbm, ⟨30, _⟩ => ⟨S577x2048, .f32⟩
  | .hbm, ⟨31, _⟩ => ⟨S_, .f32⟩
  | .hbm, ⟨32, _⟩ => ⟨S577x2048, .f32⟩
  | .hbm, ⟨33, _⟩ => ⟨S577x2048, .f32⟩
  | .hbm, ⟨34, _⟩ => ⟨S577x2048, .f32⟩
  | .hbm, ⟨35, _⟩ => ⟨S_, .f32⟩
  | .hbm, ⟨36, _⟩ => ⟨S577x2048, .f32⟩
  | .hbm, ⟨37, _⟩ => ⟨S577x2048, .f32⟩
  | .hbm, ⟨38, _⟩ => ⟨S_, .f32⟩
  | .hbm, ⟨39, _⟩ => ⟨S577x2048, .f32⟩
  | .hbm, ⟨40, _⟩ => ⟨S577x2048, .f32⟩
  | .hbm, ⟨41, _⟩ => ⟨S577x2048, .f32⟩
  | .hbm, ⟨42, _⟩ => ⟨S_, .f32⟩
  | .hbm, ⟨43, _⟩ => ⟨S577x2048, .f32⟩
  | .hbm, ⟨44, _⟩ => ⟨S577x2048, .f32⟩
  | .hbm, ⟨45, _⟩ => ⟨S577x2048, .f32⟩
  | .hbm, ⟨46, _⟩ => ⟨S_, .f32⟩
  | .hbm, ⟨47, _⟩ => ⟨S577x2048, .f32⟩
  | .hbm, ⟨48, _⟩ => ⟨S577x2048, .f32⟩
  | .hbm, ⟨49, _⟩ => ⟨S577x2048, .f32⟩
  | .hbm, ⟨50, _⟩ => ⟨S_, .f32⟩
  | .hbm, ⟨51, _⟩ => ⟨S577x2048, .f32⟩
  | .hbm, ⟨52, _⟩ => ⟨S577x2048, .f32⟩
  | _, _ => ⟨S4x577x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Whole.lean ====
/- What the products' proofs share: reading a store and loads of a whole block. -/
module

public import Idealize.ShloMosaic.Lib.Pipeline.Value
public import Idealize.ShloMosaic.Lib.Pipeline.ValueKit
public import Idealize.ShloMosaic.Lib.Pointwise
public import Idealize.ShloMosaic.Lib.Tactic

@[expose] public section

namespace Cert.Hand

open Idealize.ShloMosaic

/-- An access at the start of a two-axis block. -/
theorem start2 : (![0, 0] : Fin 2 → Nat) = fun _ => 0 := funext fun a => by fin_cases a <;> rfl

/-- An access at the start of a three-axis block. -/
theorem start3 : (![0, 0, 0] : Fin 3 → Nat) = fun _ => 0 := funext fun a => by fin_cases a <;> rfl

/-- Two indices of a two-axis array with the same places. -/
theorem ext2 {n k : ℕ} {p q : (⟨2, ![n, k]⟩ : Shape).Idx} (h0 : (p 0).val = (q 0).val) (h1 : (p 1).val = (q 1).val) : p = q :=
  funext fun a => by fin_cases a; exacts [Fin.ext h0, Fin.ext h1]

/-- Two indices of a three-axis array with the same places. -/
theorem ext3 {l n k : ℕ} {p q : (⟨3, ![l, n, k]⟩ : Shape).Idx} (h0 : (p 0).val = (q 0).val) (h1 : (p 1).val = (q 1).val) (h2 : (p 2).val = (q 2).val) : p = q :=
  funext fun a => by fin_cases a; exacts [Fin.ext h0, Fin.ext h1, Fin.ext h2]

/-- An index of a two-axis array is its two places. -/
theorem eta2 {n k : ℕ} (y : (⟨2, ![n, k]⟩ : Shape).Idx) : y = ix2 (y 0) (y 1) := by
  funext a; fin_cases a <;> rfl

theorem eta3 {l n k : ℕ} (y : (⟨3, ![l, n, k]⟩ : Shape).Idx) : y = ix3 (y 0) (y 1) (y 2) := by
  funext a; fin_cases a <;> rfl

/-- A sum over twice as many terms is the sum of its two halves. -/
theorem halves {N : ℕ} (n : ℕ) (h : N = n + n) (f : Fin N → EReal) :
    ∑ k, f k = (∑ k : Fin n, f ⟨0 + k.val, by omega⟩) + ∑ k : Fin n, f ⟨n + k.val, by omega⟩ := by
  subst h
  simp only [Nat.zero_add]
  exact Fin.sum_univ_add f

theorem zero_f32 : Ideal.ofBits .f32 0x00000000#32 = 0 := by
  simp [Ideal.ofBits, Ideal.ieee]

end Cert.Hand
-- ==== Proof.DActValue.lean ====
/- The gradient of the activation's argument: the product with the turned weight, times twice the activation's root. -/
module

public import proofs.«01_k».proof.Proof.Whole
public import proofs.«01_k».proof.Proof.Gen.DActIdeal.Value
public import proofs.«01_k».proof.Proof.Gen.DActIdeal.Frame
public import proofs.«01_k».proof.Proof.Gen.DAct.Frame
public import proofs.«01_k».proof.Proof.Gen.DActRefIdeal.Read
public import proofs.«01_k».proof.Proof.Gen.DActRefIdeal
public import proofs.«01_k».proof.Defs

@[expose] public section

set_option maxRecDepth 16384

noncomputable section

namespace Cert.DActIdeal.Hand

open Idealize.ShloMosaic Idealize.ShloMosaic.TcCoe Idealize.ShloMosaic.Tactic Idealize.SL.Sem
open Cert.DActIdeal Cert.DActIdeal.Gen Cert.Hand

theorem out_eq {F : FTy → Type} [FloatOps F] (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S8x128 .f32) (h7 : a7.IsWhole)
    (x0 : Vec F S1024x2048 .bf16) (x1 : Vec F S1024x2048 .bf16) (x2 : Vec F S1024x1024 .bf16) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero start2]
  simp only [View.readAt_eq_ld, h3.read_unread, h4.read_unread, h5.read_unread, View.ld_unit_zero (S := S1024x2048) start2, View.ld_unit_zero (S := S1024x1024) start2]

theorem pay_at (x0 : Vec Ideal S1024x2048 .bf16) (x1 : Vec Ideal S1024x2048 .bf16) (x2 : Vec Ideal S1024x1024 .bf16) (i j : Fin 1024) :
    k0_pay1 x0 x1 x2 (ix2 i j) = ((∑ k : Fin 2048, x0 (ix2 i k) * x1 (ix2 j k)) * (Ideal.ofBits .f32 0x40000000#32 * max (x2 (ix2 i j)) 0) : EReal) := by
  rw [← zero_f32]
  pointwise [k0_pay1]

/-- The gradient, from the three arguments. -/
def result (x : FVec Ideal S2048x2048 .bf16) (w : FVec Ideal S8192x2048 .bf16) (u : FVec Ideal S2048x8192 .bf16) : FVec Ideal S2048x8192 .bf16 := fun y =>
  ((∑ k : Fin 2048, x (ix2 (y 0) k) * w (ix2 (y 1) k)) * (Ideal.ofBits .f32 0x40000000#32 * max (u (ix2 (y 0) (y 1))) 0) : EReal)

variable (m : (ℓ : Loc nD τ sig) → Buf (Elt Ideal) ℓ) (ρ : Dev nD → PrngReg)

theorem idx (t : Fin cfg0.N) : win0_0.index t = ![t.val / 8, 0] ∧ win0_1.index t = ![t.val % 8, 0] ∧ win0_2.index t = ![t.val / 8, t.val % 8]
    ∧ win0_3.index t = ![t.val / 8, t.val % 8] :=
  (by decide +kernel : ∀ t : Fin grid0.N, win0_0.index t = ![t.val / 8, 0] ∧ win0_1.index t = ![t.val % 8, 0] ∧ win0_2.index t = ![t.val / 8, t.val % 8]
    ∧ win0_3.index t = ![t.val / 8, t.val % 8]) t

theorem final (c : Dev nD) : (dats m 0 c).arrAt 3 cfg0.N
    = result (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have e0 : (((win0_3.blk t).view.emb y 0 : Fin _) : ℕ) = t.val / 8 * 1024 + (y 0).val := by blk_simp [idx t]
  have e1 : (((win0_3.blk t).view.emb y 1 : Fin _) : ℕ) = t.val % 8 * 1024 + (y 1).val := by blk_simp [idx t]
  blk_simp
  rw [after0_3, outsAt0, out_eq]
  have p0 : ∀ k : Fin 2048, iblk m c 0 t (ix2 (y 0) k) = m ((c.tc : Thread nD τ).loc main_arg0) (ix2 ((win0_3.blk t).view.emb y 0) k) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 (y 1) k) = m ((c.tc : Thread nD τ).loc main_arg1) (ix2 ((win0_3.blk t).view.emb y 1) k) := fun k => by
    unfold iblk
    rw [show V m c (Pipeline.arrRef spec0 1) = m ((c.tc : Thread nD τ).loc main_arg1) from V_main_arg1 m c]
    blk_ext [idx t, e1]
  have p2 : iblk m c 2 t (ix2 (y 0) (y 1)) = m ((c.tc : Thread nD τ).loc main_arg2) (ix2 ((win0_3.blk t).view.emb y 0) ((win0_3.blk t).view.emb y 1)) := by
    unfold iblk
    rw [show V m c (Pipeline.arrRef spec0 2) = m ((c.tc : Thread nD τ).loc main_arg2) from V_main_arg2 m c]
    blk_ext [idx t, e0, e1]
  refine Eq.trans (congrArg _ (eta2 y)) ((pay_at _ _ _ (y 0) (y 1)).trans ?_)
  rw [p2]
  simp only [p0, p1]
  rfl

end Cert.DActIdeal.Hand

namespace Cert.Hand.DAct

open Idealize.ShloMosaic Idealize.ShloMosaic.TcCoe Idealize.SL.Sem
open Cert.DActIdeal Cert.DActIdeal.Hand Cert.DActRefIdeal.Read

/-- Where the activation's argument is not above zero, so that the reference takes no gradient, the root is zero. -/
theorem gate (p t u : EReal) : Scalar.select (FloatOps.cmpf (F := Ideal) (φ := .f32) .ogt u 0) (p * (t * max u 0)) 0 = (p * (t * max u 0) : EReal) := by
  by_cases h : (0 : EReal) < u
  · have e : FloatOps.cmpf (F := Ideal) (φ := .f32) .ogt u 0 = 1#1 := by
      show Ideal.cmp .ogt u 0 = 1#1
      simp [Ideal.cmp, h]
    rw [e]; rfl
  · rw [max_eq_right (not_lt.mp h), mul_zero, mul_zero]
    unfold Scalar.select
    exact ite_self _

theorem ref_eq (x : FVec Ideal S2048x2048 .bf16) (w : FVec Ideal S8192x2048 .bf16) (u : FVec Ideal S2048x8192 .bf16) :
    val_main_v15 (F := Ideal) x w u = result x w u := by
  funext y
  simp only [val_main_v15_apply, val_main_v14_apply, val_main_v4_apply, val_main_v3_apply, val_main_cst_apply, val_main_v1_apply, val_main_v12_apply, val_main_v11_apply,
    val_main_v10_apply, val_main_v0_apply, val_main_v8_apply, val_main_v7_apply, val_main_cst_1_apply, val_main_v2_apply, val_main_call0_v0_apply, val_main_call0_cst_apply,
    val_main_v13_apply, val_main_cst_2_apply]
  have z : FloatOps.ofBits (F := Ideal) .f32 0x00000000#32 = (0 : EReal) := zero_f32
  rw [z]
  refine (gate _ _ _).trans ?_
  exact congrArg₂ (fun p q : EReal => p * (Ideal.ofBits .f32 0x40000000#32 * max q 0))
    (Finset.sum_congr rfl fun k _ => congrArg₂ (fun p q : EReal => p * q) (congrArg x (ext2 rfl rfl)) (congrArg w (ext2 rfl rfl))) (congrArg u (ext2 rfl rfl))

theorem frame_k : Cert.quiescent_DAct (hDAct := Cert.DAct.Gen.facts) := fun m ρ _ => Cert.DAct.Gen.frame m ρ

theorem frame_i : Cert.quiescent_DActIdeal (hDActIdeal := Cert.DActIdeal.Gen.facts) := fun m ρ _ => Cert.DActIdeal.Gen.frame m ρ

theorem frame_r : Cert.quiescent_DActRefIdeal (hDActRefIdeal := Cert.DActRefIdeal.Gen.facts) := fun m ρ _ =>
  (θ_run Cert.DActRefIdeal.defs _ _).mono (fun r h => ⟨fun c => (h c).2, sem_eq_zero_of_no_sems (by decide) r.2⟩) (Cert.DActRefIdeal.Value.run (F := Ideal) m ρ)

theorem values : Cert.algebraic_DActIdeal_DActRefIdeal (hDActIdeal := Cert.DActIdeal.Gen.facts) (hDActRefIdeal := Cert.DActRefIdeal.Gen.facts) := by
  intro m g m' g' _ hagree
  refine ⟨fun c => result (m ((c.tc : Thread nD τ).loc main_arg0)) (m ((c.tc : Thread nD τ).loc main_arg1)) (m ((c.tc : Thread nD τ).loc main_arg2)),
    (θ_run Cert.DActIdeal.defs _ _).mono (fun _ h c => ⟨(h c).1.trans (final m c), (h c).2⟩) (Cert.DActIdeal.Value.run_blocks m g),
    (θ_run Cert.DActRefIdeal.defs _ _).mono (fun r h c => ⟨(h c).1.trans ?_, (h c).2⟩) (Cert.DActRefIdeal.Value.run (F := Ideal) m' g')⟩
  obtain ⟨a0, a1, a2⟩ := hagree c
  rw [val_main_v15_eq, a0, a1, a2]
  exact ref_eq _ _ _

end Cert.Hand.DAct

end
-- ==== Proof.DwDownValue.lean ====
/- The gradient of the down weight: the activations, turned, times the output's gradient. -/
module

public import proofs.«01_k».proof.Proof.Whole
public import proofs.«01_k».proof.Proof.Gen.DwDownIdeal.Value
public import proofs.«01_k».proof.Proof.Gen.DwDownIdeal.Frame
public import proofs.«01_k».proof.Proof.Gen.DwDown.Frame
public import proofs.«01_k».proof.Proof.Gen.DwDownRefIdeal.Read
public import proofs.«01_k».proof.Proof.Gen.DwDownRefIdeal
public import proofs.«01_k».proof.Defs

@[expose] public section

set_option maxRecDepth 16384

noncomputable section

namespace Cert.DwDownIdeal.Hand

open Idealize.ShloMosaic Idealize.ShloMosaic.TcCoe Idealize.ShloMosaic.Tactic Idealize.SL.Sem
open Cert.DwDownIdeal Cert.DwDownIdeal.Gen Cert.Hand

theorem out_eq {F : FTy → Type} [FloatOps F] (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S8x128 .f32) (h6 : a6.IsWhole) (x0 : Vec F S2048x1024 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S2048x1024) start2]

theorem pay_at (x0 : Vec Ideal S2048x1024 .bf16) (x1 : Vec Ideal S2048x1024 .bf16) (i j : Fin 1024) :
    k0_pay1 x0 x1 (ix2 i j) = (∑ k : Fin 2048, x0 (ix2 k i) * x1 (ix2 k j) : EReal) := by
  pointwise [k0_pay1]

/-- The gradient, from the two arguments. -/
def result (a : FVec Ideal S2048x8192 .bf16) (d : FVec Ideal S2048x2048 .bf16) : FVec Ideal S8192x2048 .bf16 := fun y =>
  (∑ k : Fin 2048, a (ix2 k (y 0)) * d (ix2 k (y 1)) : EReal)

variable (m : (ℓ : Loc nD τ sig) → Buf (Elt Ideal) ℓ)

theorem idx (t : Fin cfg0.N) : win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 2 * 1024 + (y 0).val := by blk_simp [idx t]
  have e1 : (((win0_2.blk t).view.emb y 1 : Fin _) : ℕ) = t.val % 2 * 1024 + (y 1).val := by blk_simp [idx t]
  blk_simp
  rw [after0_2, outsAt0, out_eq]
  have p0 : ∀ k : Fin 2048, iblk m c 0 t (ix2 k (y 0)) = m ((c.tc : Thread nD τ).loc main_arg0) (ix2 k ((win0_2.blk t).view.emb y 0)) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 k (y 1)) = m ((c.tc : Thread nD τ).loc main_arg1) (ix2 k ((win0_2.blk t).view.emb y 1)) := fun k => by
    unfold iblk
    rw [show V m c (Pipeline.arrRef spec0 1) = m ((c.tc : Thread nD τ).loc main_arg1) from V_main_arg1 m c]
    blk_ext [idx t, e1]
  refine Eq.trans (congrArg _ (eta2 y)) ((pay_at _ _ (y 0) (y 1)).trans ?_)
  simp only [p0, p1]
  rfl

end Cert.DwDownIdeal.Hand

namespace Cert.Hand.DwDown

open Idealize.ShloMosaic Idealize.ShloMosaic.TcCoe Idealize.SL.Sem
open Cert.DwDownIdeal Cert.DwDownIdeal.Hand Cert.DwDownRefIdeal.Read

theorem ref_eq (a : FVec Ideal S2048x8192 .bf16) (d : FVec Ideal S2048x2048 .bf16) : val_main_v6 (F := Ideal) a d = result a d := by
  funext y
  simp only [val_main_v6_apply, val_main_v5_apply, val_main_v4_apply, val_main_v3_apply, val_main_v1_apply]
  exact Finset.sum_congr rfl fun k _ => (mul_comm (G := EReal) _ _).trans (congrArg₂ (fun p q : EReal => p * q) (congrArg a (ext2 rfl rfl)) (congrArg d (ext2 rfl rfl)))

theorem frame_k : Cert.quiescent_DwDown (hDwDown := Cert.DwDown.Gen.facts) := fun m ρ _ => Cert.DwDown.Gen.frame m ρ

theorem frame_i : Cert.quiescent_DwDownIdeal (hDwDownIdeal := Cert.DwDownIdeal.Gen.facts) := fun m ρ _ => Cert.DwDownIdeal.Gen.frame m ρ

theorem frame_r : Cert.quiescent_DwDownRefIdeal (hDwDownRefIdeal := Cert.DwDownRefIdeal.Gen.facts) := fun m ρ _ =>
  (θ_run Cert.DwDownRefIdeal.defs _ _).mono (fun r h => ⟨fun c => (h c).2, sem_eq_zero_of_no_sems (by decide) r.2⟩) (Cert.DwDownRefIdeal.Value.run (F := Ideal) m ρ)

theorem values : Cert.algebraic_DwDownIdeal_DwDownRefIdeal (hDwDownIdeal := Cert.DwDownIdeal.Gen.facts) (hDwDownRefIdeal := Cert.DwDownRefIdeal.Gen.facts) := by
  intro m g m' g' _ hagree
  refine ⟨fun c => result (m ((c.tc : Thread nD τ).loc main_arg0)) (m ((c.tc : Thread nD τ).loc main_arg1)),
    (θ_run Cert.DwDownIdeal.defs _ _).mono (fun _ h c => ⟨(h c).1.trans (final m c), (h c).2⟩) (Cert.DwDownIdeal.Value.run_blocks m g),
    (θ_run Cert.DwDownRefIdeal.defs _ _).mono (fun r h c => ⟨(h c).1.trans ?_, (h c).2⟩) (Cert.DwDownRefIdeal.Value.run (F := Ideal) m' g')⟩
  obtain ⟨a0, a1⟩ := hagree c
  rw [val_main_v6_eq, a0, a1]
  exact ref_eq _ _

end Cert.Hand.DwDown

end
-- ==== Proof.DwUpValue.lean ====
/- The gradient of the up weight, in eight shards: the layer's input, turned, times the gradient of the activation's argument. -/
module

public import proofs.«01_k».proof.Proof.Whole
public import proofs.«01_k».proof.Proof.Gen.DwUpIdeal.Value
public import proofs.«01_k».proof.Proof.Gen.DwUpIdeal.Frame
public import proofs.«01_k».proof.Proof.Gen.DwUp.Frame
public import proofs.«01_k».proof.Proof.Gen.DwUpRefIdeal.Read
public import proofs.«01_k».proof.Proof.Gen.DwUpRefIdeal
public import proofs.«01_k».proof.Defs

@[expose] public section

set_option maxRecDepth 16384

noncomputable section

namespace Cert.DwUpIdeal.Hand

open Idealize.ShloMosaic Idealize.ShloMosaic.TcCoe Idealize.ShloMosaic.Tactic Idealize.SL.Sem
open Cert.DwUpIdeal Cert.DwUpIdeal.Gen Cert.Hand

theorem out_eq {F : FTy → Type} [FloatOps F] (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S8x128 .f32) (h6 : a6.IsWhole) (x0 : Vec F S2048x1024 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start3]
  simp only [View.readAt_eq_ld, h3.read_unread, h4.read_unread, View.ld_unit_zero (S := S2048x1024) start2]

theorem pay_at (x0 : Vec Ideal S2048x1024 .bf16) (x1 : Vec Ideal S2048x1024 .bf16) (z : Fin 1) (i j : Fin 1024) :
    k0_pay1 x0 x1 (ix3 z i j) = (∑ k : Fin 2048, x0 (ix2 k i) * x1 (ix2 k j) : EReal) := by
  pointwise [k0_pay1]

/-- The place of a shard's column among all columns. -/
def col (g : Fin 8) (j : Fin 1024) : Fin 8192 := ⟨g.val * 1024 + j.val, by omega⟩

/-- The gradient, shard by shard, from the two arguments. -/
def result (a : FVec Ideal S2048x2048 .bf16) (d : FVec Ideal S2048x8192 .bf16) : FVec Ideal S8x2048x1024 .bf16 := fun y =>
  (∑ k : Fin 2048, a (ix2 k (y 1)) * d (ix2 k (col (y 0) (y 2))) : EReal)

variable (m : (ℓ : Loc nD τ sig) → Buf (Elt Ideal) ℓ)

theorem idx (t : Fin cfg0.N) : win0_0.index t = ![0, t.val / 8] ∧ win0_1.index t = ![0, t.val % 8] ∧ win0_2.index t = ![t.val % 8, t.val / 8, 0] :=
  (by decide +kernel : ∀ t : Fin grid0.N, win0_0.index t = ![0, t.val / 8] ∧ win0_1.index t = ![0, t.val % 8] ∧ win0_2.index t = ![t.val % 8, t.val / 8, 0]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have z : (y 0).val = 0 := Nat.lt_one_iff.mp (y 0).isLt
  have e0 : (((win0_2.blk t).view.emb y 0 : Fin _) : ℕ) = t.val % 8 := by blk_simp [idx t, z]
  have e1 : (((win0_2.blk t).view.emb y 1 : Fin _) : ℕ) = t.val / 8 * 1024 + (y 1).val := by blk_simp [idx t]
  have e2 : (((win0_2.blk t).view.emb y 2 : Fin _) : ℕ) = (y 2).val := by blk_simp [idx t]
  blk_simp
  rw [after0_2, outsAt0, out_eq]
  have p0 : ∀ k : Fin 2048, iblk m c 0 t (ix2 k (y 1)) = m ((c.tc : Thread nD τ).loc main_arg0) (ix2 k ((win0_2.blk t).view.emb y 1)) := fun k => by
    unfold iblk
    rw [show V m c (Pipeline.arrRef spec0 0) = m ((c.tc : Thread nD τ).loc main_arg0) from V_main_arg0 m c]
    blk_ext [idx t, e1]
  have p1 : ∀ k : Fin 2048, iblk m c 1 t (ix2 k (y 2)) = m ((c.tc : Thread nD τ).loc main_arg1) (ix2 k (col ((win0_2.blk t).view.emb y 0) ((win0_2.blk t).view.emb y 2))) := fun k => by
    unfold iblk
    rw [show V m c (Pipeline.arrRef spec0 1) = m ((c.tc : Thread nD τ).loc main_arg1) from V_main_arg1 m c]
    blk_ext [idx t, col, e0, e2]
  refine Eq.trans (congrArg _ (eta3 y)) ((pay_at _ _ (y 0) (y 1) (y 2)).trans ?_)
  simp only [p0, p1]
  rfl

end Cert.DwUpIdeal.Hand

namespace Cert.Hand.DwUp

open Idealize.ShloMosaic Idealize.ShloMosaic.TcCoe Idealize.SL.Sem
open Cert.DwUpIdeal Cert.DwUpIdeal.Hand Cert.DwUpRefIdeal.Read

theorem ref_eq (a : FVec Ideal S2048x2048 .bf16) (d : FVec Ideal S2048x8192 .bf16) : val_main_v8 (F := Ideal) a d = result a d := by
  funext y
  simp only [val_main_v8_apply, val_main_v7_apply, val_main_v6_apply, val_main_v5_apply, val_main_v4_apply, val_main_v3_apply, val_main_v1_apply]
  have h0 : (y 0).val < 8 := (y 0).isLt
  have h1 : (y 1).val < 2048 := (y 1).isLt
  have h2 : (y 2).val < 1024 := (y 2).isLt
  have r : (((y 1).val * 8 + (y 0).val) * 1024 + (y 2).val) / 8192 = (y 1).val := by omega
  have s : (((y 1).val * 8 + (y 0).val) * 1024 + (y 2).val) % 8192 = (y 0).val * 1024 + (y 2).val := by omega
  exact Finset.sum_congr rfl fun k _ => (mul_comm (G := EReal) _ _).trans (congrArg₂ (fun p q : EReal => p * q) (congrArg a (ext2 rfl r)) (congrArg d (ext2 rfl s)))

theorem frame_k : Cert.quiescent_DwUp (hDwUp := Cert.DwUp.Gen.facts) := fun m ρ _ => Cert.DwUp.Gen.frame m ρ

theorem frame_i : Cert.quiescent_DwUpIdeal (hDwUpIdeal := Cert.DwUpIdeal.Gen.facts) := fun m ρ _ => Cert.DwUpIdeal.Gen.frame m ρ

theorem frame_r : Cert.quiescent_DwUpRefIdeal (hDwUpRefIdeal := Cert.DwUpRefIdeal.Gen.facts) := fun m ρ _ =>
  (θ_run Cert.DwUpRefIdeal.defs _ _).mono (fun r h => ⟨fun c => (h c).2, sem_eq_zero_of_no_sems (by decide) r.2⟩) (Cert.DwUpRefIdeal.Value.run (F := Ideal) m ρ)

theorem values : Cert.algebraic_DwUpIdeal_DwUpRefIdeal (hDwUpIdeal := Cert.DwUpIdeal.Gen.facts) (hDwUpRefIdeal := Cert.DwUpRefIdeal.Gen.facts) := by
  intro m g m' g' _ hagree
  refine ⟨fun c => result (m ((c.tc : Thread nD τ).loc main_arg0)) (m ((c.tc : Thread nD τ).loc main_arg1)),
    (θ_run Cert.DwUpIdeal.defs _ _).mono (fun _ h c => ⟨(h c).1.trans (final m c), (h c).2⟩) (Cert.DwUpIdeal.Value.run_blocks m g),
    (θ_run Cert.DwUpRefIdeal.defs _ _).mono (fun r h c => ⟨(h c).1.trans ?_, (h c).2⟩) (Cert.DwUpRefIdeal.Value.run (F := Ideal) m' g')⟩
  obtain ⟨a0, a1⟩ := hagree c
  rw [val_main_v8_eq, a0, a1]
  exact ref_eq _ _

end Cert.Hand.DwUp

end
-- ==== Proof.MlpUpValue.lean ====
/- The up product from the eight shards of the weight, and the square of its positive part. -/
module

public import proofs.«01_k».proof.Proof.Whole
public import proofs.«01_k».proof.Proof.Gen.MlpUpIdeal.Value
public import proofs.«01_k».proof.Proof.Gen.MlpUpIdeal.Frame
public import proofs.«01_k».proof.Proof.Gen.MlpUp.Frame
public import proofs.«01_k».proof.Proof.Gen.MlpUpRefIdeal.Read
public import proofs.«01_k».proof.Proof.Gen.MlpUpRefIdeal
public import proofs.«01_k».proof.Defs

@[expose] public section

set_option maxRecDepth 16384

noncomputable section

namespace Cert.MlpUpIdeal.Hand

open Idealize.ShloMosaic Idealize.ShloMosaic.TcCoe Idealize.ShloMosaic.Tactic Idealize.SL.Sem
open Cert.MlpUpIdeal Cert.MlpUpIdeal.Gen Cert.Hand

theorem out_eq {F : FTy → Type} [FloatOps F] (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S8x128 .f32) (h7 : a7.IsWhole)
    (x0 : Vec F S1024x2048 .bf16) (x1 : Vec F S1x2048x1024 .bf16) :
    out0_A_2 c i a3 h3 a4 h4 a5 h5 a6 h6 a7 h7 x0 x1 = k0_pay2 x0 x1 ∧ out0_A_3 c i a3 h3 a4 h4 a5 h5 a6 h6 a7 h7 x0 x1 = k0_pay3 x0 x1 := by
  unfold out0_A_2 out0_A_3
  rw [View.read_writes_eq_canon _ _ _ (cover0_A_2 c i a3 h3 a4 h4 a5 h5 a6 h6 a7 h7 x0 x1), View.read_writes_eq_canon _ _ _ (cover0_A_3 c i a3 h3 a4 h4 a5 h5 a6 h6 a7 h7 x0 x1)]
  unfold kernelRun0_A
  dsimp only
  rw [View.canon_unit_zero start2, View.canon_unit_zero start2]
  simp only [View.readAt_eq_ld, h3.read_unread, h4.read_unread, View.ld_unit_zero (S := S1024x2048) start2, View.ld_unit_zero (S := S1x2048x1024) start3, and_self]

theorem pay_at (x0 : Vec Ideal S1024x2048 .bf16) (x1 : Vec Ideal S1x2048x1024 .bf16) (i j : Fin 1024) :
    k0_pay1 x0 x1 (ix2 i j) = (∑ k : Fin 2048, x0 (ix2 i k) * x1 (ix3 0 k j) : EReal) := by
  pointwise [k0_pay1]

theorem pay2_at (x0 : Vec Ideal S1024x2048 .bf16) (x1 : Vec Ideal S1x2048x1024 .bf16) (i j : Fin 1024) :
    k0_pay2 x0 x1 (ix2 i j) = (∑ k : Fin 2048, x0 (ix2 i k) * x1 (ix3 0 k j) : EReal) := pay_at x0 x1 i j

theorem pay3_at (x0 : Vec Ideal S1024x2048 .bf16) (x1 : Vec Ideal S1x2048x1024 .bf16) (i j : Fin 1024) :
    k0_pay3 x0 x1 (ix2 i j) = (max (∑ k : Fin 2048, x0 (ix2 i k) * x1 (ix3 0 k j)) 0 * max (∑ k : Fin 2048, x0 (ix2 i k) * x1 (ix3 0 k j)) 0 : EReal) := by
  rw [← pay_at, ← zero_f32]
  rfl

/-- A column's shard. -/
def shard (j : Fin 8192) : Fin 8 := ⟨j.val / 1024, by omega⟩

/-- A column's place in its shard. -/
def lane (j : Fin 8192) : Fin 1024 := ⟨j.val % 1024, by omega⟩

/-- The product, from the two arguments. -/
def result (a : FVec Ideal S2048x2048 .bf16) (w : FVec Ideal S8x2048x1024 .bf16) : FVec Ideal S2048x8192 .bf16 := fun y =>
  (∑ k : Fin 2048, a (ix2 (y 0) k) * w (ix3 (shard (y 1)) k (lane (y 1))) : EReal)

/-- The square of the product's positive part. -/
def square (a : FVec Ideal S2048x2048 .bf16) (w : FVec Ideal S8x2048x1024 .bf16) : FVec Ideal S2048x8192 .bf16 := fun y =>
  (max (result a w y) 0 * max (result a w y) 0 : EReal)

variable (m : (ℓ : Loc nD τ sig) → Buf (Elt Ideal) ℓ)

theorem idx (t : Fin cfg0.N) : win0_0.index t = ![t.val / 8, 0] ∧ win0_1.index t = ![t.val % 8, 0, 0] ∧ win0_2.index t = ![t.val / 8, t.val % 8]
    ∧ win0_3.index t = ![t.val / 8, t.val % 8] :=
  (by decide +kernel : ∀ t : Fin grid0.N, win0_0.index t = ![t.val / 8, 0] ∧ win0_1.index t = ![t.val % 8, 0, 0] ∧ win0_2.index t = ![t.val / 8, t.val % 8]
    ∧ win0_3.index t = ![t.val / 8, t.val % 8]) t

/-- A block's product is the whole product at the block's place. -/
theorem block (c : Dev nD) (t : Fin cfg0.N) (i j : Fin 1024) (p : S2048x8192.Idx) (e0 : (p 0).val = t.val / 8 * 1024 + i.val) (e1 : (p 1).val = t.val % 8 * 1024 + j.val)
    (x0 : Vec Ideal S1024x2048 .bf16) (x1 : Vec Ideal S1x2048x1024 .bf16) (h0 : x0 = iblk m c 0 t) (h1 : x1 = iblk m c 1 t) :
    (∑ k : Fin 2048, x0 (ix2 i k) * x1 (ix3 0 k j) : EReal)
      = result (m ((c.tc : Thread nD τ).loc main_arg0)) (m ((c.tc : Thread nD τ).loc main_arg1)) p := by
  subst h0 h1
  have hs : (shard (p 1)).val = t.val % 8 := by show (p 1).val / 1024 = _; omega
  have hl : (lane (p 1)).val = j.val := by show (p 1).val % 1024 = _; omega
  refine Finset.sum_congr rfl fun k _ => congrArg₂ (fun p q : EReal => p * q) ?_ ?_
  · unfold iblk
    rw [show V m c (Pipeline.arrRef spec0 0) = m ((c.tc : Thread nD τ).loc main_arg0) from V_main_arg0 m c]
    blk_ext [idx t, e0]
  · unfold iblk
    rw [show V m c (Pipeline.arrRef spec0 1) = m ((c.tc : Thread nD τ).loc main_arg1) from V_main_arg1 m c]
    blk_ext [idx t, hs, hl]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 8 * 1024 + (y 0).val := by blk_simp [idx t]
  have e1 : (((win0_2.blk t).view.emb y 1 : Fin _) : ℕ) = t.val % 8 * 1024 + (y 1).val := by blk_simp [idx t]
  blk_simp
  rw [after0_2, outsAt0]
  dsimp only
  rw [(out_eq ..).1]
  exact Eq.trans (congrArg _ (eta2 y)) ((pay2_at _ _ (y 0) (y 1)).trans (block m c t (y 0) (y 1) _ e0 e1 _ _ rfl rfl))

theorem final' (c : Dev nD) : (dats m 0 c).arrAt 3 cfg0.N = square (m ((c.tc : Thread nD τ).loc main_arg0)) (m ((c.tc : Thread nD τ).loc main_arg1)) := by
  refine (dats m 0 c).arrAt_eq_of_covers 3 _ (by decide +kernel) fun t hf y => ?_
  have e0 : (((win0_3.blk t).view.emb y 0 : Fin _) : ℕ) = t.val / 8 * 1024 + (y 0).val := by blk_simp [idx t]
  have e1 : (((win0_3.blk t).view.emb y 1 : Fin _) : ℕ) = t.val % 8 * 1024 + (y 1).val := by blk_simp [idx t]
  blk_simp
  rw [after0_3, outsAt0]
  dsimp only
  rw [(out_eq ..).2]
  refine Eq.trans (congrArg _ (eta2 y)) ((pay3_at _ _ (y 0) (y 1)).trans ?_)
  exact congrArg (fun s : EReal => max s 0 * max s 0) (block m c t (y 0) (y 1) _ e0 e1 _ _ rfl rfl)

end Cert.MlpUpIdeal.Hand

namespace Cert.Hand.MlpUp

open Idealize.ShloMosaic Idealize.ShloMosaic.TcCoe Idealize.SL.Sem
open Cert.MlpUpIdeal Cert.MlpUpIdeal.Hand Cert.MlpUpRefIdeal.Read

theorem ref_dot (a : FVec Ideal S2048x2048 .bf16) (w : FVec Ideal S8x2048x1024 .bf16) (y : S2048x8192.Idx) : val_main_v4 (F := Ideal) a w y = result a w y := by
  simp only [val_main_v4_apply, val_main_v3_apply, val_main_v2_apply, val_main_v1_apply, val_main_v0_apply]
  have h1 : (y 1).val < 8192 := (y 1).isLt
  refine Finset.sum_congr rfl fun k _ => congrArg₂ (fun p q : EReal => p * q) (congrArg a (ext2 rfl rfl)) (congrArg w (ext3 ?_ ?_ ?_))
  · show (k.val * 8192 + (y 1).val) / 1024 % 8 = (y 1).val / 1024; omega
  · show (k.val * 8192 + (y 1).val) / 8192 = k.val; omega
  · show (k.val * 8192 + (y 1).val) % 1024 = (y 1).val % 1024; omega

theorem ref_eq (a : FVec Ideal S2048x2048 .bf16) (w : FVec Ideal S8x2048x1024 .bf16) : val_main_v5 (F := Ideal) a w = result a w :=
  funext fun y => ref_dot a w y

theorem ref_square (a : FVec Ideal S2048x2048 .bf16) (w : FVec Ideal S8x2048x1024 .bf16) : val_main_v8 (F := Ideal) a w = square a w := by
  funext y
  simp only [val_main_v8_apply, val_main_v7_apply, val_main_v6_apply, val_main_call0_v0_apply, val_main_call0_cst_apply, ref_dot]
  have z : FloatOps.ofBits (F := Ideal) .f32 0x00000000#32 = (0 : EReal) := zero_f32
  rw [z]
  rfl

theorem frame_k : Cert.quiescent_MlpUp (hMlpUp := Cert.MlpUp.Gen.facts) := fun m ρ _ => Cert.MlpUp.Gen.frame m ρ

theorem frame_i : Cert.quiescent_MlpUpIdeal (hMlpUpIdeal := Cert.MlpUpIdeal.Gen.facts) := fun m ρ _ => Cert.MlpUpIdeal.Gen.frame m ρ

theorem frame_r : Cert.quiescent_MlpUpRefIdeal (hMlpUpRefIdeal := Cert.MlpUpRefIdeal.Gen.facts) := fun m ρ _ =>
  (θ_run Cert.MlpUpRefIdeal.defs _ _).mono (fun r h => ⟨fun c => (h c).2.2, sem_eq_zero_of_no_sems (by decide) r.2⟩) (Cert.MlpUpRefIdeal.Value.run (F := Ideal) m ρ)

theorem values : Cert.algebraic_MlpUpIdeal_MlpUpRefIdeal (hMlpUpIdeal := Cert.MlpUpIdeal.Gen.facts) (hMlpUpRefIdeal := Cert.MlpUpRefIdeal.Gen.facts) := by
  intro m g m' g' _ hagree
  refine ⟨fun c => result (m ((c.tc : Thread nD τ).loc main_arg0)) (m ((c.tc : Thread nD τ).loc main_arg1)),
    fun c => square (m ((c.tc : Thread nD τ).loc main_arg0)) (m ((c.tc : Thread nD τ).loc main_arg1)),
    (θ_run Cert.MlpUpIdeal.defs _ _).mono (fun _ h c => ⟨(h c).1.trans (final m c), (h c).2.1.trans (final' m c), (h c).2.2⟩) (Cert.MlpUpIdeal.Value.run_blocks m g),
    (θ_run Cert.MlpUpRefIdeal.defs _ _).mono (fun r h c => ⟨(h c).1.trans ?_, (h c).2.1.trans ?_, (h c).2.2⟩) (Cert.MlpUpRefIdeal.Value.run (F := Ideal) m' g')⟩
  all_goals obtain ⟨a0, a1⟩ := hagree c
  · rw [val_main_v5_eq, a0, a1]
    exact ref_eq _ _
  · rw [val_main_v8_eq, a0, a1]
    exact ref_square _ _

end Cert.Hand.MlpUp

end
-- ==== Proof.DwInValue.lean ====
/- The gradient of the projections' weight: the projections' gradient, turned, times the layer's input. -/
module

public import proofs.«01_k».proof.Proof.Whole
public import proofs.«01_k».proof.Proof.Gen.DwInIdeal.Value
public import proofs.«01_k».proof.Proof.Gen.DwInIdeal.Frame
public import proofs.«01_k».proof.Proof.Gen.DwIn.Frame
public import proofs.«01_k».proof.Proof.Gen.DwInRefIdeal.Read
public import proofs.«01_k».proof.Proof.Gen.DwInRefIdeal
public import proofs.«01_k».proof.Defs

@[expose] public section

set_option maxRecDepth 16384

noncomputable section

namespace Cert.DwInIdeal.Hand

open Idealize.ShloMosaic Idealize.ShloMosaic.TcCoe Idealize.ShloMosaic.Tactic Idealize.SL.Sem
open Cert.DwInIdeal Cert.DwInIdeal.Gen Cert.Hand

theorem out_eq {F : FTy → Type} [FloatOps F] (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S8x128 .f32) (h6 : a6.IsWhole) (x0 : Vec F S2048x1024 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S2048x1024) start2]

theorem pay_at (x0 : Vec Ideal S2048x1024 .bf16) (x1 : Vec Ideal S2048x1024 .bf16) (i j : Fin 1024) :
    k0_pay1 x0 x1 (ix2 i j) = (∑ k : Fin 2048, x0 (ix2 k i) * x1 (ix2 k j) : EReal) := by
  pointwise [k0_pay1]

/-- The gradient, from the two arguments. -/
def result (a : FVec Ideal S2048x5120 .bf16) (d : FVec Ideal S2048x2048 .bf16) : FVec Ideal S5120x2048 .bf16 := fun y =>
  (∑ k : Fin 2048, a (ix2 k (y 0)) * d (ix2 k (y 1)) : EReal)

variable (m : (ℓ : Loc nD τ sig) → Buf (Elt Ideal) ℓ)

theorem idx (t : Fin cfg0.N) : win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 2 * 1024 + (y 0).val := by blk_simp [idx t]
  have e1 : (((win0_2.blk t).view.emb y 1 : Fin _) : ℕ) = t.val % 2 * 1024 + (y 1).val := by blk_simp [idx t]
  blk_simp
  rw [after0_2, outsAt0, out_eq]
  have p0 : ∀ k : Fin 2048, iblk m c 0 t (ix2 k (y 0)) = m ((c.tc : Thread nD τ).loc main_arg0) (ix2 k ((win0_2.blk t).view.emb y 0)) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 k (y 1)) = m ((c.tc : Thread nD τ).loc main_arg1) (ix2 k ((win0_2.blk t).view.emb y 1)) := fun k => by
    unfold iblk
    rw [show V m c (Pipeline.arrRef spec0 1) = m ((c.tc : Thread nD τ).loc main_arg1) from V_main_arg1 m c]
    blk_ext [idx t, e1]
  refine Eq.trans (congrArg _ (eta2 y)) ((pay_at _ _ (y 0) (y 1)).trans ?_)
  simp only [p0, p1]
  rfl

end Cert.DwInIdeal.Hand

namespace Cert.Hand.DwIn

open Idealize.ShloMosaic Idealize.ShloMosaic.TcCoe Idealize.SL.Sem
open Cert.DwInIdeal Cert.DwInIdeal.Hand Cert.DwInRefIdeal.Read

theorem ref_eq (a : FVec Ideal S2048x5120 .bf16) (d : FVec Ideal S2048x2048 .bf16) : val_main_v7 (F := Ideal) a d = result a d := by
  funext y
  simp only [val_main_v7_apply, val_main_v6_apply, val_main_v5_apply, val_main_v4_apply, val_main_v3_apply, val_main_v1_apply]
  exact Finset.sum_congr rfl fun k _ => congrArg₂ (fun p q : EReal => p * q) (congrArg a (ext2 rfl rfl)) (congrArg d (ext2 rfl rfl))

theorem frame_k : Cert.quiescent_DwIn (hDwIn := Cert.DwIn.Gen.facts) := fun m ρ _ => Cert.DwIn.Gen.frame m ρ

theorem frame_i : Cert.quiescent_DwInIdeal (hDwInIdeal := Cert.DwInIdeal.Gen.facts) := fun m ρ _ => Cert.DwInIdeal.Gen.frame m ρ

theorem frame_r : Cert.quiescent_DwInRefIdeal (hDwInRefIdeal := Cert.DwInRefIdeal.Gen.facts) := fun m ρ _ =>
  (θ_run Cert.DwInRefIdeal.defs _ _).mono (fun r h => ⟨fun c => (h c).2, sem_eq_zero_of_no_sems (by decide) r.2⟩) (Cert.DwInRefIdeal.Value.run (F := Ideal) m ρ)

theorem values : Cert.algebraic_DwInIdeal_DwInRefIdeal (hDwInIdeal := Cert.DwInIdeal.Gen.facts) (hDwInRefIdeal := Cert.DwInRefIdeal.Gen.facts) := by
  intro m g m' g' _ hagree
  refine ⟨fun c => result (m ((c.tc : Thread nD τ).loc main_arg0)) (m ((c.tc : Thread nD τ).loc main_arg1)),
    (θ_run Cert.DwInIdeal.defs _ _).mono (fun _ h c => ⟨(h c).1.trans (final m c), (h c).2⟩) (Cert.DwInIdeal.Value.run_blocks m g),
    (θ_run Cert.DwInRefIdeal.defs _ _).mono (fun r h c => ⟨(h c).1.trans ?_, (h c).2⟩) (Cert.DwInRefIdeal.Value.run (F := Ideal) m' g')⟩
  obtain ⟨a0, a1⟩ := hagree c
  rw [val_main_v7_eq, a0, a1]
  exact ref_eq _ _

end Cert.Hand.DwIn

end
-- ==== Proof.DH2Value.lean ====
/- The gradient of the second layer's input: the up product's gradient times the turned weight, over the eight shards of the weight, two at a point. -/
module

public import proofs.«01_k».proof.Proof.Whole
public import proofs.«01_k».proof.Proof.Gen.DH2Ideal.Value
public import proofs.«01_k».proof.Proof.Gen.DH2Ideal.Frame
public import proofs.«01_k».proof.Proof.Gen.DH2.Frame
public import proofs.«01_k».proof.Proof.Gen.DH2RefIdeal.Read
public import proofs.«01_k».proof.Proof.Gen.DH2RefIdeal
public import proofs.«01_k».proof.Defs

@[expose] public section

set_option maxRecDepth 16384

noncomputable section

namespace Cert.DH2Ideal.Hand

open Idealize.ShloMosaic Idealize.ShloMosaic.TcCoe Idealize.ShloMosaic.Tactic Idealize.SL.Sem
open Cert.DH2Ideal Cert.DH2Ideal.Gen Cert.Hand

/-- The left half of a block's columns. -/
def lo {F : FTy → Type} [FloatOps F] (x0 : Vec F S1024x2048 .bf16) : Vec F S1024x1024 .bf16 :=
  View.ld x0 (Rect.unit (s := S1024x2048) ![0, 0] S1024x1024.size inb_S1024x2048_S1024x1024_0_0)

/-- The right half. -/
def hi {F : FTy → Type} [FloatOps F] (x0 : Vec F S1024x2048 .bf16) : Vec F S1024x1024 .bf16 :=
  View.ld x0 (Rect.unit (s := S1024x2048) ![0, 1024] S1024x1024.size inb_S1024x2048_S1024x1024_0_1024)

theorem first {F : FTy → Type} [FloatOps F] (c : Dev nD) (i : grid0.Coords) (a3 : Memref sig .tc .vmem S1024x2048 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1024x1024 .bf16) (h6 : a6.IsWhole) (a7 : Memref sig .tc .vmem S1024x1024 .f32) (h7 : a7.IsWhole)
    (hc0 : cond0_0 i) (hc1 : ¬cond0_1 i) (hc2 : ¬cond0_2 i) (x0 : Vec F S1024x2048 .bf16) (x1 x2 : Vec F S1x1024x1024 .bf16) :
    sout0_A_0 c i a3 h3 a4 h4 a5 h5 a6 h6 a7 h7 hc0 hc1 hc2 x0 x1 x2 = k0_pay2 (lo x0) x1 (hi x0) x2 := by
  unfold sout0_A_0
  rw [View.read_writes_eq_canon _ _ _ (scover0_A_0 c i a3 h3 a4 h4 a5 h5 a6 h6 a7 h7 hc0 hc1 hc2 x0 x1 x2)]
  unfold kernelRun0_A lo hi
  dsimp only
  sl_unfold_words
  rw [View.canon_unit_zero start2]
  simp only [View.readAt_eq_ld, h3.read_unread, h4.read_unread, h5.read_unread, View.ld_unit_zero (S := S1x1024x1024) start3]

theorem mid {F : FTy → Type} [FloatOps F] (c : Dev nD) (i : grid0.Coords) (a3 : Memref sig .tc .vmem S1024x2048 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1024x1024 .bf16) (h6 : a6.IsWhole) (a7 : Memref sig .tc .vmem S1024x1024 .f32) (h7 : a7.IsWhole)
    (hc0 : ¬cond0_0 i) (hc1 : cond0_1 i) (hc2 : ¬cond0_2 i) (x0 : Vec F S1024x2048 .bf16) (x1 x2 : Vec F S1x1024x1024 .bf16) (xs : Vec F S1024x1024 .f32) :
    sout0_B_0 c i a3 h3 a4 h4 a5 h5 a6 h6 a7 h7 hc0 hc1 hc2 x0 x1 x2 xs = k0_pay3 (lo x0) x1 (hi x0) x2 xs := by
  unfold sout0_B_0
  rw [View.read_writes_eq_canon _ _ _ (scover0_B_0 c i a3 h3 a4 h4 a5 h5 a6 h6 a7 h7 hc0 hc1 hc2 x0 x1 x2 xs)]
  unfold kernelRun0_B lo hi
  dsimp only
  sl_unfold_words
  rw [View.canon_unit_zero start2]
  simp only [View.readAt_eq_ld, h3.read_unread, h4.read_unread, h5.read_unread, h7.read_unread, View.ld_unit_zero (S := S1x1024x1024) start3,
    View.ld_unit_zero (S := S1024x1024) start2]

theorem last {F : FTy → Type} [FloatOps F] (c : Dev nD) (i : grid0.Coords) (a3 : Memref sig .tc .vmem S1024x2048 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1024x1024 .bf16) (h6 : a6.IsWhole) (a7 : Memref sig .tc .vmem S1024x1024 .f32) (h7 : a7.IsWhole)
    (hc0 : ¬cond0_0 i) (hc1 : cond0_1 i) (hc2 : cond0_2 i) (x0 : Vec F S1024x2048 .bf16) (x1 x2 : Vec F S1x1024x1024 .bf16) (xs : Vec F S1024x1024 .f32) :
    out0_C_3 c i a3 h3 a4 h4 a5 h5 a6 h6 a7 h7 hc0 hc1 hc2 x0 x1 x2 xs = k0_pay4 (k0_pay3 (lo x0) x1 (hi x0) x2 xs) := by
  unfold out0_C_3
  rw [View.read_writes_eq_canon _ _ _ (cover0_C_3 c i a3 h3 a4 h4 a5 h5 a6 h6 a7 h7 hc0 hc1 hc2 x0 x1 x2 xs)]
  unfold kernelRun0_C lo hi
  dsimp only
  sl_unfold_words
  rw [View.canon_unit_zero start2, View.readCov_unit_zero _ start2]
  simp only [View.readAt_eq_ld, h3.read_unread, h4.read_unread, h5.read_unread, h7.read_unread, View.ld_unit_zero (S := S1x1024x1024) start3,
    View.ld_unit_zero (S := S1024x1024) start2]

theorem pay1_at (v0 v4 : Vec Ideal S1024x1024 .bf16) (v1 v5 : Vec Ideal S1x1024x1024 .bf16) (i j : Fin 1024) :
    k0_pay1 v0 v1 v4 v5 (ix2 i j) = ((∑ k : Fin 1024, v0 (ix2 i k) * v1 (ix3 0 j k)) + ∑ k : Fin 1024, v4 (ix2 i k) * v5 (ix3 0 j k) : EReal) := by
  pointwise [k0_pay1]

theorem lo_at (x0 : Vec Ideal S1024x2048 .bf16) (i k : Fin 1024) : lo x0 (ix2 i k) = x0 (ix2 i ⟨k.val, by omega⟩) :=
  View.ld_unit_apply_of x0 _ _ _ _ _ fun a => match a with
    | ⟨0, _⟩ => (Nat.zero_add i.val).symm
    | ⟨1, _⟩ => (Nat.zero_add k.val).symm

theorem hi_at (x0 : Vec Ideal S1024x2048 .bf16) (i k : Fin 1024) : hi x0 (ix2 i k) = x0 (ix2 i ⟨1024 + k.val, by omega⟩) :=
  View.ld_unit_apply_of x0 _ _ _ _ _ fun a => match a with
    | ⟨0, _⟩ => (Nat.zero_add i.val).symm
    | ⟨1, _⟩ => rfl

/-- What one point's blocks give at a place: the products with the two shards it takes. -/
def both (x0 : Vec Ideal S1024x2048 .bf16) (x1 x2 : Vec Ideal S1x1024x1024 .bf16) (i j : Fin 1024) : EReal :=
  (∑ k : Fin 1024, (x0 (ix2 i ⟨k.val, by omega⟩) * x1 (ix3 0 j k) : EReal)) + ∑ k : Fin 1024, (x0 (ix2 i ⟨1024 + k.val, by omega⟩) * x2 (ix3 0 j k) : EReal)

theorem pay_both (x0 : Vec Ideal S1024x2048 .bf16) (x1 x2 : Vec Ideal S1x1024x1024 .bf16) (i j : Fin 1024) :
    k0_pay1 (lo x0) x1 (hi x0) x2 (ix2 i j) = both x0 x1 x2 i j :=
  (pay1_at _ _ _ _ i j).trans (congrArg₂ (fun p q : EReal => p + q)
    (Finset.sum_congr rfl fun k _ => congrArg (fun p : EReal => p * (x1 (ix3 0 j k) : EReal)) (lo_at x0 i k))
    (Finset.sum_congr rfl fun k _ => congrArg (fun p : EReal => p * (x2 (ix3 0 j k) : EReal)) (hi_at x0 i k)))

theorem pay2_at (x0 : Vec Ideal S1024x2048 .bf16) (x1 x2 : Vec Ideal S1x1024x1024 .bf16) (i j : Fin 1024) :
    k0_pay2 (lo x0) x1 (hi x0) x2 (ix2 i j) = both x0 x1 x2 i j := by
  refine Eq.trans ?_ (pay_both x0 x1 x2 i j)
  generalize lo x0 = l
  generalize hi x0 = r
  unfold k0_pay2
  exact congrFun (shapeCast_self _ _) _

theorem pay3_at (x0 : Vec Ideal S1024x2048 .bf16) (x1 x2 : Vec Ideal S1x1024x1024 .bf16) (s : Vec Ideal S1024x1024 .f32) (i j : Fin 1024) :
    k0_pay3 (lo x0) x1 (hi x0) x2 s (ix2 i j) = (s (ix2 i j) + both x0 x1 x2 i j : EReal) := by
  refine Eq.trans ?_ (congrArg (fun q : EReal => (s (ix2 i j) : EReal) + q) (pay_both x0 x1 x2 i j))
  generalize lo x0 = l
  generalize hi x0 = r
  unfold k0_pay3
  exact congrFun (shapeCast_self _ _) _

theorem pay4_at (x0 : Vec Ideal S1024x2048 .bf16) (x1 x2 : Vec Ideal S1x1024x1024 .bf16) (s : Vec Ideal S1024x1024 .f32) (i j : Fin 1024) :
    k0_pay4 (k0_pay3 (lo x0) x1 (hi x0) x2 s) (ix2 i j) = (s (ix2 i j) + both x0 x1 x2 i j : EReal) := pay3_at x0 x1 x2 s i j

/-- A column's shard. -/
def shard (j : Fin 8192) : Fin 8 := ⟨j.val / 1024, by omega⟩

/-- A column's place in its shard. -/
def lane (j : Fin 8192) : Fin 1024 := ⟨j.val % 1024, by omega⟩

/-- The product, from the two arguments. -/
def result (a : FVec Ideal S2048x8192 .bf16) (w : FVec Ideal S8x2048x1024 .bf16) : FVec Ideal S2048x2048 .bf16 := fun y =>
  (∑ k : Fin 8192, a (ix2 (y 0) k) * w (ix3 (shard k) (y 1) (lane k)) : EReal)

/-- A shard's share of the product. -/
def piece (a : FVec Ideal S2048x8192 .bf16) (w : FVec Ideal S8x2048x1024 .bf16) (p : S2048x2048.Idx) (s : Fin 8) : EReal :=
  ∑ k : Fin 1024, (a (ix2 (p 0) ⟨s.val * 1024 + k.val, by omega⟩) * w (ix3 s (p 1) k) : EReal)

theorem split (g : Fin (8 * 1024) → EReal) : ∑ k, g k = ∑ s : Fin 8, ∑ k : Fin 1024, g (finProdFinEquiv (s, k)) :=
  (Equiv.sum_comp finProdFinEquiv g).symm.trans (Fintype.sum_prod_type _)

theorem result_pieces (a : FVec Ideal S2048x8192 .bf16) (w : FVec Ideal S8x2048x1024 .bf16) (p : S2048x2048.Idx) :
    (((piece a w p 0 + piece a w p 1) + (piece a w p 2 + piece a w p 3)) + (piece a w p 4 + piece a w p 5)) + (piece a w p 6 + piece a w p 7) = result a w p := by
  have h : (result a w p : EReal) = ∑ s : Fin 8, piece a w p s := by
    refine (split fun k : Fin 8192 => (a (ix2 (p 0) k) * w (ix3 (shard k) (p 1) (lane k)) : EReal)).trans ?_
    refine Finset.sum_congr rfl fun s _ => Finset.sum_congr rfl fun k _ => congrArg₂ (fun p q : EReal => p * q) (congrArg a (ext2 rfl ?_)) (congrArg w (ext3 ?_ rfl ?_))
    · show k.val + 1024 * s.val = s.val * 1024 + k.val; omega
    · show (k.val + 1024 * s.val) / 1024 = s.val; omega
    · show (k.val + 1024 * s.val) % 1024 = k.val; omega
  refine Eq.trans ?_ h.symm
  rw [Fin.sum_univ_eight]
  simp only [add_assoc]

variable (m : (ℓ : Loc nD τ sig) → Buf (Elt Ideal) ℓ)

theorem idx (t : Fin cfg0.N) : win0_0.index t = ![t.val / 8, t.val % 4] ∧ win0_1.index t = ![2 * (t.val % 4), t.val / 4 % 2, 0]
    ∧ win0_2.index t = ![2 * (t.val % 4) + 1, t.val / 4 % 2, 0] ∧ win0_3.index t = ![t.val / 8, t.val / 4 % 2] :=
  (by decide +kernel : ∀ t : Fin grid0.N, win0_0.index t = ![t.val / 8, t.val % 4] ∧ win0_1.index t = ![2 * (t.val % 4), t.val / 4 % 2, 0]
    ∧ win0_2.index t = ![2 * (t.val % 4) + 1, t.val / 4 % 2, 0] ∧ win0_3.index t = ![t.val / 8, t.val / 4 % 2]) t

/-- What a point adds to a place of its block: the shares of its two shards. -/
theorem part (c : Dev nD) (t : Fin cfg0.N) (i j : Fin 1024) (p : S2048x2048.Idx) (e0 : (p 0).val = t.val / 8 * 1024 + i.val) (e1 : (p 1).val = t.val / 4 % 2 * 1024 + j.val)
    (s r : Fin 8) (hs : s.val = 2 * (t.val % 4)) (hr : r.val = 2 * (t.val % 4) + 1)
    (x0 : Vec Ideal S1024x2048 .bf16) (x1 x2 : Vec Ideal S1x1024x1024 .bf16) (h0 : x0 = iblk m c 0 t) (h1 : x1 = iblk m c 1 t) (h2 : x2 = iblk m c 2 t)
    (a : FVec Ideal S2048x8192 .bf16) (w : FVec Ideal S8x2048x1024 .bf16) (ha : a = m ((c.tc : Thread nD τ).loc main_arg0)) (hw : w = m ((c.tc : Thread nD τ).loc main_arg1)) :
    both x0 x1 x2 i j = piece a w p s + piece a w p r := by
  subst h0 h1 h2 ha hw
  refine congrArg₂ (fun p q : EReal => p + q) (Finset.sum_congr rfl fun k _ => congrArg₂ (fun p q : EReal => p * q) ?_ ?_)
    (Finset.sum_congr rfl fun k _ => congrArg₂ (fun p q : EReal => p * q) ?_ ?_)
  · unfold iblk
    rw [show V m c (Pipeline.arrRef spec0 0) = m ((c.tc : Thread nD τ).loc main_arg0) from V_main_arg0 m c]
    blk_ext [idx t, e0, hs]
  · unfold iblk
    rw [show V m c (Pipeline.arrRef spec0 1) = m ((c.tc : Thread nD τ).loc main_arg1) from V_main_arg1 m c]
    blk_ext [idx t, e1, hs]
  · unfold iblk
    rw [show V m c (Pipeline.arrRef spec0 0) = m ((c.tc : Thread nD τ).loc main_arg0) from V_main_arg0 m c]
    blk_ext [idx t, e0, hr]
  · unfold iblk
    rw [show V m c (Pipeline.arrRef spec0 2) = m ((c.tc : Thread nD τ).loc main_arg1) from V_main_arg1 m c]
    blk_ext [idx t, e1, hr]

/-- The running sum after the first point of a block, at a place. -/
theorem sum0 (c : Dev nD) (t : Fin cfg0.N) (ht : t.val % 4 = 0) (i j : Fin 1024) (p : S2048x2048.Idx) (e0 : (p 0).val = t.val / 8 * 1024 + i.val)
    (e1 : (p 1).val = t.val / 4 % 2 * 1024 + j.val) (a : FVec Ideal S2048x8192 .bf16) (w : FVec Ideal S8x2048x1024 .bf16)
    (ha : a = m ((c.tc : Thread nD τ).loc main_arg0)) (hw : w = m ((c.tc : Thread nD τ).loc main_arg1)) :
    (outsAt0 m c t.val t.isLt).2 (ix2 i j) = piece a w p 0 + piece a w p 1 := by
  rw [outsAt0_A m c t ht (by omega) (by omega)]
  dsimp only
  rw [first]
  exact (pay2_at _ _ _ i j).trans (part m c t i j p e0 e1 0 1 (by rw [ht]; rfl) (by rw [ht]; rfl) _ _ _ rfl rfl rfl a w ha hw)

/-- A middle point adds its two shares. -/
theorem sumS (c : Dev nD) (t : Fin cfg0.N) (h1 : 1 ≤ t.val % 4) (h2 : ¬t.val % 4 = 3) (i j : Fin 1024) (p : S2048x2048.Idx) (e0 : (p 0).val = t.val / 8 * 1024 + i.val)
    (e1 : (p 1).val = t.val / 4 % 2 * 1024 + j.val) (s r : Fin 8) (hs : s.val = 2 * (t.val % 4)) (hr : r.val = 2 * (t.val % 4) + 1)
    (a : FVec Ideal S2048x8192 .bf16) (w : FVec Ideal S8x2048x1024 .bf16)
    (ha : a = m ((c.tc : Thread nD τ).loc main_arg0)) (hw : w = m ((c.tc : Thread nD τ).loc main_arg1)) (q : EReal)
    (hq : (outsAt0 m c (t.val - 1) (Nat.lt_of_le_of_lt (Nat.sub_le _ _) t.isLt)).2 (ix2 i j) = q) :
    (outsAt0 m c t.val t.isLt).2 (ix2 i j) = q + (piece a w p s + piece a w p r) := by
  rw [outsAt0_B m c t (by omega) h1 h2]
  dsimp only
  rw [mid]
  exact (pay3_at _ _ _ _ i j).trans (congrArg₂ (fun p q : EReal => p + q) hq (part m c t i j p e0 e1 s r hs hr _ _ _ rfl rfl rfl a w ha hw))

theorem final (c : Dev nD) : (dats m 0 c).arrAt 3 cfg0.N = result (m ((c.tc : Thread nD τ).loc main_arg0)) (m ((c.tc : Thread nD τ).loc main_arg1)) := by
  refine (dats m 0 c).arrAt_eq_of_covers 3 _ (by decide +kernel) fun t hf y => ?_
  have e0 : (((win0_3.blk t).view.emb y 0 : Fin _) : ℕ) = t.val / 8 * 1024 + (y 0).val := by blk_simp [idx t]
  have e1 : (((win0_3.blk t).view.emb y 1 : Fin _) : ℕ) = t.val / 4 % 2 * 1024 + (y 1).val := by blk_simp [idx t]
  have ht : t.val % 4 = 3 := (flush0_3 t).mp hf
  have l1 : t.val - 1 < cfg0.N := Nat.lt_of_le_of_lt (Nat.sub_le _ _) t.isLt
  have l2 : t.val - 1 - 1 < cfg0.N := Nat.lt_of_le_of_lt (Nat.sub_le _ _) l1
  have l3 : t.val - 1 - 1 - 1 < cfg0.N := Nat.lt_of_le_of_lt (Nat.sub_le _ _) l2
  have s0 := sum0 m c ⟨t.val - 1 - 1 - 1, l3⟩ (by show (t.val - 1 - 1 - 1) % 4 = 0; omega) (y 0) (y 1) ((win0_3.blk t).view.emb y)
    (by rw [e0]; show _ = (t.val - 1 - 1 - 1) / 8 * 1024 + _; omega) (by rw [e1]; show _ = (t.val - 1 - 1 - 1) / 4 % 2 * 1024 + _; omega) _ _ rfl rfl
  have s1 := sumS m c ⟨t.val - 1 - 1, l2⟩ (by show 1 ≤ (t.val - 1 - 1) % 4; omega) (by show ¬(t.val - 1 - 1) % 4 = 3; omega) (y 0) (y 1) ((win0_3.blk t).view.emb y)
    (by rw [e0]; show _ = (t.val - 1 - 1) / 8 * 1024 + _; omega) (by rw [e1]; show _ = (t.val - 1 - 1) / 4 % 2 * 1024 + _; omega) 2 3
    (by show 2 = 2 * ((t.val - 1 - 1) % 4); omega) (by show 3 = 2 * ((t.val - 1 - 1) % 4) + 1; omega) _ _ rfl rfl _ s0
  have s2 := sumS m c ⟨t.val - 1, l1⟩ (by show 1 ≤ (t.val - 1) % 4; omega) (by show ¬(t.val - 1) % 4 = 3; omega) (y 0) (y 1) ((win0_3.blk t).view.emb y)
    (by rw [e0]; show _ = (t.val - 1) / 8 * 1024 + _; omega) (by rw [e1]; show _ = (t.val - 1) / 4 % 2 * 1024 + _; omega) 4 5
    (by show 4 = 2 * ((t.val - 1) % 4); omega) (by show 5 = 2 * ((t.val - 1) % 4) + 1; omega) _ _ rfl rfl _ s1
  blk_simp
  rw [after0_3, outsAt0_C m c t (by omega) (by omega) ht]
  dsimp only
  rw [last]
  refine Eq.trans (congrArg _ (eta2 y)) ((pay4_at _ _ _ _ (y 0) (y 1)).trans ?_)
  refine (congrArg₂ (fun p q : EReal => p + q) s2 (part m c t (y 0) (y 1) ((win0_3.blk t).view.emb y) e0 e1 6 7 (by rw [ht]; rfl) (by rw [ht]; rfl) _ _ _ rfl rfl rfl _ _ rfl rfl)).trans ?_
  exact result_pieces _ _ _

end Cert.DH2Ideal.Hand

namespace Cert.Hand.DH2

open Idealize.ShloMosaic Idealize.ShloMosaic.TcCoe Idealize.SL.Sem
open Cert.DH2Ideal Cert.DH2Ideal.Hand Cert.DH2RefIdeal.Read

theorem ref_eq (a : FVec Ideal S2048x8192 .bf16) (w : FVec Ideal S8x2048x1024 .bf16) : val_main_v7 (F := Ideal) a w = result a w := by
  funext y
  simp only [val_main_v7_apply, val_main_v6_apply, val_main_v5_apply, val_main_v3_apply, val_main_v1_apply, val_main_v0_apply]
  refine Finset.sum_congr rfl fun k _ => congrArg₂ (fun p q : EReal => p * q) (congrArg a (ext2 rfl rfl)) (congrArg w (ext3 ?_ ?_ ?_))
  · show ((y 1).val * 8192 + k.val) / 1024 % 8 = k.val / 1024; omega
  · show ((y 1).val * 8192 + k.val) / 8192 = (y 1).val; omega
  · show ((y 1).val * 8192 + k.val) % 1024 = k.val % 1024; omega

theorem frame_k : Cert.quiescent_DH2 (hDH2 := Cert.DH2.Gen.facts) := fun m ρ _ => Cert.DH2.Gen.frame m ρ

theorem frame_i : Cert.quiescent_DH2Ideal (hDH2Ideal := Cert.DH2Ideal.Gen.facts) := fun m ρ _ => Cert.DH2Ideal.Gen.frame m ρ

theorem frame_r : Cert.quiescent_DH2RefIdeal (hDH2RefIdeal := Cert.DH2RefIdeal.Gen.facts) := fun m ρ _ =>
  (θ_run Cert.DH2RefIdeal.defs _ _).mono (fun r h => ⟨fun c => (h c).2, sem_eq_zero_of_no_sems (by decide) r.2⟩) (Cert.DH2RefIdeal.Value.run (F := Ideal) m ρ)

theorem values : Cert.algebraic_DH2Ideal_DH2RefIdeal (hDH2Ideal := Cert.DH2Ideal.Gen.facts) (hDH2RefIdeal := Cert.DH2RefIdeal.Gen.facts) := by
  intro m g m' g' _ hagree
  refine ⟨fun c => result (m ((c.tc : Thread nD τ).loc main_arg0)) (m ((c.tc : Thread nD τ).loc main_arg1)),
    (θ_run Cert.DH2Ideal.defs _ _).mono (fun _ h c => ⟨(h c).1.trans (final m c), (h c).2⟩) (Cert.DH2Ideal.Value.run_blocks m g),
    (θ_run Cert.DH2RefIdeal.defs _ _).mono (fun r h c => ⟨(h c).1.trans ?_, (h c).2⟩) (Cert.DH2RefIdeal.Value.run (F := Ideal) m' g')⟩
  obtain ⟨a0, a1⟩ := hagree c
  rw [val_main_v7_eq, a0, a1]
  exact ref_eq _ _

end Cert.Hand.DH2

end
-- ==== Proof.MlpDownValue.lean ====
/- The down product, summed in two halves. -/
module

public import proofs.«01_k».proof.Proof.Whole
public import proofs.«01_k».proof.Proof.Gen.MlpDownIdeal.Value
public import proofs.«01_k».proof.Proof.Gen.MlpDownIdeal.Frame
public import proofs.«01_k».proof.Proof.Gen.MlpDown.Frame
public import proofs.«01_k».proof.Proof.Gen.MlpDownRefIdeal.Read
public import proofs.«01_k».proof.Proof.Gen.MlpDownRefIdeal
public import proofs.«01_k».proof.Defs

@[expose] public section

set_option maxRecDepth 16384

noncomputable section

namespace Cert.MlpDownIdeal.Hand

open Idealize.ShloMosaic Idealize.ShloMosaic.TcCoe Idealize.ShloMosaic.Tactic Idealize.SL.Sem
open Cert.MlpDownIdeal Cert.MlpDownIdeal.Gen Cert.Hand

theorem first {F : FTy → Type} [FloatOps F] (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i) (hc2 : ¬cond0_2 i)
    (x0 : Vec F S1024x4096 .bf16) (x1 : Vec F S4096x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero start2]
  simp only [View.readAt_eq_ld, h3.read_unread, h4.read_unread, View.ld_unit_zero (S := S1024x4096) start2, View.ld_unit_zero (S := S4096x1024) start2]

theorem last {F : FTy → Type} [FloatOps F] (c : Dev nD) (i : grid0.Coords) (a3 : Memref sig .tc .vmem S1024x4096 .bf16) (h3 : a3.IsWhole)
    (a4 : Memref sig .tc .vmem S4096x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i) (hc2 : cond0_2 i)
    (x0 : Vec F S1024x4096 .bf16) (x1 : Vec F S4096x1024 .bf16) (xs : Vec F S1024x1024 .f32) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero start2, View.readCov_unit_zero _ start2]
  simp only [View.readAt_eq_ld, h3.read_unread, h4.read_unread, h6.read_unread, View.ld_unit_zero (S := S1024x4096) start2, View.ld_unit_zero (S := S4096x1024) start2,
    View.ld_unit_zero (S := S1024x1024) start2]

theorem pay2_at (x0 : Vec Ideal S1024x4096 .bf16) (x1 : Vec Ideal S4096x1024 .bf16) (i j : Fin 1024) :
    k0_pay2 x0 x1 (ix2 i j) = (∑ k : Fin 4096, x0 (ix2 i k) * x1 (ix2 k j) : EReal) := by
  pointwise [k0_pay2, k0_pay1]

theorem pay3_at (x0 : Vec Ideal S1024x4096 .bf16) (x1 : Vec Ideal S4096x1024 .bf16) (s : Vec Ideal S1024x1024 .f32) (i j : Fin 1024) :
    k0_pay3 x0 x1 s (ix2 i j) = (s (ix2 i j) + ∑ k : Fin 4096, x0 (ix2 i k) * x1 (ix2 k j) : EReal) := by
  pointwise [k0_pay3, k0_pay1]

/-- The product, from the two arguments. -/
def result (a : FVec Ideal S2048x8192 .bf16) (w : FVec Ideal S8192x2048 .bf16) : FVec Ideal S2048x2048 .f32 := fun y =>
  (∑ k : Fin 8192, a (ix2 (y 0) k) * w (ix2 k (y 1)) : EReal)

theorem result_halves (a : FVec Ideal S2048x8192 .bf16) (w : FVec Ideal S8192x2048 .bf16) (p : S2048x2048.Idx) :
    ((∑ k : Fin 4096, a (ix2 (p 0) ⟨0 + k.val, by omega⟩) * w (ix2 ⟨0 + k.val, by omega⟩ (p 1)))
      + ∑ k : Fin 4096, a (ix2 (p 0) ⟨4096 + k.val, by omega⟩) * w (ix2 ⟨4096 + k.val, by omega⟩ (p 1)) : EReal) = result a w p :=
  (halves 4096 rfl (fun k : Fin 8192 => (a (ix2 (p 0) k) * w (ix2 k (p 1)) : EReal))).symm

variable (m : (ℓ : Loc nD τ sig) → Buf (Elt Ideal) ℓ)

theorem idx (t : Fin cfg0.N) : win0_0.index t = ![t.val / 4, t.val % 2] ∧ win0_1.index t = ![t.val % 2, t.val / 2 % 2] ∧ win0_2.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2]) t

/-- What a point adds to a place of its block: its half of the sum. -/
theorem part (c : Dev nD) (t : Fin cfg0.N) (i j : Fin 1024) (p : S2048x2048.Idx) (e0 : (p 0).val = t.val / 4 * 1024 + i.val) (e1 : (p 1).val = t.val / 2 % 2 * 1024 + j.val)
    (o : ℕ) (ho : o = t.val % 2 * 4096) (x0 : Vec Ideal S1024x4096 .bf16) (x1 : Vec Ideal S4096x1024 .bf16) (h0 : x0 = iblk m c 0 t) (h1 : x1 = iblk m c 1 t)
    (a : FVec Ideal S2048x8192 .bf16) (w : FVec Ideal S8192x2048 .bf16) (ha : a = m ((c.tc : Thread nD τ).loc main_arg0)) (hw : w = m ((c.tc : Thread nD τ).loc main_arg1)) :
    (∑ k : Fin 4096, x0 (ix2 i k) * x1 (ix2 k j) : EReal)
      = ∑ k : Fin 4096, a (ix2 (p 0) ⟨o + k.val, by omega⟩) * w (ix2 ⟨o + k.val, by omega⟩ (p 1)) := by
  subst h0 h1 ho ha hw
  refine Finset.sum_congr rfl fun k _ => congrArg₂ (fun p q : EReal => p * q) ?_ ?_
  · unfold iblk
    rw [show V m c (Pipeline.arrRef spec0 0) = m ((c.tc : Thread nD τ).loc main_arg0) from V_main_arg0 m c]
    blk_ext [idx t, e0]
  · unfold iblk
    rw [show V m c (Pipeline.arrRef spec0 1) = m ((c.tc : Thread nD τ).loc main_arg1) from V_main_arg1 m c]
    blk_ext [idx t, e1]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 4 * 1024 + (y 0).val := by blk_simp [idx t]
  have e1 : (((win0_2.blk t).view.emb y 1 : Fin _) : ℕ) = t.val / 2 % 2 * 1024 + (y 1).val := by blk_simp [idx t]
  have ht : t.val % 2 = 1 := (flush0_2 t).mp hf
  have hq : t.val - 1 < cfg0.N := Nat.lt_of_le_of_lt (Nat.sub_le _ _) t.isLt
  blk_simp
  rw [after0_2, outsAt0_B m c t (by omega) ht ht]
  dsimp only
  rw [last, show outsAt0 m c (t.val - 1) _ = _ from outsAt0_A m c ⟨t.val - 1, hq⟩ (by show (t.val - 1) % 2 = 0; omega) (by show ¬(t.val - 1) % 2 = 1; omega) (by show ¬(t.val - 1) % 2 = 1; omega)]
  dsimp only
  rw [first]
  refine Eq.trans (congrArg _ (eta2 y)) ((pay3_at _ _ _ (y 0) (y 1)).trans ?_)
  refine (congrArg₂ (fun p q : EReal => p + q)
    ((pay2_at _ _ (y 0) (y 1)).trans (part m c ⟨t.val - 1, hq⟩ (y 0) (y 1) ((win0_2.blk t).view.emb y) (by rw [e0]; show _ = (t.val - 1) / 4 * 1024 + _; omega)
      (by rw [e1]; show _ = (t.val - 1) / 2 % 2 * 1024 + _; omega) 0 (by show 0 = (t.val - 1) % 2 * 4096; omega) _ _ rfl rfl _ _ rfl rfl))
    (part m c t (y 0) (y 1) ((win0_2.blk t).view.emb y) e0 e1 4096 (by omega) _ _ rfl rfl _ _ rfl rfl)).trans ?_
  exact result_halves _ _ _

end Cert.MlpDownIdeal.Hand

namespace Cert.Hand.MlpDown

open Idealize.ShloMosaic Idealize.ShloMosaic.TcCoe Idealize.SL.Sem
open Cert.MlpDownIdeal Cert.MlpDownIdeal.Hand Cert.MlpDownRefIdeal.Read

theorem ref_eq (a : FVec Ideal S2048x8192 .bf16) (w : FVec Ideal S8192x2048 .bf16) : val_main_v2 (F := Ideal) a w = result a w := by
  funext y
  simp only [val_main_v2_apply, val_main_v1_apply, val_main_v0_apply]
  exact Finset.sum_congr rfl fun k _ => congrArg₂ (fun p q : EReal => p * q) (congrArg a (ext2 rfl rfl)) (congrArg w (ext2 rfl rfl))

theorem frame_k : Cert.quiescent_MlpDown (hMlpDown := Cert.MlpDown.Gen.facts) := fun m ρ _ => Cert.MlpDown.Gen.frame m ρ

theorem frame_i : Cert.quiescent_MlpDownIdeal (hMlpDownIdeal := Cert.MlpDownIdeal.Gen.facts) := fun m ρ _ => Cert.MlpDownIdeal.Gen.frame m ρ

theorem frame_r : Cert.quiescent_MlpDownRefIdeal (hMlpDownRefIdeal := Cert.MlpDownRefIdeal.Gen.facts) := fun m ρ _ =>
  (θ_run Cert.MlpDownRefIdeal.defs _ _).mono (fun r h => ⟨fun c => (h c).2, sem_eq_zero_of_no_sems (by decide) r.2⟩) (Cert.MlpDownRefIdeal.Value.run (F := Ideal) m ρ)

theorem values : Cert.algebraic_MlpDownIdeal_MlpDownRefIdeal (hMlpDownIdeal := Cert.MlpDownIdeal.Gen.facts) (hMlpDownRefIdeal := Cert.MlpDownRefIdeal.Gen.facts) := by
  intro m g m' g' _ hagree
  refine ⟨fun c => result (m ((c.tc : Thread nD τ).loc main_arg0)) (m ((c.tc : Thread nD τ).loc main_arg1)),
    (θ_run Cert.MlpDownIdeal.defs _ _).mono (fun _ h c => ⟨(h c).1.trans (final m c), (h c).2⟩) (Cert.MlpDownIdeal.Value.run_blocks m g),
    (θ_run Cert.MlpDownRefIdeal.defs _ _).mono (fun r h c => ⟨(h c).1.trans ?_, (h c).2⟩) (Cert.MlpDownRefIdeal.Value.run (F := Ideal) m' g')⟩
  obtain ⟨a0, a1⟩ := hagree c
  rw [val_main_v2_eq, a0, a1]
  exact ref_eq _ _

end Cert.Hand.MlpDown

end
-- ==== Proof.DH1Value.lean ====
/- The gradient of the layer's input: the projections' gradient times the turned weight, summed in two halves. -/
module

public import proofs.«01_k».proof.Proof.Whole
public import proofs.«01_k».proof.Proof.Gen.DH1Ideal.Value
public import proofs.«01_k».proof.Proof.Gen.DH1Ideal.Frame
public import proofs.«01_k».proof.Proof.Gen.DH1.Frame
public import proofs.«01_k».proof.Proof.Gen.DH1RefIdeal.Read
public import proofs.«01_k».proof.Proof.Gen.DH1RefIdeal
public import proofs.«01_k».proof.Defs

@[expose] public section

set_option maxRecDepth 16384

noncomputable section

namespace Cert.DH1Ideal.Hand

open Idealize.ShloMosaic Idealize.ShloMosaic.TcCoe Idealize.ShloMosaic.Tactic Idealize.SL.Sem
open Cert.DH1Ideal Cert.DH1Ideal.Gen Cert.Hand

theorem first {F : FTy → Type} [FloatOps F] (c : Dev nD) (i : grid0.Coords) (a3 : Memref sig .tc .vmem S1024x2560 .bf16) (h3 : a3.IsWhole)
    (a4 : Memref sig .tc .vmem S1024x2560 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x0 : Vec F S1024x2560 .bf16) (x1 : Vec F S1024x2560 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero start2]
  simp only [View.readAt_eq_ld, h3.read_unread, h4.read_unread, View.ld_unit_zero (S := S1024x2560) start2]

theorem last {F : FTy → Type} [FloatOps F] (c : Dev nD) (i : grid0.Coords) (a3 : Memref sig .tc .vmem S1024x2560 .bf16) (h3 : a3.IsWhole)
    (a4 : Memref sig .tc .vmem S1024x2560 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : cond0_2 i)
    (x0 : Vec F S1024x2560 .bf16) (x1 : Vec F S1024x2560 .bf16) (xs : Vec F S1024x1024 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero start2, View.readCov_unit_zero _ start2]
  simp only [View.readAt_eq_ld, h3.read_unread, h4.read_unread, h6.read_unread, View.ld_unit_zero (S := S1024x2560) start2,
    View.ld_unit_zero (S := S1024x1024) start2]

theorem pay2_at (x0 : Vec Ideal S1024x2560 .bf16) (x1 : Vec Ideal S1024x2560 .bf16) (i j : Fin 1024) :
    k0_pay2 x0 x1 (ix2 i j) = (∑ k : Fin 2560, x0 (ix2 i k) * x1 (ix2 j k) : EReal) := by
  pointwise [k0_pay2, k0_pay1]

theorem pay3_at (x0 : Vec Ideal S1024x2560 .bf16) (x1 : Vec Ideal S1024x2560 .bf16) (s : Vec Ideal S1024x1024 .f32) (i j : Fin 1024) :
    k0_pay3 x0 x1 s (ix2 i j) = (s (ix2 i j) + ∑ k : Fin 2560, x0 (ix2 i k) * x1 (ix2 j k) : EReal) := by
  pointwise [k0_pay3, k0_pay1]

theorem pay4_at (x0 : Vec Ideal S1024x2560 .bf16) (x1 : Vec Ideal S1024x2560 .bf16) (s : Vec Ideal S1024x1024 .f32) (i j : Fin 1024) :
    k0_pay4 (k0_pay3 x0 x1 s) (ix2 i j) = (s (ix2 i j) + ∑ k : Fin 2560, x0 (ix2 i k) * x1 (ix2 j k) : EReal) := pay3_at x0 x1 s i j

/-- The product, from the two arguments. -/
def result (a : FVec Ideal S2048x5120 .bf16) (w : FVec Ideal S2048x5120 .bf16) : FVec Ideal S2048x2048 .bf16 := fun y =>
  (∑ k : Fin 5120, a (ix2 (y 0) k) * w (ix2 (y 1) k) : EReal)

theorem result_halves (a : FVec Ideal S2048x5120 .bf16) (w : FVec Ideal S2048x5120 .bf16) (p : S2048x2048.Idx) :
    ((∑ k : Fin 2560, a (ix2 (p 0) ⟨0 + k.val, by omega⟩) * w (ix2 (p 1) ⟨0 + k.val, by omega⟩))
      + ∑ k : Fin 2560, a (ix2 (p 0) ⟨2560 + k.val, by omega⟩) * w (ix2 (p 1) ⟨2560 + k.val, by omega⟩) : EReal) = result a w p :=
  (halves 2560 rfl (fun k : Fin 5120 => (a (ix2 (p 0) k) * w (ix2 (p 1) k) : EReal))).symm

variable (m : (ℓ : Loc nD τ sig) → Buf (Elt Ideal) ℓ)

theorem idx (t : Fin cfg0.N) : win0_0.index t = ![t.val / 4, t.val % 2] ∧ win0_1.index t = ![t.val / 2 % 2, t.val % 2] ∧ win0_2.index t = ![t.val / 4, t.val / 2 % 2] :=
  (by decide +kernel : ∀ t : Fin grid0.N, win0_0.index t = ![t.val / 4, t.val % 2] ∧ win0_1.index t = ![t.val / 2 % 2, t.val % 2] ∧ win0_2.index t = ![t.val / 4, t.val / 2 % 2]) t

/-- What a point adds to a place of its block: its half of the sum. -/
theorem part (c : Dev nD) (t : Fin cfg0.N) (i j : Fin 1024) (p : S2048x2048.Idx) (e0 : (p 0).val = t.val / 4 * 1024 + i.val) (e1 : (p 1).val = t.val / 2 % 2 * 1024 + j.val)
    (o : ℕ) (ho : o = t.val % 2 * 2560) (x0 : Vec Ideal S1024x2560 .bf16) (x1 : Vec Ideal S1024x2560 .bf16) (h0 : x0 = iblk m c 0 t) (h1 : x1 = iblk m c 1 t)
    (a : FVec Ideal S2048x5120 .bf16) (w : FVec Ideal S2048x5120 .bf16) (ha : a = m ((c.tc : Thread nD τ).loc main_arg0)) (hw : w = m ((c.tc : Thread nD τ).loc main_arg1)) :
    (∑ k : Fin 2560, x0 (ix2 i k) * x1 (ix2 j k) : EReal)
      = ∑ k : Fin 2560, a (ix2 (p 0) ⟨o + k.val, by omega⟩) * w (ix2 (p 1) ⟨o + k.val, by omega⟩) := by
  subst h0 h1 ho ha hw
  refine Finset.sum_congr rfl fun k _ => congrArg₂ (fun p q : EReal => p * q) ?_ ?_
  · unfold iblk
    rw [show V m c (Pipeline.arrRef spec0 0) = m ((c.tc : Thread nD τ).loc main_arg0) from V_main_arg0 m c]
    blk_ext [idx t, e0]
  · unfold iblk
    rw [show V m c (Pipeline.arrRef spec0 1) = m ((c.tc : Thread nD τ).loc main_arg1) from V_main_arg1 m c]
    blk_ext [idx t, e1]

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 4 * 1024 + (y 0).val := by blk_simp [idx t]
  have e1 : (((win0_2.blk t).view.emb y 1 : Fin _) : ℕ) = t.val / 2 % 2 * 1024 + (y 1).val := by blk_simp [idx t]
  have ht : t.val % 2 = 1 := (flush0_2 t).mp hf
  have hq : t.val - 1 < cfg0.N := Nat.lt_of_le_of_lt (Nat.sub_le _ _) t.isLt
  blk_simp
  rw [after0_2, outsAt0_B m c t (by omega) ht ht]
  dsimp only
  rw [last, show outsAt0 m c (t.val - 1) _ = _ from outsAt0_A m c ⟨t.val - 1, hq⟩ (by show (t.val - 1) % 2 = 0; omega) (by show ¬(t.val - 1) % 2 = 1; omega) (by show ¬(t.val - 1) % 2 = 1; omega)]
  dsimp only
  rw [first]
  refine Eq.trans (congrArg _ (eta2 y)) ((pay4_at _ _ _ (y 0) (y 1)).trans ?_)
  refine (congrArg₂ (fun p q : EReal => p + q)
    ((pay2_at _ _ (y 0) (y 1)).trans (part m c ⟨t.val - 1, hq⟩ (y 0) (y 1) ((win0_2.blk t).view.emb y) (by rw [e0]; show _ = (t.val - 1) / 4 * 1024 + _; omega)
      (by rw [e1]; show _ = (t.val - 1) / 2 % 2 * 1024 + _; omega) 0 (by show 0 = (t.val - 1) % 2 * 2560; omega) _ _ rfl rfl _ _ rfl rfl))
    (part m c t (y 0) (y 1) ((win0_2.blk t).view.emb y) e0 e1 2560 (by omega) _ _ rfl rfl _ _ rfl rfl)).trans ?_
  exact result_halves _ _ _

end Cert.DH1Ideal.Hand

namespace Cert.Hand.DH1

open Idealize.ShloMosaic Idealize.ShloMosaic.TcCoe Idealize.SL.Sem
open Cert.DH1Ideal Cert.DH1Ideal.Hand Cert.DH1RefIdeal.Read

theorem ref_eq (a : FVec Ideal S2048x5120 .bf16) (w : FVec Ideal S2048x5120 .bf16) : val_main_v5 (F := Ideal) a w = result a w := by
  funext y
  simp only [val_main_v5_apply, val_main_v4_apply, val_main_v3_apply, val_main_v1_apply]
  exact Finset.sum_congr rfl fun k _ => congrArg₂ (fun p q : EReal => p * q) (congrArg a (ext2 rfl rfl)) (congrArg w (ext2 rfl rfl))

theorem frame_k : Cert.quiescent_DH1 (hDH1 := Cert.DH1.Gen.facts) := fun m ρ _ => Cert.DH1.Gen.frame m ρ

theorem frame_i : Cert.quiescent_DH1Ideal (hDH1Ideal := Cert.DH1Ideal.Gen.facts) := fun m ρ _ => Cert.DH1Ideal.Gen.frame m ρ

theorem frame_r : Cert.quiescent_DH1RefIdeal (hDH1RefIdeal := Cert.DH1RefIdeal.Gen.facts) := fun m ρ _ =>
  (θ_run Cert.DH1RefIdeal.defs _ _).mono (fun r h => ⟨fun c => (h c).2, sem_eq_zero_of_no_sems (by decide) r.2⟩) (Cert.DH1RefIdeal.Value.run (F := Ideal) m ρ)

theorem values : Cert.algebraic_DH1Ideal_DH1RefIdeal (hDH1Ideal := Cert.DH1Ideal.Gen.facts) (hDH1RefIdeal := Cert.DH1RefIdeal.Gen.facts) := by
  intro m g m' g' _ hagree
  refine ⟨fun c => result (m ((c.tc : Thread nD τ).loc main_arg0)) (m ((c.tc : Thread nD τ).loc main_arg1)),
    (θ_run Cert.DH1Ideal.defs _ _).mono (fun _ h c => ⟨(h c).1.trans (final m c), (h c).2⟩) (Cert.DH1Ideal.Value.run_blocks m g),
    (θ_run Cert.DH1RefIdeal.defs _ _).mono (fun r h c => ⟨(h c).1.trans ?_, (h c).2⟩) (Cert.DH1RefIdeal.Value.run (F := Ideal) m' g')⟩
  obtain ⟨a0, a1⟩ := hagree c
  rw [val_main_v5_eq, a0, a1]
  exact ref_eq _ _

end Cert.Hand.DH1

end
-- ==== Proof.DAttnValue.lean ====
/- The gradient of the attention's output: the gradient that reaches the output product, times the turned weight. -/
module

public import proofs.«01_k».proof.Proof.Whole
public import proofs.«01_k».proof.Proof.Gen.DAttnIdeal.Value
public import proofs.«01_k».proof.Proof.Gen.DAttnIdeal.Frame
public import proofs.«01_k».proof.Proof.Gen.DAttn.Frame
public import proofs.«01_k».proof.Proof.Gen.DAttnRefIdeal.Read
public import proofs.«01_k».proof.Proof.Gen.DAttnRefIdeal
public import proofs.«01_k».proof.Defs

@[expose] public section

set_option maxRecDepth 16384

noncomputable section

namespace Cert.DAttnIdeal.Hand

open Idealize.ShloMosaic Idealize.ShloMosaic.TcCoe Idealize.ShloMosaic.Tactic Idealize.SL.Sem
open Cert.DAttnIdeal Cert.DAttnIdeal.Gen Cert.Hand

theorem out_eq {F : FTy → Type} [FloatOps F] (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .bf16) (h5 : a5.IsWhole)
    (a6 : Memref sig .tc .vmem S8x128 .f32) (h6 : a6.IsWhole) (x0 : Vec F S1024x2048 .bf16) (x1 : Vec F S1024x2048 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S1024x2048) start2]

theorem pay_at (x0 : Vec Ideal S1024x2048 .bf16) (x1 : Vec Ideal S1024x2048 .bf16) (i j : Fin 1024) :
    k0_pay1 x0 x1 (ix2 i j) = (∑ k : Fin 2048, x0 (ix2 i k) * x1 (ix2 j k) : EReal) := by
  pointwise [k0_pay1]

/-- The gradient, from the two arguments. -/
def result (a : FVec Ideal S2048x2048 .bf16) (d : FVec Ideal S2048x2048 .bf16) : FVec Ideal S2048x2048 .bf16 := fun y =>
  (∑ k : Fin 2048, a (ix2 (y 0) k) * d (ix2 (y 1) k) : EReal)

variable (m : (ℓ : Loc nD τ sig) → Buf (Elt Ideal) ℓ)

theorem idx (t : Fin cfg0.N) : win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 2 * 1024 + (y 0).val := by blk_simp [idx t]
  have e1 : (((win0_2.blk t).view.emb y 1 : Fin _) : ℕ) = t.val % 2 * 1024 + (y 1).val := by blk_simp [idx t]
  blk_simp
  rw [after0_2, outsAt0, out_eq]
  have p0 : ∀ k : Fin 2048, iblk m c 0 t (ix2 (y 0) k) = m ((c.tc : Thread nD τ).loc main_arg0) (ix2 ((win0_2.blk t).view.emb y 0) k) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 (y 1) k) = m ((c.tc : Thread nD τ).loc main_arg1) (ix2 ((win0_2.blk t).view.emb y 1) k) := fun k => by
    unfold iblk
    rw [show V m c (Pipeline.arrRef spec0 1) = m ((c.tc : Thread nD τ).loc main_arg1) from V_main_arg1 m c]
    blk_ext [idx t, e1]
  refine Eq.trans (congrArg _ (eta2 y)) ((pay_at _ _ (y 0) (y 1)).trans ?_)
  simp only [p0, p1]
  rfl

end Cert.DAttnIdeal.Hand

namespace Cert.Hand.DAttn

open Idealize.ShloMosaic Idealize.ShloMosaic.TcCoe Idealize.SL.Sem
open Cert.DAttnIdeal Cert.DAttnIdeal.Hand Cert.DAttnRefIdeal.Read

theorem ref_eq (a : FVec Ideal S2048x2048 .bf16) (d : FVec Ideal S2048x2048 .bf16) : val_main_v5 (F := Ideal) a d = result a d := by
  funext y
  simp only [val_main_v5_apply, val_main_v4_apply, val_main_v3_apply, val_main_v1_apply]
  exact Finset.sum_congr rfl fun k _ => congrArg₂ (fun p q : EReal => p * q) (congrArg a (ext2 rfl rfl)) (congrArg d (ext2 rfl rfl))

theorem frame_k : Cert.quiescent_DAttn (hDAttn := Cert.DAttn.Gen.facts) := fun m ρ _ => Cert.DAttn.Gen.frame m ρ

theorem frame_i : Cert.quiescent_DAttnIdeal (hDAttnIdeal := Cert.DAttnIdeal.Gen.facts) := fun m ρ _ => Cert.DAttnIdeal.Gen.frame m ρ

theorem frame_r : Cert.quiescent_DAttnRefIdeal (hDAttnRefIdeal := Cert.DAttnRefIdeal.Gen.facts) := fun m ρ _ =>
  (θ_run Cert.DAttnRefIdeal.defs _ _).mono (fun r h => ⟨fun c => (h c).2, sem_eq_zero_of_no_sems (by decide) r.2⟩) (Cert.DAttnRefIdeal.Value.run (F := Ideal) m ρ)

theorem values : Cert.algebraic_DAttnIdeal_DAttnRefIdeal (hDAttnIdeal := Cert.DAttnIdeal.Gen.facts) (hDAttnRefIdeal := Cert.DAttnRefIdeal.Gen.facts) := by
  intro m g m' g' _ hagree
  refine ⟨fun c => result (m ((c.tc : Thread nD τ).loc main_arg0)) (m ((c.tc : Thread nD τ).loc main_arg1)),
    (θ_run Cert.DAttnIdeal.defs _ _).mono (fun _ h c => ⟨(h c).1.trans (final m c), (h c).2⟩) (Cert.DAttnIdeal.Value.run_blocks m g),
    (θ_run Cert.DAttnRefIdeal.defs _ _).mono (fun r h c => ⟨(h c).1.trans ?_, (h c).2⟩) (Cert.DAttnRefIdeal.Value.run (F := Ideal) m' g')⟩
  obtain ⟨a0, a1⟩ := hagree c
  rw [val_main_v5_eq, a0, a1]
  exact ref_eq _ _

end Cert.Hand.DAttn

end
-- ==== Proof.DwOutValue.lean ====
/- The gradient of the output weight: the attention's output, turned, times the gradient that reaches it. -/
module

public import proofs.«01_k».proof.Proof.Whole
public import proofs.«01_k».proof.Proof.Gen.DwOutIdeal.Value
public import proofs.«01_k».proof.Proof.Gen.DwOutIdeal.Frame
public import proofs.«01_k».proof.Proof.Gen.DwOut.Frame
public import proofs.«01_k».proof.Proof.Gen.DwOutRefIdeal.Read
public import proofs.«01_k».proof.Proof.Gen.DwOutRefIdeal
public import proofs.«01_k».proof.Defs

@[expose] public section

set_option maxRecDepth 16384

noncomputable section

namespace Cert.DwOutIdeal.Hand

open Idealize.ShloMosaic Idealize.ShloMosaic.TcCoe Idealize.ShloMosaic.Tactic Idealize.SL.Sem
open Cert.DwOutIdeal Cert.DwOutIdeal.Gen Cert.Hand

theorem out_eq {F : FTy → Type} [FloatOps F] (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S8x128 .f32) (h6 : a6.IsWhole) (x0 : Vec F S2048x1024 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S2048x1024) start2]

theorem pay_at (x0 : Vec Ideal S2048x1024 .bf16) (x1 : Vec Ideal S2048x1024 .bf16) (i j : Fin 1024) :
    k0_pay1 x0 x1 (ix2 i j) = (∑ k : Fin 2048, x0 (ix2 k i) * x1 (ix2 k j) : EReal) := by
  pointwise [k0_pay1]

/-- The gradient, from the two arguments. -/
def result (a : FVec Ideal S2048x2048 .bf16) (d : FVec Ideal S2048x2048 .bf16) : FVec Ideal S2048x2048 .bf16 := fun y =>
  (∑ k : Fin 2048, a (ix2 k (y 0)) * d (ix2 k (y 1)) : EReal)

variable (m : (ℓ : Loc nD τ sig) → Buf (Elt Ideal) ℓ)

theorem idx (t : Fin cfg0.N) : win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 2 * 1024 + (y 0).val := by blk_simp [idx t]
  have e1 : (((win0_2.blk t).view.emb y 1 : Fin _) : ℕ) = t.val % 2 * 1024 + (y 1).val := by blk_simp [idx t]
  blk_simp
  rw [after0_2, outsAt0, out_eq]
  have p0 : ∀ k : Fin 2048, iblk m c 0 t (ix2 k (y 0)) = m ((c.tc : Thread nD τ).loc main_arg0) (ix2 k ((win0_2.blk t).view.emb y 0)) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 k (y 1)) = m ((c.tc : Thread nD τ).loc main_arg1) (ix2 k ((win0_2.blk t).view.emb y 1)) := fun k => by
    unfold iblk
    rw [show V m c (Pipeline.arrRef spec0 1) = m ((c.tc : Thread nD τ).loc main_arg1) from V_main_arg1 m c]
    blk_ext [idx t, e1]
  refine Eq.trans (congrArg _ (eta2 y)) ((pay_at _ _ (y 0) (y 1)).trans ?_)
  simp only [p0, p1]
  rfl

end Cert.DwOutIdeal.Hand

namespace Cert.Hand.DwOut

open Idealize.ShloMosaic Idealize.ShloMosaic.TcCoe Idealize.SL.Sem
open Cert.DwOutIdeal Cert.DwOutIdeal.Hand Cert.DwOutRefIdeal.Read

theorem ref_eq (a : FVec Ideal S2048x2048 .bf16) (d : FVec Ideal S2048x2048 .bf16) : val_main_v6 (F := Ideal) a d = result a d := by
  funext y
  simp only [val_main_v6_apply, val_main_v5_apply, val_main_v4_apply, val_main_v3_apply, val_main_v1_apply]
  exact Finset.sum_congr rfl fun k _ => (mul_comm (G := EReal) _ _).trans (congrArg₂ (fun p q : EReal => p * q) (congrArg a (ext2 rfl rfl)) (congrArg d (ext2 rfl rfl)))

theorem frame_k : Cert.quiescent_DwOut (hDwOut := Cert.DwOut.Gen.facts) := fun m ρ _ => Cert.DwOut.Gen.frame m ρ

theorem frame_i : Cert.quiescent_DwOutIdeal (hDwOutIdeal := Cert.DwOutIdeal.Gen.facts) := fun m ρ _ => Cert.DwOutIdeal.Gen.frame m ρ

theorem frame_r : Cert.quiescent_DwOutRefIdeal (hDwOutRefIdeal := Cert.DwOutRefIdeal.Gen.facts) := fun m ρ _ =>
  (θ_run Cert.DwOutRefIdeal.defs _ _).mono (fun r h => ⟨fun c => (h c).2, sem_eq_zero_of_no_sems (by decide) r.2⟩) (Cert.DwOutRefIdeal.Value.run (F := Ideal) m ρ)

theorem values : Cert.algebraic_DwOutIdeal_DwOutRefIdeal (hDwOutIdeal := Cert.DwOutIdeal.Gen.facts) (hDwOutRefIdeal := Cert.DwOutRefIdeal.Gen.facts) := by
  intro m g m' g' _ hagree
  refine ⟨fun c => result (m ((c.tc : Thread nD τ).loc main_arg0)) (m ((c.tc : Thread nD τ).loc main_arg1)),
    (θ_run Cert.DwOutIdeal.defs _ _).mono (fun _ h c => ⟨(h c).1.trans (final m c), (h c).2⟩) (Cert.DwOutIdeal.Value.run_blocks m g),
    (θ_run Cert.DwOutRefIdeal.defs _ _).mono (fun r h c => ⟨(h c).1.trans ?_, (h c).2⟩) (Cert.DwOutRefIdeal.Value.run (F := Ideal) m' g')⟩
  obtain ⟨a0, a1⟩ := hagree c
  rw [val_main_v6_eq, a0, a1]
  exact ref_eq _ _

end Cert.Hand.DwOut

end
-- ==== Proof.OutProjValue.lean ====
/- The product with the output weight. -/
module

public import proofs.«01_k».proof.Proof.Whole
public import proofs.«01_k».proof.Proof.Gen.OutProjIdeal.Value
public import proofs.«01_k».proof.Proof.Gen.OutProjIdeal.Frame
public import proofs.«01_k».proof.Proof.Gen.OutProj.Frame
public import proofs.«01_k».proof.Proof.Gen.OutProjRefIdeal.Read
public import proofs.«01_k».proof.Proof.Gen.OutProjRefIdeal
public import proofs.«01_k».proof.Defs

@[expose] public section

set_option maxRecDepth 16384

noncomputable section

namespace Cert.OutProjIdeal.Hand

open Idealize.ShloMosaic Idealize.ShloMosaic.TcCoe Idealize.ShloMosaic.Tactic Idealize.SL.Sem
open Cert.OutProjIdeal Cert.OutProjIdeal.Gen Cert.Hand

theorem out_eq {F : FTy → Type} [FloatOps F] (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S8x128 .f32) (h6 : a6.IsWhole) (x0 : Vec F S1024x2048 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S2048x1024) start2, View.ld_unit_zero (S := S1024x2048) start2]

theorem pay_at (x0 : Vec Ideal S1024x2048 .bf16) (x1 : Vec Ideal S2048x1024 .bf16) (i j : Fin 1024) :
    k0_pay1 x0 x1 (ix2 i j) = (∑ k : Fin 2048, x0 (ix2 i k) * x1 (ix2 k j) : EReal) := by
  pointwise [k0_pay1]

/-- The product, from the two arguments. -/
def result (a : FVec Ideal S2048x2048 .bf16) (d : FVec Ideal S2048x2048 .bf16) : FVec Ideal S2048x2048 .f32 := fun y =>
  (∑ k : Fin 2048, a (ix2 (y 0) k) * d (ix2 k (y 1)) : EReal)

variable (m : (ℓ : Loc nD τ sig) → Buf (Elt Ideal) ℓ)

theorem idx (t : Fin cfg0.N) : win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 2 * 1024 + (y 0).val := by blk_simp [idx t]
  have e1 : (((win0_2.blk t).view.emb y 1 : Fin _) : ℕ) = t.val % 2 * 1024 + (y 1).val := by blk_simp [idx t]
  blk_simp
  rw [after0_2, outsAt0, out_eq]
  have p0 : ∀ k : Fin 2048, iblk m c 0 t (ix2 (y 0) k) = m ((c.tc : Thread nD τ).loc main_arg0) (ix2 ((win0_2.blk t).view.emb y 0) k) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 k (y 1)) = m ((c.tc : Thread nD τ).loc main_arg1) (ix2 k ((win0_2.blk t).view.emb y 1)) := fun k => by
    unfold iblk
    rw [show V m c (Pipeline.arrRef spec0 1) = m ((c.tc : Thread nD τ).loc main_arg1) from V_main_arg1 m c]
    blk_ext [idx t, e1]
  refine Eq.trans (congrArg _ (eta2 y)) ((pay_at _ _ (y 0) (y 1)).trans ?_)
  simp only [p0, p1]
  rfl

end Cert.OutProjIdeal.Hand

namespace Cert.Hand.OutProj

open Idealize.ShloMosaic Idealize.ShloMosaic.TcCoe Idealize.SL.Sem
open Cert.OutProjIdeal Cert.OutProjIdeal.Hand Cert.OutProjRefIdeal.Read

theorem ref_eq (a : FVec Ideal S2048x2048 .bf16) (d : FVec Ideal S2048x2048 .bf16) : val_main_v2 (F := Ideal) a d = result a d := by
  funext y
  simp only [val_main_v2_apply, val_main_v1_apply, val_main_v0_apply]
  exact Finset.sum_congr rfl fun k _ => congrArg₂ (fun p q : EReal => p * q) (congrArg a (ext2 rfl rfl)) (congrArg d (ext2 rfl rfl))

theorem frame_k : Cert.quiescent_OutProj (hOutProj := Cert.OutProj.Gen.facts) := fun m ρ _ => Cert.OutProj.Gen.frame m ρ

theorem frame_i : Cert.quiescent_OutProjIdeal (hOutProjIdeal := Cert.OutProjIdeal.Gen.facts) := fun m ρ _ => Cert.OutProjIdeal.Gen.frame m ρ

theorem frame_r : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩) (Cert.OutProjRefIdeal.Value.run (F := Ideal) m ρ)

theorem values : Cert.algebraic_OutProjIdeal_OutProjRefIdeal (hOutProjIdeal := Cert.OutProjIdeal.Gen.facts) (hOutProjRefIdeal := Cert.OutProjRefIdeal.Gen.facts) := by
  intro m g m' g' _ hagree
  refine ⟨fun c => result (m ((c.tc : Thread nD τ).loc main_arg0)) (m ((c.tc : Thread nD τ).loc main_arg1)),
    (θ_run Cert.OutProjIdeal.defs _ _).mono (fun _ h c => ⟨(h c).1.trans (final m c), (h c).2⟩) (Cert.OutProjIdeal.Value.run_blocks m g),
    (θ_run Cert.OutProjRefIdeal.defs _ _).mono (fun r h c => ⟨(h c).1.trans ?_, (h c).2⟩) (Cert.OutProjRefIdeal.Value.run (F := Ideal) m' g')⟩
  obtain ⟨a0, a1⟩ := hagree c
  rw [val_main_v2_eq, a0, a1]
  exact ref_eq _ _

end Cert.Hand.OutProj

end
-- ==== Proof.ProjAValue.lean ====
/- The product with the first columns of the projections' weight. -/
module

public import proofs.«01_k».proof.Proof.Whole
public import proofs.«01_k».proof.Proof.Gen.ProjAIdeal.Value
public import proofs.«01_k».proof.Proof.Gen.ProjAIdeal.Frame
public import proofs.«01_k».proof.Proof.Gen.ProjA.Frame
public import proofs.«01_k».proof.Proof.Gen.ProjARefIdeal.Read
public import proofs.«01_k».proof.Proof.Gen.ProjARefIdeal
public import proofs.«01_k».proof.Defs

@[expose] public section

set_option maxRecDepth 16384

noncomputable section

namespace Cert.ProjAIdeal.Hand

open Idealize.ShloMosaic Idealize.ShloMosaic.TcCoe Idealize.ShloMosaic.Tactic Idealize.SL.Sem
open Cert.ProjAIdeal Cert.ProjAIdeal.Gen Cert.Hand

theorem out_eq {F : FTy → Type} [FloatOps F] (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S8x128 .f32) (h6 : a6.IsWhole) (x0 : Vec F S1024x2048 .bf16) (x1 : Vec F S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero start2]
  simp only [View.readAt_eq_ld, h3.read_unread, h4.read_unread, View.ld_unit_zero (S := S2048x1024) start2, View.ld_unit_zero (S := S1024x2048) start2]

theorem pay_at (x0 : Vec Ideal S1024x2048 .bf16) (x1 : Vec Ideal S2048x1024 .bf16) (i j : Fin 1024) :
    k0_pay1 x0 x1 (ix2 i j) = (∑ k : Fin 2048, x0 (ix2 i k) * x1 (ix2 k j) : EReal) := by
  pointwise [k0_pay1]

/-- A result's column among the weight's. -/
def col (j : Fin 3072) : Fin 5120 := ⟨j.val, by omega⟩

/-- The product, from the two arguments. -/
def result (a : FVec Ideal S2048x2048 .bf16) (d : FVec Ideal S2048x5120 .bf16) : FVec Ideal S2048x3072 .bf16 := fun y =>
  (∑ k : Fin 2048, a (ix2 (y 0) k) * d (ix2 k (col (y 1))) : EReal)

variable (m : (ℓ : Loc nD τ sig) → Buf (Elt Ideal) ℓ)

theorem idx (t : Fin cfg0.N) : win0_0.index t = ![t.val / 3, 0] ∧ win0_1.index t = ![0, t.val % 3] ∧ win0_2.index t = ![t.val / 3, t.val % 3] :=
  (by decide +kernel : ∀ t : Fin grid0.N, win0_0.index t = ![t.val / 3, 0] ∧ win0_1.index t = ![0, t.val % 3] ∧ win0_2.index t = ![t.val / 3, t.val % 3]) t

theorem final (c : Dev nD) : (dats m 0 c).arrAt 2 cfg0.N = result (m ((c.tc : Thread nD τ).loc main_arg0)) (m ((c.tc : Thread nD τ).loc main_arg1)) := by
  refine (dats m 0 c).arrAt_eq_of_covers 2 _ (by decide +kernel) fun t hf y => ?_
  have e0 : (((win0_2.blk t).view.emb y 0 : Fin _) : ℕ) = t.val / 3 * 1024 + (y 0).val := by blk_simp [idx t]
  have e1 : (((win0_2.blk t).view.emb y 1 : Fin _) : ℕ) = t.val % 3 * 1024 + (y 1).val := by blk_simp [idx t]
  blk_simp
  rw [after0_2, outsAt0, out_eq]
  have p0 : ∀ k : Fin 2048, iblk m c 0 t (ix2 (y 0) k) = m ((c.tc : Thread nD τ).loc main_arg0) (ix2 ((win0_2.blk t).view.emb y 0) k) := fun k => by
    unfold iblk
    rw [show V m c (Pipeline.arrRef spec0 0) = m ((c.tc : Thread nD τ).loc main_arg0) from V_main_arg0 m c]
    blk_ext [idx t, e0]
  have p1 : ∀ k : Fin 2048, iblk m c 1 t (ix2 k (y 1)) = m ((c.tc : Thread nD τ).loc main_arg1) (ix2 k (col ((win0_2.blk t).view.emb y 1))) := fun k => by
    unfold iblk
    rw [show V m c (Pipeline.arrRef spec0 1) = m ((c.tc : Thread nD τ).loc main_arg1) from V_main_arg1 m c]
    have e2 : (col ((win0_2.blk t).view.emb y 1)).val = t.val % 3 * 1024 + (y 1).val := e1
    blk_ext [idx t, e2]
  refine Eq.trans (congrArg _ (eta2 y)) ((pay_at _ _ (y 0) (y 1)).trans ?_)
  simp only [p0, p1]
  rfl

end Cert.ProjAIdeal.Hand

namespace Cert.Hand.ProjA

open Idealize.ShloMosaic Idealize.ShloMosaic.TcCoe Idealize.SL.Sem
open Cert.ProjAIdeal Cert.ProjAIdeal.Hand Cert.ProjARefIdeal.Read

theorem ref_eq (a : FVec Ideal S2048x2048 .bf16) (d : FVec Ideal S2048x5120 .bf16) : val_main_v4 (F := Ideal) a d = result a d := by
  funext y
  simp only [val_main_v4_apply, val_main_v3_apply, val_main_v2_apply, val_main_v1_apply, val_main_v0_apply]
  exact Finset.sum_congr rfl fun k _ => congrArg₂ (fun p q : EReal => p * q) (congrArg a (ext2 rfl rfl)) (congrArg d (ext2 rfl rfl))

theorem frame_k : Cert.quiescent_ProjA (hProjA := Cert.ProjA.Gen.facts) := fun m ρ _ => Cert.ProjA.Gen.frame m ρ

theorem frame_i : Cert.quiescent_ProjAIdeal (hProjAIdeal := Cert.ProjAIdeal.Gen.facts) := fun m ρ _ => Cert.ProjAIdeal.Gen.frame m ρ

theorem frame_r : Cert.quiescent_ProjARefIdeal (hProjARefIdeal := Cert.ProjARefIdeal.Gen.facts) := fun m ρ _ =>
  (θ_run Cert.ProjARefIdeal.defs _ _).mono (fun r h => ⟨fun c => (h c).2, sem_eq_zero_of_no_sems (by decide) r.2⟩) (Cert.ProjARefIdeal.Value.run (F := Ideal) m ρ)

theorem values : Cert.algebraic_ProjAIdeal_ProjARefIdeal (hProjAIdeal := Cert.ProjAIdeal.Gen.facts) (hProjARefIdeal := Cert.ProjARefIdeal.Gen.facts) := by
  intro m g m' g' _ hagree
  refine ⟨fun c => result (m ((c.tc : Thread nD τ).loc main_arg0)) (m ((c.tc : Thread nD τ).loc main_arg1)),
    (θ_run Cert.ProjAIdeal.defs _ _).mono (fun _ h c => ⟨(h c).1.trans (final m c), (h c).2⟩) (Cert.ProjAIdeal.Value.run_blocks m g),
    (θ_run Cert.ProjARefIdeal.defs _ _).mono (fun r h c => ⟨(h c).1.trans ?_, (h c).2⟩) (Cert.ProjARefIdeal.Value.run (F := Ideal) m' g')⟩
  obtain ⟨a0, a1⟩ := hagree c
  rw [val_main_v4_eq, a0, a1]
  exact ref_eq _ _

end Cert.Hand.ProjA

end
-- ==== Proof.Update.lean ====
/- AdamW's step at one entry: what the update calls' proofs share. -/
module

public import Idealize.ShloMosaic.Lib.Pointwise
public import Idealize.ShloMosaic.Lib.Tactic

@[expose] public section

noncomputable section

namespace Cert.Hand.Update

open Idealize.ShloMosaic

/-- The literal of a word. -/
abbrev lit (b : BitVec 32) : Ideal .f32 := FloatOps.ofBits .f32 b

/-- The new first moment, from the gradient and the old one. -/
def first (g m : Ideal .f32) : Ideal .f32 :=
  FloatOps.addf (FloatOps.mulf (lit 0x3F666666#32) m) (FloatOps.mulf (lit 0x3DCCCCCD#32) g)

/-- The new second moment, from the gradient and the old one. -/
def second (g v : Ideal .f32) : Ideal .f32 :=
  FloatOps.addf (FloatOps.mulf (lit 0x3F7FBE77#32) v) (FloatOps.mulf (lit 0x3A83126F#32) (FloatOps.mulf g g))

/-- The weight's change. -/
def change (w g m v : Ideal .f32) : Ideal .f32 :=
  FloatOps.mulf (lit 0xBA83126F#32)
    (FloatOps.addf
      (FloatOps.divf (FloatOps.divf (first g m) (lit 0x3F26BD02#32))
        (FloatOps.addf (FloatOps.sqrt (FloatOps.divf (second g v) (lit 0x3C231ACC#32))) (lit 0x322BCC77#32)))
      (FloatOps.mulf (lit 0x3C23D70A#32) w))

end Cert.Hand.Update

end
-- ==== Proof.AdamSmallValue.lean ====
/- The update of the small weights: the sum of the eight devices' gradients, and AdamW's step. -/
module

public import proofs.«01_k».proof.Proof.Whole
public import proofs.«01_k».proof.Proof.Update
public import proofs.«01_k».proof.Proof.Gen.AdamSmallIdeal.Value
public import proofs.«01_k».proof.Proof.Gen.AdamSmallIdeal.Frame
public import proofs.«01_k».proof.Proof.Gen.AdamSmall.Frame
public import proofs.«01_k».proof.Proof.Gen.AdamSmallRefIdeal.Read
public import proofs.«01_k».proof.Proof.Gen.AdamSmallRefIdeal
public import proofs.«01_k».proof.Defs

@[expose] public section

set_option maxRecDepth 16384

noncomputable section

namespace Cert.Hand.AdamSmall

open Idealize.ShloMosaic Idealize.ShloMosaic.TcCoe Idealize.ShloMosaic.Tactic Idealize.SL.Sem
open Cert.AdamSmallIdeal Cert.AdamSmallIdeal.Gen Cert.AdamSmallRefIdeal.Read Cert.Hand

/-- The sum of the eight rows. -/
def total (x0 : FVec Ideal S8x20864 .f32) (y : S1x20864.Idx) : EReal := ∑ d : Fin 8, x0 (ix2 d (y 1))

theorem grad_at (x0 : FVec Ideal S8x20864 .f32) (y : S1x20864.Idx) :
    k0_pay2 (F := Ideal) (View.ld x0 r0_0) (View.ld x0 r0_1) (View.ld x0 r0_2) (View.ld x0 r0_3) (View.ld x0 r0_4) (View.ld x0 r0_5) (View.ld x0 r0_6) (View.ld x0 r0_7) y = total x0 y := by
  unfold total
  rw [Fin.sum_univ_eight]
  have h0 : (y 0).val = 0 := by have : (y 0).val < 1 := (y 0).isLt; omega
  have e : ∀ (n : Fin 8) (b), (Rect.unit (s := S8x20864) ![n.val, 0] S1x20864.size b).idx y = ix2 n (y 1) := fun n b =>
    ext2 (by show n.val + 1 * (y 0).val = n.val; omega) (by show 0 + 1 * (y 1).val = (y 1).val; omega)
  show (((((((x0 (r0_0.idx y) + x0 (r0_1.idx y)) + x0 (r0_2.idx y)) + x0 (r0_3.idx y)) + x0 (r0_4.idx y)) + x0 (r0_5.idx y)) + x0 (r0_6.idx y)) + x0 (r0_7.idx y) : EReal) = _
  rw [show r0_0.idx y = ix2 0 (y 1) from e 0 _, show r0_1.idx y = ix2 1 (y 1) from e 1 _, show r0_2.idx y = ix2 2 (y 1) from e 2 _, show r0_3.idx y = ix2 3 (y 1) from e 3 _,
    show r0_4.idx y = ix2 4 (y 1) from e 4 _, show r0_5.idx y = ix2 5 (y 1) from e 5 _, show r0_6.idx y = ix2 6 (y 1) from e 6 _, show r0_7.idx y = ix2 7 (y 1) from e 7 _]
  rfl

theorem ref_total (x0 : FVec Ideal S8x20864 .f32) (y : S1x20864.Idx) : val_main_v1 (F := Ideal) x0 y = total x0 y := by
  simp only [val_main_v1_apply, val_main_v0_apply, val_main_cst_apply]
  have z : FloatOps.ofBits (F := Ideal) .f32 0x00000000#32 = (0 : EReal) := zero_f32
  rw [z]
  refine (zero_add _).trans (Finset.sum_congr rfl fun k _ => congrArg x0 (ext2 rfl rfl))

theorem ref_first (x0 : FVec Ideal S8x20864 .f32) (x2 : FVec Ideal S1x20864 .f32) (y : S1x20864.Idx) :
    val_main_v6 (F := Ideal) x0 x2 y = Update.first (val_main_v1 (F := Ideal) x0 y) (x2 y) := by rfl

theorem ref_second (x0 : FVec Ideal S8x20864 .f32) (x2 : FVec Ideal S1x20864 .f32) (y : S1x20864.Idx) :
    val_main_v12 (F := Ideal) x0 x2 y = Update.second (val_main_v1 (F := Ideal) x0 y) (x2 y) := by rfl

theorem ref_change (x0 : FVec Ideal S8x20864 .f32) (x1 x2 x3 : FVec Ideal S1x20864 .f32) (y : S1x20864.Idx) :
    val_main_v25 (F := Ideal) x0 x1 x2 x3 y = Update.change (x1 y) (val_main_v1 (F := Ideal) x0 y) (x2 y) (x3 y) := by rfl

theorem grad_eq (x0 : FVec Ideal S8x20864 .f32) (x1 x2 x3 : FVec Ideal S1x20864 .f32) : Value.G4 x0 x1 x2 x3 = val_main_v1 (F := Ideal) x0 := by
  exact funext fun y => (grad_at x0 y).trans (ref_total x0 y).symm

theorem first_at (x0 : FVec Ideal S8x20864 .f32) (x1 x2 x3 : FVec Ideal S1x20864 .f32) (y : S1x20864.Idx) :
    k0_pay5 (F := Ideal) x0 x1 x2 x3 y = val_main_v6 (F := Ideal) x0 x2 y := by
  rw [ref_first, ref_total, ← grad_at]
  unfold k0_pay5
  rw [View.ld_unit_zero (S := S1x20864) start2]
  rfl

theorem second_at (x0 : FVec Ideal S8x20864 .f32) (x1 x2 x3 : FVec Ideal S1x20864 .f32) (y : S1x20864.Idx) :
    k0_pay6 (F := Ideal) x0 x1 x2 x3 y = val_main_v12 (F := Ideal) x0 x3 y := by
  rw [ref_second, ref_total, ← grad_at]
  unfold k0_pay6
  rw [View.ld_unit_zero (S := S1x20864) start2]
  rfl

theorem first_eq (x0 : FVec Ideal S8x20864 .f32) (x1 x2 x3 : FVec Ideal S1x20864 .f32) : Value.G6 x0 x1 x2 x3 = val_main_v6 (F := Ideal) x0 x2 := by
  exact funext fun y => first_at x0 x1 x2 x3 y

theorem second_eq (x0 : FVec Ideal S8x20864 .f32) (x1 x2 x3 : FVec Ideal S1x20864 .f32) : Value.G7 x0 x1 x2 x3 = val_main_v12 (F := Ideal) x0 x3 := by
  exact funext fun y => second_at x0 x1 x2 x3 y

theorem change_eq (x0 : FVec Ideal S8x20864 .f32) (x1 x2 x3 : FVec Ideal S1x20864 .f32) : Value.G5 x0 x1 x2 x3 = val_main_v25 (F := Ideal) x0 x1 x2 x3 := by
  unfold Value.G5
  rw [show k0_pay5 (F := Ideal) x0 x1 x2 x3 = val_main_v6 (F := Ideal) x0 x2 from funext (first_at x0 x1 x2 x3),
    show k0_pay6 (F := Ideal) x0 x1 x2 x3 = val_main_v12 (F := Ideal) x0 x3 from funext (second_at x0 x1 x2 x3)]
  rfl

theorem frame_k : Cert.quiescent_AdamSmall (hAdamSmall := Cert.AdamSmall.Gen.facts) := fun m ρ _ => Cert.AdamSmall.Gen.frame m ρ

theorem frame_i : Cert.quiescent_AdamSmallIdeal (hAdamSmallIdeal := Cert.AdamSmallIdeal.Gen.facts) := fun m ρ _ => Cert.AdamSmallIdeal.Gen.frame m ρ

theorem frame_r : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, sem_eq_zero_of_no_sems (by decide) r.2⟩) (Cert.AdamSmallRefIdeal.Value.run (F := Ideal) m ρ)

theorem values : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨fun c => val_main_v1 (F := Ideal) (m ((c.tc : Thread nD τ).loc main_arg0)),
    fun c => val_main_v25 (F := Ideal) (m ((c.tc : Thread nD τ).loc main_arg0)) (m ((c.tc : Thread nD τ).loc main_arg1)) (m ((c.tc : Thread nD τ).loc main_arg2)) (m ((c.tc : Thread nD τ).loc main_arg3)),
    fun c => val_main_v6 (F := Ideal) (m ((c.tc : Thread nD τ).loc main_arg0)) (m ((c.tc : Thread nD τ).loc main_arg2)),
    fun c => val_main_v12 (F := Ideal) (m ((c.tc : Thread nD τ).loc main_arg0)) (m ((c.tc : Thread nD τ).loc main_arg3)),
    (θ_run Cert.AdamSmallIdeal.defs _ _).mono (fun _ h c => ⟨(h c).1.trans (grad_eq _ _ _ _), (h c).2.1.trans (change_eq _ _ _ _), (h c).2.2.1.trans (first_eq _ _ _ _), (h c).2.2.2.1.trans (second_eq _ _ _ _), (h c).2.2.2.2⟩) (Cert.AdamSmallIdeal.Value.run m g),
    (θ_run Cert.AdamSmallRefIdeal.defs _ _).mono (fun r h c => ⟨(h c).1.trans ?_, (h c).2.1.trans ?_, (h c).2.2.1.trans ?_, (h c).2.2.2.1.trans ?_, (h c).2.2.2.2⟩) (Cert.AdamSmallRefIdeal.Value.run (F := Ideal) m' g')⟩
  all_goals obtain ⟨a0, a1, a2, a3⟩ := hagree c
  · rw [val_main_v1_eq, a0]
  · rw [val_main_v25_eq, a0, a1, a2, a3]
  · rw [val_main_v6_eq, a0, a2]
  · rw [val_main_v12_eq, a0, a3]

end Cert.Hand.AdamSmall
end
-- ==== Proof.AdamModValue.lean ====
/- The update of the modulation's weight: its gradient, a product over the eight sequences, and AdamW's step. -/
module

public import proofs.«01_k».proof.Proof.Whole
public import proofs.«01_k».proof.Proof.Update
public import proofs.«01_k».proof.Proof.Gen.AdamModIdeal.Value
public import proofs.«01_k».proof.Proof.Gen.AdamModIdeal.Frame
public import proofs.«01_k».proof.Proof.Gen.AdamMod.Frame
public import proofs.«01_k».proof.Proof.Gen.AdamModRefIdeal.Read
public import proofs.«01_k».proof.Proof.Gen.AdamModRefIdeal
public import proofs.«01_k».proof.Defs

@[expose] public section

set_option maxRecDepth 16384

noncomputable section

namespace Cert.AdamModIdeal.Hand

open Idealize.ShloMosaic Idealize.ShloMosaic.TcCoe Idealize.ShloMosaic.Tactic Idealize.SL.Sem
open Cert.AdamModIdeal Cert.AdamModIdeal.Gen Cert.Hand

/-- The condition's activation, as a quotient. -/
def silu (x : Ideal .f32) : Ideal .f32 :=
  FloatOps.divf x (FloatOps.addf (Update.lit 0x3F800000#32) (FloatOps.exp (FloatOps.subf (Update.lit 0x00000000#32) x)))

theorem zero_f32 : Update.lit 0x00000000#32 = (0 : EReal) := by
  show Ideal.ofBits .f32 0x00000000#32 = _
  simp [Ideal.ofBits, Ideal.ieee]

theorem one_f32 : Update.lit 0x3F800000#32 = (1 : EReal) := by
  show Ideal.ofBits .f32 0x3F800000#32 = _
  simp [Ideal.ofBits, Ideal.ieee]
  rw [← EReal.coe_mul]
  norm_num

theorem silu_val (x : Ideal .f32) : silu x = Ideal.div x (1 + Ideal.exp (0 - x)) := by
  unfold silu
  rw [zero_f32, one_f32]
  rfl

/-- The gradient, from the condition and the modulation's gradient. -/
def grad (a : FVec Ideal S8x2048 .f32) (d : FVec Ideal S8x1536 .f32) (y : S2048x1536.Idx) : EReal :=
  ∑ k : Fin 8, (silu (a (ix2 k (y 0))) : EReal) * d (ix2 k (y 1))

theorem pay2_at (x0 : Vec Ideal S8x256 .f32) (x1 : Vec Ideal S8x1536 .f32) (i : Fin 256) (j : Fin 1536) :
    k0_pay2 x0 x1 (ix2 i j) = (∑ k : Fin 8, (silu (x0 (ix2 k i)) : EReal) * x1 (ix2 k j) : EReal) := by
  pointwise [k0_pay2]
  simp only [silu_val]

theorem pay3_at (x0 : Vec Ideal S8x256 .f32) (x1 : Vec Ideal S8x1536 .f32) (x3 : Vec Ideal S256x1536 .f32) (y : S256x1536.Idx) :
    k0_pay3 x0 x1 x3 y = Update.first (k0_pay2 x0 x1 y) (x3 y) := rfl

theorem pay4_at (x0 : Vec Ideal S8x256 .f32) (x1 : Vec Ideal S8x1536 .f32) (x3 : Vec Ideal S256x1536 .f32) (y : S256x1536.Idx) :
    k0_pay4 x0 x1 x3 y = Update.second (k0_pay2 x0 x1 y) (x3 y) := rfl

theorem pay1_at (x0 : Vec Ideal S8x256 .f32) (x1 : Vec Ideal S8x1536 .f32) (x2 x3 x4 : Vec Ideal S256x1536 .f32) (y : S256x1536.Idx) :
    k0_pay1 x2 (k0_pay5 x0 x1 x3 x4) (k0_pay6 (F := Ideal)) y = Update.change (x2 y) (k0_pay2 x0 x1 y) (x3 y) (x4 y) := rfl

variable (m : (ℓ : Loc nD τ sig) → Buf (Elt Ideal) ℓ)

theorem idx (t : Fin cfg0.N) : win0_0.index t = ![0, t.val] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![0, t.val] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]) t

/-- A block's gradient is the whole gradient at the block's place. -/
theorem block (c : Dev nD) (t : Fin cfg0.N) (y : S256x1536.Idx) (p : S2048x1536.Idx) (e0 : (p 0).val = t.val * 256 + (y 0).val) (e1 : (p 1).val = (y 1).val)
    (x0 : Vec Ideal S8x256 .f32) (x1 : Vec Ideal S8x1536 .f32) (h0 : x0 = iblk m c 0 t) (h1 : x1 = iblk m c 1 t) :
    k0_pay2 x0 x1 y = grad (m ((c.tc : Thread nD τ).loc main_arg0)) (m ((c.tc : Thread nD τ).loc main_arg1)) p := by
  refine Eq.trans (congrArg _ (eta2 y)) ((pay2_at x0 x1 (y 0) (y 1)).trans ?_)
  subst h0 h1
  refine Finset.sum_congr rfl fun k _ => congrArg₂ (fun p q : EReal => p * q) (congrArg silu ?_) ?_
  · unfold iblk
    rw [show V m c (Pipeline.arrRef spec0 0) = m ((c.tc : Thread nD τ).loc main_arg0) from V_main_arg0 m c]
    blk_ext [idx t, e0]
  · unfold iblk
    rw [show V m c (Pipeline.arrRef spec0 1) = m ((c.tc : Thread nD τ).loc main_arg1) from V_main_arg1 m c]
    blk_ext [idx t, e1]

theorem tile2 (c : Dev nD) (t : Fin cfg0.N) (y : S256x1536.Idx) (p : S2048x1536.Idx) (e0 : (p 0).val = t.val * 256 + (y 0).val) (e1 : (p 1).val = (y 1).val)
    (x : Vec Ideal S256x1536 .f32) (h : x = iblk m c 2 t) : x y = m ((c.tc : Thread nD τ).loc main_arg2) p := by
  subst h
  unfold iblk
  rw [show V m c (Pipeline.arrRef spec0 2) = m ((c.tc : Thread nD τ).loc main_arg2) from V_main_arg2 m c]
  blk_ext [idx t, e0, e1]

theorem tile3 (c : Dev nD) (t : Fin cfg0.N) (y : S256x1536.Idx) (p : S2048x1536.Idx) (e0 : (p 0).val = t.val * 256 + (y 0).val) (e1 : (p 1).val = (y 1).val)
    (x : Vec Ideal S256x1536 .f32) (h : x = iblk m c 3 t) : x y = m ((c.tc : Thread nD τ).loc main_arg3) p := by
  subst h
  unfold iblk
  rw [show V m c (Pipeline.arrRef spec0 3) = m ((c.tc : Thread nD τ).loc main_arg3) from V_main_arg3 m c]
  blk_ext [idx t, e0, e1]

theorem tile4 (c : Dev nD) (t : Fin cfg0.N) (y : S256x1536.Idx) (p : S2048x1536.Idx) (e0 : (p 0).val = t.val * 256 + (y 0).val) (e1 : (p 1).val = (y 1).val)
    (x : Vec Ideal S256x1536 .f32) (h : x = iblk m c 4 t) : x y = m ((c.tc : Thread nD τ).loc main_arg4) p := by
  subst h
  unfold iblk
  rw [show V m c (Pipeline.arrRef spec0 4) = m ((c.tc : Thread nD τ).loc main_arg4) from V_main_arg4 m c]
  blk_ext [idx t, e0, e1]

/-- The whole arrays: gradient, change, moments. -/
def G (a : FVec Ideal S8x2048 .f32) (d : FVec Ideal S8x1536 .f32) : FVec Ideal S2048x1536 .f32 := fun y => grad a d y
def D (a : FVec Ideal S8x2048 .f32) (d : FVec Ideal S8x1536 .f32) (w u v : FVec Ideal S2048x1536 .f32) : FVec Ideal S2048x1536 .f32 :=
  fun y => Update.change (w y) (grad a d y) (u y) (v y)
def M (a : FVec Ideal S8x2048 .f32) (d : FVec Ideal S8x1536 .f32) (u : FVec Ideal S2048x1536 .f32) : FVec Ideal S2048x1536 .f32 := fun y => Update.first (grad a d y) (u y)
def W (a : FVec Ideal S8x2048 .f32) (d : FVec Ideal S8x1536 .f32) (v : FVec Ideal S2048x1536 .f32) : FVec Ideal S2048x1536 .f32 := fun y => Update.second (grad a d y) (v y)

theorem final5 (c : Dev nD) : (dats m 0 c).arrAt 5 cfg0.N = G (m ((c.tc : Thread nD τ).loc main_arg0)) (m ((c.tc : Thread nD τ).loc main_arg1)) := by
  refine (dats m 0 c).arrAt_eq_of_covers 5 _ (by decide +kernel) fun t hf y => ?_
  have e0 : (((win0_5.blk t).view.emb y 0 : Fin _) : ℕ) = t.val * 256 + (y 0).val := by blk_simp [idx t]
  have e1 : (((win0_5.blk t).view.emb y 1 : Fin _) : ℕ) = (y 1).val := by blk_simp [idx t]
  blk_simp
  rw [after0_5]
  unfold out0_5
  rw [View.canon_unit_zero start2, View.ld_unit_zero (S := S8x256) start2, View.ld_unit_zero (S := S8x1536) start2]
  exact block m c t y _ e0 e1 _ _ rfl rfl

theorem final6 (c : Dev nD) : (dats m 0 c).arrAt 6 cfg0.N = D (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  have e0 : (((win0_6.blk t).view.emb y 0 : Fin _) : ℕ) = t.val * 256 + (y 0).val := by blk_simp [idx t]
  have e1 : (((win0_6.blk t).view.emb y 1 : Fin _) : ℕ) = (y 1).val := by blk_simp [idx t]
  blk_simp
  rw [after0_6]
  unfold out0_6
  rw [View.canon_unit_zero start2, View.ld_unit_zero (S := S8x256) start2, View.ld_unit_zero (S := S8x1536) start2]
  simp only [View.ld_unit_zero (S := S256x1536) start2]
  refine (pay1_at _ _ _ _ _ _).trans ?_
  rw [block m c t y _ e0 e1 _ _ rfl rfl, tile2 m c t y _ e0 e1 _ rfl, tile3 m c t y _ e0 e1 _ rfl, tile4 m c t y _ e0 e1 _ rfl]
  rfl

theorem final7 (c : Dev nD) : (dats m 0 c).arrAt 7 cfg0.N = M (m ((c.tc : Thread nD τ).loc main_arg0)) (m ((c.tc : Thread nD τ).loc main_arg1))
    (m ((c.tc : Thread nD τ).loc main_arg3)) := by
  refine (dats m 0 c).arrAt_eq_of_covers 7 _ (by decide +kernel) fun t hf y => ?_
  have e0 : (((win0_7.blk t).view.emb y 0 : Fin _) : ℕ) = t.val * 256 + (y 0).val := by blk_simp [idx t]
  have e1 : (((win0_7.blk t).view.emb y 1 : Fin _) : ℕ) = (y 1).val := by blk_simp [idx t]
  blk_simp
  rw [after0_7]
  unfold out0_7
  rw [View.canon_unit_zero start2, View.ld_unit_zero (S := S8x256) start2, View.ld_unit_zero (S := S8x1536) start2]
  simp only [View.ld_unit_zero (S := S256x1536) start2]
  refine (pay3_at _ _ _ _).trans ?_
  rw [block m c t y _ e0 e1 _ _ rfl rfl, tile3 m c t y _ e0 e1 _ rfl]
  rfl

theorem final8 (c : Dev nD) : (dats m 0 c).arrAt 8 cfg0.N = W (m ((c.tc : Thread nD τ).loc main_arg0)) (m ((c.tc : Thread nD τ).loc main_arg1))
    (m ((c.tc : Thread nD τ).loc main_arg4)) := by
  refine (dats m 0 c).arrAt_eq_of_covers 8 _ (by decide +kernel) fun t hf y => ?_
  have e0 : (((win0_8.blk t).view.emb y 0 : Fin _) : ℕ) = t.val * 256 + (y 0).val := by blk_simp [idx t]
  have e1 : (((win0_8.blk t).view.emb y 1 : Fin _) : ℕ) = (y 1).val := by blk_simp [idx t]
  blk_simp
  rw [after0_8]
  unfold out0_8
  rw [View.canon_unit_zero start2, View.ld_unit_zero (S := S8x256) start2, View.ld_unit_zero (S := S8x1536) start2]
  simp only [View.ld_unit_zero (S := S256x1536) start2]
  refine (pay4_at _ _ _ _).trans ?_
  rw [block m c t y _ e0 e1 _ _ rfl rfl, tile4 m c t y _ e0 e1 _ rfl]
  rfl

end Cert.AdamModIdeal.Hand

namespace Cert.Hand.AdamMod

open Idealize.ShloMosaic Idealize.ShloMosaic.TcCoe Idealize.SL.Sem
open Cert.AdamModIdeal Cert.AdamModIdeal.Hand Cert.AdamModRefIdeal.Read

theorem denominator (x : EReal) : (1 + Ideal.exp x : EReal) ≠ 0 := by
  have h : (0 : EReal) ≤ Ideal.exp x := by
    induction x using EReal.rec with
    | bot => exact Ideal.exp_bot.ge
    | coe x => rw [Ideal.exp_coe]; exact EReal.coe_nonneg.mpr (Real.exp_pos x).le
    | top => exact Ideal.exp_top.symm ▸ le_top
  exact (lt_of_lt_of_le zero_lt_one (le_add_of_nonneg_right h)).ne'

/-- The activation as the reference has it: the argument times the logistic function. -/
theorem silu_eq (a : FVec Ideal S8x2048 .f32) (y : S8x2048.Idx) : val_main_v1 (F := Ideal) a y = silu (a y) := by
  simp only [val_main_v1_apply, val_main_call0_v5_apply, val_main_call0_v4_apply, val_main_call0_cst_0_apply, val_main_call0_v3_apply, val_main_call0_v2_apply,
    val_main_call0_cst_apply, val_main_call0_v1_apply, val_main_call0_v0_apply]
  rw [silu_val, show (FloatOps.ofBits .f32 1065353216#32 : Ideal .f32) = (1 : EReal) from one_f32]
  show (a y : EReal) * Ideal.div 1 (1 + Ideal.exp (-(a y : EReal))) = Ideal.div (a y) (1 + Ideal.exp (0 - (a y : EReal)))
  rw [zero_sub]
  unfold Ideal.div
  rw [if_neg (denominator _), if_neg (denominator _), one_mul]

theorem ref_grad (a : FVec Ideal S8x2048 .f32) (d : FVec Ideal S8x1536 .f32) (y : S2048x1536.Idx) : val_main_v4 (F := Ideal) a d y = grad a d y := by
  simp only [val_main_v4_apply, val_main_v3_apply, silu_eq]
  refine Finset.sum_congr rfl fun k _ => (mul_comm (_ : EReal) _).trans (congrArg₂ (fun p q : EReal => p * q) (congrArg silu (congrArg a (ext2 rfl rfl))) (congrArg d (ext2 rfl rfl)))

theorem grad_eq (a : FVec Ideal S8x2048 .f32) (d : FVec Ideal S8x1536 .f32) : val_main_v4 (F := Ideal) a d = G a d := funext (ref_grad a d)

theorem first_eq (a : FVec Ideal S8x2048 .f32) (d : FVec Ideal S8x1536 .f32) (u : FVec Ideal S2048x1536 .f32) : val_main_v9 (F := Ideal) a d u = AdamModIdeal.Hand.M a d u := by
  funext y
  unfold AdamModIdeal.Hand.M
  rw [← ref_grad]
  rfl

theorem second_eq (a : FVec Ideal S8x2048 .f32) (d : FVec Ideal S8x1536 .f32) (v : FVec Ideal S2048x1536 .f32) : val_main_v15 (F := Ideal) a d v = W a d v := by
  funext y
  unfold W
  rw [← ref_grad]
  rfl

theorem change_eq (a : FVec Ideal S8x2048 .f32) (d : FVec Ideal S8x1536 .f32) (w u v : FVec Ideal S2048x1536 .f32) : val_main_v28 (F := Ideal) a d w u v = D a d w u v := by
  funext y
  unfold D
  rw [← ref_grad]
  rfl

theorem frame_k : Cert.quiescent_AdamMod (hAdamMod := Cert.AdamMod.Gen.facts) := fun m ρ _ => Cert.AdamMod.Gen.frame m ρ

theorem frame_i : Cert.quiescent_AdamModIdeal (hAdamModIdeal := Cert.AdamModIdeal.Gen.facts) := fun m ρ _ => Cert.AdamModIdeal.Gen.frame m ρ

theorem frame_r : Cert.quiescent_AdamModRefIdeal (hAdamModRefIdeal := Cert.AdamModRefIdeal.Gen.facts) := fun m ρ _ =>
  (θ_run Cert.AdamModRefIdeal.defs _ _).mono (fun r h => ⟨fun c => (h c).2.2.2.2, sem_eq_zero_of_no_sems (by decide) r.2⟩) (Cert.AdamModRefIdeal.Value.run (F := Ideal) m ρ)

theorem values : Cert.algebraic_AdamModIdeal_AdamModRefIdeal (hAdamModIdeal := Cert.AdamModIdeal.Gen.facts) (hAdamModRefIdeal := Cert.AdamModRefIdeal.Gen.facts) := by
  intro m g m' g' _ hagree
  refine ⟨fun c => G (m ((c.tc : Thread nD τ).loc main_arg0)) (m ((c.tc : Thread nD τ).loc main_arg1)),
    fun c => D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => AdamModIdeal.Hand.M (m ((c.tc : Thread nD τ).loc main_arg0)) (m ((c.tc : Thread nD τ).loc main_arg1)) (m ((c.tc : Thread nD τ).loc main_arg3)),
    fun c => W (m ((c.tc : Thread nD τ).loc main_arg0)) (m ((c.tc : Thread nD τ).loc main_arg1)) (m ((c.tc : Thread nD τ).loc main_arg4)),
    (θ_run Cert.AdamModIdeal.defs _ _).mono (fun _ h c => ⟨(h c).1.trans (final5 m c), (h c).2.1.trans (final6 m c), (h c).2.2.1.trans (final7 m c), (h c).2.2.2.1.trans (final8 m c), (h c).2.2.2.2⟩) (Cert.AdamModIdeal.Value.run_blocks m g),
    (θ_run Cert.AdamModRefIdeal.defs _ _).mono (fun r h c => ⟨(h c).1.trans ?_, (h c).2.1.trans ?_, (h c).2.2.1.trans ?_, (h c).2.2.2.1.trans ?_, (h c).2.2.2.2⟩) (Cert.AdamModRefIdeal.Value.run (F := Ideal) m' g')⟩
  all_goals obtain ⟨a0, a1, a2, a3, a4⟩ := hagree c
  · rw [val_main_v4_eq, a0, a1]
    exact grad_eq _ _
  · rw [val_main_v28_eq, a0, a1, a2, a3, a4]
    exact change_eq _ _ _ _ _
  · rw [val_main_v9_eq, a0, a1, a3]
    exact first_eq _ _ _
  · rw [val_main_v15_eq, a0, a1, a4]
    exact second_eq _ _ _

end Cert.Hand.AdamMod

end
-- ==== Proof.AdamDownValue.lean ====
/- The update of one device's part of a weight, `AdamDown`: the sum of the four chips' gradients and AdamW's step. -/
module

public import proofs.«01_k».proof.Proof.Whole
public import proofs.«01_k».proof.Proof.Update
public import proofs.«01_k».proof.Proof.Gen.AdamDownIdeal.Frame
public import proofs.«01_k».proof.Proof.Gen.AdamDown.Frame
public import proofs.«01_k».proof.Proof.Gen.AdamDownRefIdeal.Read
public import proofs.«01_k».proof.Proof.Gen.AdamDownRefIdeal
public import proofs.«01_k».proof.Defs

@[expose] public section

set_option maxRecDepth 16384

noncomputable section

namespace Cert.AdamDown.Hand

open Idealize.ShloMosaic Idealize.ShloMosaic.TcCoe Idealize.ShloMosaic.Tactic Idealize.SL.Sem
open Cert.AdamDown Cert.AdamDown.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

end Cert.AdamDown.Hand

namespace Cert.AdamDownIdeal.Hand

open Idealize.ShloMosaic Idealize.ShloMosaic.TcCoe Idealize.ShloMosaic.Tactic Idealize.SL.Sem
open Cert.AdamDownIdeal Cert.AdamDownIdeal.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

theorem out7 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_7 c i a3 h3 a4 h4 a5 h5 a6 h6 a7 h7 a8 h8 a9 h9 a10 h10 a11 h11 a12 h12 a13 h13 x0 x1 x2 x3 x4 x5 x6 xt = k0_pay2 x0 x1 x2 x3 := by
  unfold out0_A_7
  rw [View.read_writes_eq_canon _ _ _ (cover0_A_7 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out8 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_8 c i a3 h3 a4 h4 a5 h5 a6 h6 a7 h7 a8 h8 a9 h9 a10 h10 a11 h11 a12 h12 a13 h13 x0 x1 x2 x3 x4 x5 x6 xt = k0_pay1 x4 (k0_pay4 x0 x1 x2 x3 x6) (k0_pay5 x0 x1 x2 x3 x5) := by
  unfold out0_A_8
  rw [View.read_writes_eq_canon _ _ _ (cover0_A_8 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out9 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_9 c i a3 h3 a4 h4 a5 h5 a6 h6 a7 h7 a8 h8 a9 h9 a10 h10 a11 h11 a12 h12 a13 h13 x0 x1 x2 x3 x4 x5 x6 xt = k0_pay3 x0 x1 x2 x3 x5 := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out10 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_10 c i a3 h3 a4 h4 a5 h5 a6 h6 a7 h7 a8 h8 a9 h9 a10 h10 a11 h11 a12 h12 a13 h13 x0 x1 x2 x3 x4 x5 x6 xt = k0_pay4 x0 x1 x2 x3 x6 := by
  unfold out0_A_10
  rw [View.read_writes_eq_canon _ _ _ (cover0_A_10 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem pay2_at (x0 x1 x2 x3 : Vec Ideal S1x256x2048 .bf16) (i : Fin 256) (j : Fin 2048) :
    k0_pay2 x0 x1 x2 x3 (ix2 i j) = (x0 (ix3 0 i j) + x1 (ix3 0 i j) + x2 (ix3 0 i j) + x3 (ix3 0 i j) : EReal) := by
  pointwise [k0_pay2]

theorem pay3_at (x0 x1 x2 x3 : Vec Ideal S1x256x2048 .bf16) (x5 : Vec Ideal S256x2048 .f32) (y : S256x2048.Idx) :
    k0_pay3 x0 x1 x2 x3 x5 y = Update.first (k0_pay2 x0 x1 x2 x3 y) (x5 y) := rfl

theorem pay4_at (x0 x1 x2 x3 : Vec Ideal S1x256x2048 .bf16) (x6 : Vec Ideal S256x2048 .f32) (y : S256x2048.Idx) :
    k0_pay4 x0 x1 x2 x3 x6 y = Update.second (k0_pay2 x0 x1 x2 x3 y) (x6 y) := rfl

theorem pay1_at (x0 x1 x2 x3 : Vec Ideal S1x256x2048 .bf16) (x4 x5 x6 : Vec Ideal S256x2048 .f32) (y : S256x2048.Idx) :
    k0_pay1 x4 (k0_pay4 x0 x1 x2 x3 x6) (k0_pay5 x0 x1 x2 x3 x5) y = Update.change (x4 y) (k0_pay2 x0 x1 x2 x3 y) (x5 y) (x6 y) := rfl

/-- The gradient: the chip's own piece and the three others. -/
def grad (a b : FVec Ideal S4x1024x2048 .bf16) (y : S1024x2048.Idx) : EReal :=
  a (ix3 0 (y 0) (y 1)) + b (ix3 2 (y 0) (y 1)) + b (ix3 1 (y 0) (y 1)) + b (ix3 3 (y 0) (y 1))

variable (m : (ℓ : Loc nD τ sig) → Buf (Elt Ideal) ℓ)

theorem idx0 (t : Fin (cfgM m (ok m)).N) : ((cfgM m (ok m)).win 0).index t = ![0, t.val, 0] := by
  show cc0_transform_0 inb_S4_S1_0 numel1_S1 (tbl m) (grid0.coords t) = _
  rw [ix_0]
  exact (by decide +kernel : ∀ t : Fin grid0.N, (![0, (BitVec.ofNat 32 (grid0.coords t 0).val).toNat, (BitVec.ofNat 32 (grid0.coords t 1).val).toNat] : Fin 3 → ℕ) = ![0, t.val, 0]) t

theorem idx1 (t : Fin (cfgM m (ok m)).N) : ((cfgM m (ok m)).win 1).index t = ![2, t.val, 0] := by
  show cc0_transform_1 inb_S4_S1_1 numel1_S1 (tbl m) (grid0.coords t) = _
  rw [ix_1]
  exact (by decide +kernel : ∀ t : Fin grid0.N, (![2, (BitVec.ofNat 32 (grid0.coords t 0).val).toNat, (BitVec.ofNat 32 (grid0.coords t 1).val).toNat] : Fin 3 → ℕ) = ![2, t.val, 0]) t

theorem idx2 (t : Fin (cfgM m (ok m)).N) : ((cfgM m (ok m)).win 2).index t = ![1, t.val, 0] := by
  show cc0_transform_2 inb_S4_S1_2 numel1_S1 (tbl m) (grid0.coords t) = _
  rw [ix_2]
  exact (by decide +kernel : ∀ t : Fin grid0.N, (![1, (BitVec.ofNat 32 (grid0.coords t 0).val).toNat, (BitVec.ofNat 32 (grid0.coords t 1).val).toNat] : Fin 3 → ℕ) = ![1, t.val, 0]) t

theorem idx3 (t : Fin (cfgM m (ok m)).N) : ((cfgM m (ok m)).win 3).index t = ![3, t.val, 0] := by
  show cc0_transform_3 inb_S4_S1_3 numel1_S1 (tbl m) (grid0.coords t) = _
  rw [ix_3]
  exact (by decide +kernel : ∀ t : Fin grid0.N, (![3, (BitVec.ofNat 32 (grid0.coords t 0).val).toNat, (BitVec.ofNat 32 (grid0.coords t 1).val).toNat] : Fin 3 → ℕ) = ![3, t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

theorem idx9 (t : Fin (cfgM m (ok m)).N) : ((cfgM m (ok m)).win 9).index t = ![t.val, 0] :=
  (by decide +kernel : ∀ t : Fin grid0.N, cc0_transform_9 (grid0.coords t) = ![t.val, 0]) t

theorem idx10 (t : Fin (cfgM m (ok m)).N) : ((cfgM m (ok m)).win 10).index t = ![t.val, 0] :=
  (by decide +kernel : ∀ t : Fin grid0.N, cc0_transform_10 (grid0.coords t) = ![t.val, 0]) t

theorem pos4_0 (t : Fin (cfgM m (ok m)).N) (y : S256x2048.Idx) : (((((cfgM m (ok m)).win 4).rect t).emb y (0 : Fin 2) : Fin 1024) : ℕ) = t.val * 256 + (y 0).val :=
  (Pipeline.Window.rect_emb_val ((cfgM m (ok m)).win 4) t y (0 : Fin 2) rfl).trans (congrArg (fun n : ℕ => n * 256 + (y 0).val) (congrFun (idx4 m t) (0 : Fin 2)))

theorem pos4_1 (t : Fin (cfgM m (ok m)).N) (y : S256x2048.Idx) : (((((cfgM m (ok m)).win 4).rect t).emb y (1 : Fin 2) : Fin 2048) : ℕ) = 0 * 2048 + (y 1).val :=
  (Pipeline.Window.rect_emb_val ((cfgM m (ok m)).win 4) t y (1 : Fin 2) rfl).trans (congrArg (fun n : ℕ => n * 2048 + (y 1).val) (congrFun (idx4 m t) (1 : Fin 2)))

theorem pos5_0 (t : Fin (cfgM m (ok m)).N) (y : S256x2048.Idx) : (((((cfgM m (ok m)).win 5).rect t).emb y (0 : Fin 2) : Fin 1024) : ℕ) = t.val * 256 + (y 0).val :=
  (Pipeline.Window.rect_emb_val ((cfgM m (ok m)).win 5) t y (0 : Fin 2) rfl).trans (congrArg (fun n : ℕ => n * 256 + (y 0).val) (congrFun (idx5 m t) (0 : Fin 2)))

theorem pos5_1 (t : Fin (cfgM m (ok m)).N) (y : S256x2048.Idx) : (((((cfgM m (ok m)).win 5).rect t).emb y (1 : Fin 2) : Fin 2048) : ℕ) = 0 * 2048 + (y 1).val :=
  (Pipeline.Window.rect_emb_val ((cfgM m (ok m)).win 5) t y (1 : Fin 2) rfl).trans (congrArg (fun n : ℕ => n * 2048 + (y 1).val) (congrFun (idx5 m t) (1 : Fin 2)))

theorem pos6_0 (t : Fin (cfgM m (ok m)).N) (y : S256x2048.Idx) : (((((cfgM m (ok m)).win 6).rect t).emb y (0 : Fin 2) : Fin 1024) : ℕ) = t.val * 256 + (y 0).val :=
  (Pipeline.Window.rect_emb_val ((cfgM m (ok m)).win 6) t y (0 : Fin 2) rfl).trans (congrArg (fun n : ℕ => n * 256 + (y 0).val) (congrFun (idx6 m t) (0 : Fin 2)))

theorem pos6_1 (t : Fin (cfgM m (ok m)).N) (y : S256x2048.Idx) : (((((cfgM m (ok m)).win 6).rect t).emb y (1 : Fin 2) : Fin 2048) : ℕ) = 0 * 2048 + (y 1).val :=
  (Pipeline.Window.rect_emb_val ((cfgM m (ok m)).win 6) t y (1 : Fin 2) rfl).trans (congrArg (fun n : ℕ => n * 2048 + (y 1).val) (congrFun (idx6 m t) (1 : Fin 2)))

theorem pos7_0 (t : Fin (cfgM m (ok m)).N) (y : S256x2048.Idx) : (((((cfgM m (ok m)).win 7).rect t).emb y (0 : Fin 2) : Fin 1024) : ℕ) = t.val * 256 + (y 0).val :=
  (Pipeline.Window.rect_emb_val ((cfgM m (ok m)).win 7) t y (0 : Fin 2) rfl).trans (congrArg (fun n : ℕ => n * 256 + (y 0).val) (congrFun (idx7 m t) (0 : Fin 2)))

theorem pos7_1 (t : Fin (cfgM m (ok m)).N) (y : S256x2048.Idx) : (((((cfgM m (ok m)).win 7).rect t).emb y (1 : Fin 2) : Fin 2048) : ℕ) = 0 * 2048 + (y 1).val :=
  (Pipeline.Window.rect_emb_val ((cfgM m (ok m)).win 7) t y (1 : Fin 2) rfl).trans (congrArg (fun n : ℕ => n * 2048 + (y 1).val) (congrFun (idx7 m t) (1 : Fin 2)))

theorem pos8_0 (t : Fin (cfgM m (ok m)).N) (y : S256x2048.Idx) : (((((cfgM m (ok m)).win 8).rect t).emb y (0 : Fin 2) : Fin 1024) : ℕ) = t.val * 256 + (y 0).val :=
  (Pipeline.Window.rect_emb_val ((cfgM m (ok m)).win 8) t y (0 : Fin 2) rfl).trans (congrArg (fun n : ℕ => n * 256 + (y 0).val) (congrFun (idx8 m t) (0 : Fin 2)))

theorem pos8_1 (t : Fin (cfgM m (ok m)).N) (y : S256x2048.Idx) : (((((cfgM m (ok m)).win 8).rect t).emb y (1 : Fin 2) : Fin 2048) : ℕ) = 0 * 2048 + (y 1).val :=
  (Pipeline.Window.rect_emb_val ((cfgM m (ok m)).win 8) t y (1 : Fin 2) rfl).trans (congrArg (fun n : ℕ => n * 2048 + (y 1).val) (congrFun (idx8 m t) (1 : Fin 2)))

theorem pos9_0 (t : Fin (cfgM m (ok m)).N) (y : S256x2048.Idx) : (((((cfgM m (ok m)).win 9).rect t).emb y (0 : Fin 2) : Fin 1024) : ℕ) = t.val * 256 + (y 0).val :=
  (Pipeline.Window.rect_emb_val ((cfgM m (ok m)).win 9) t y (0 : Fin 2) rfl).trans (congrArg (fun n : ℕ => n * 256 + (y 0).val) (congrFun (idx9 m t) (0 : Fin 2)))

theorem pos9_1 (t : Fin (cfgM m (ok m)).N) (y : S256x2048.Idx) : (((((cfgM m (ok m)).win 9).rect t).emb y (1 : Fin 2) : Fin 2048) : ℕ) = 0 * 2048 + (y 1).val :=
  (Pipeline.Window.rect_emb_val ((cfgM m (ok m)).win 9) t y (1 : Fin 2) rfl).trans (congrArg (fun n : ℕ => n * 2048 + (y 1).val) (congrFun (idx9 m t) (1 : Fin 2)))

theorem pos10_0 (t : Fin (cfgM m (ok m)).N) (y : S256x2048.Idx) : (((((cfgM m (ok m)).win 10).rect t).emb y (0 : Fin 2) : Fin 1024) : ℕ) = t.val * 256 + (y 0).val :=
  (Pipeline.Window.rect_emb_val ((cfgM m (ok m)).win 10) t y (0 : Fin 2) rfl).trans (congrArg (fun n : ℕ => n * 256 + (y 0).val) (congrFun (idx10 m t) (0 : Fin 2)))

theorem pos10_1 (t : Fin (cfgM m (ok m)).N) (y : S256x2048.Idx) : (((((cfgM m (ok m)).win 10).rect t).emb y (1 : Fin 2) : Fin 2048) : ℕ) = 0 * 2048 + (y 1).val :=
  (Pipeline.Window.rect_emb_val ((cfgM m (ok m)).win 10) t y (1 : Fin 2) rfl).trans (congrArg (fun n : ℕ => n * 2048 + (y 1).val) (congrFun (idx10 m t) (1 : Fin 2)))

theorem covers7 : ((cfgM m (ok m)).win 7).Covers := of_decide_eq_true (by sl_kernel_rfl)

theorem covers8 : ((cfgM m (ok m)).win 8).Covers := of_decide_eq_true (by sl_kernel_rfl)

theorem covers9 : ((cfgM m (ok m)).win 9).Covers := of_decide_eq_true (by sl_kernel_rfl)

theorem covers10 : ((cfgM m (ok m)).win 10).Covers := of_decide_eq_true (by sl_kernel_rfl)

theorem piece0 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S1x256x2048 .bf16) (h : x = iblk m (ok m) c 0 t) :
    x (ix3 0 (y 0) (y 1)) = m ((c.tc : Thread nD τ).loc main_arg0) (ix3 0 (p 0) (p 1)) := by
  subst h
  refine (congrFun (V_main_arg0 m c) (((cfgM m (ok m)).win 0).rect t |>.emb (ix3 0 (y 0) (y 1) : S1x256x2048.Idx))).trans (congrArg (m ((c.tc : Thread nD τ).loc main_arg0)) (ext3 ?_ ?_ ?_))
  · exact (Pipeline.Window.rect_emb_val ((cfgM m (ok m)).win 0) t (ix3 0 (y 0) (y 1) : S1x256x2048.Idx) (0 : Fin 3) rfl).trans (congrArg (fun n : ℕ => n * 1 + 0) (congrFun (idx0 m t) (0 : Fin 3)))
  · exact ((Pipeline.Window.rect_emb_val ((cfgM m (ok m)).win 0) t (ix3 0 (y 0) (y 1) : S1x256x2048.Idx) (1 : Fin 3) rfl).trans (congrArg (fun n : ℕ => n * 256 + (y 0).val) (congrFun (idx0 m t) (1 : Fin 3)))).trans e0.symm
  · exact ((Pipeline.Window.rect_emb_val ((cfgM m (ok m)).win 0) t (ix3 0 (y 0) (y 1) : S1x256x2048.Idx) (2 : Fin 3) rfl).trans (congrArg (fun n : ℕ => n * 2048 + (y 1).val) (congrFun (idx0 m t) (2 : Fin 3)))).trans e1.symm

theorem piece1 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S1x256x2048 .bf16) (h : x = iblk m (ok m) c 1 t) :
    x (ix3 0 (y 0) (y 1)) = m ((c.tc : Thread nD τ).loc main_arg1) (ix3 2 (p 0) (p 1)) := by
  subst h
  refine (congrFun (V_main_arg1 m c) (((cfgM m (ok m)).win 1).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 1) t (ix3 0 (y 0) (y 1) : S1x256x2048.Idx) (0 : Fin 3) rfl).trans (congrArg (fun n : ℕ => n * 1 + 0) (congrFun (idx1 m t) (0 : Fin 3)))
  · exact ((Pipeline.Window.rect_emb_val ((cfgM m (ok m)).win 1) t (ix3 0 (y 0) (y 1) : S1x256x2048.Idx) (1 : Fin 3) rfl).trans (congrArg (fun n : ℕ => n * 256 + (y 0).val) (congrFun (idx1 m t) (1 : Fin 3)))).trans e0.symm
  · exact ((Pipeline.Window.rect_emb_val ((cfgM m (ok m)).win 1) t (ix3 0 (y 0) (y 1) : S1x256x2048.Idx) (2 : Fin 3) rfl).trans (congrArg (fun n : ℕ => n * 2048 + (y 1).val) (congrFun (idx1 m t) (2 : Fin 3)))).trans e1.symm

theorem piece2 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S1x256x2048 .bf16) (h : x = iblk m (ok m) c 2 t) :
    x (ix3 0 (y 0) (y 1)) = m ((c.tc : Thread nD τ).loc main_arg1) (ix3 1 (p 0) (p 1)) := by
  subst h
  refine (congrFun (V_main_arg1 m c) (((cfgM m (ok m)).win 2).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 2) t (ix3 0 (y 0) (y 1) : S1x256x2048.Idx) (0 : Fin 3) rfl).trans (congrArg (fun n : ℕ => n * 1 + 0) (congrFun (idx2 m t) (0 : Fin 3)))
  · exact ((Pipeline.Window.rect_emb_val ((cfgM m (ok m)).win 2) t (ix3 0 (y 0) (y 1) : S1x256x2048.Idx) (1 : Fin 3) rfl).trans (congrArg (fun n : ℕ => n * 256 + (y 0).val) (congrFun (idx2 m t) (1 : Fin 3)))).trans e0.symm
  · exact ((Pipeline.Window.rect_emb_val ((cfgM m (ok m)).win 2) t (ix3 0 (y 0) (y 1) : S1x256x2048.Idx) (2 : Fin 3) rfl).trans (congrArg (fun n : ℕ => n * 2048 + (y 1).val) (congrFun (idx2 m t) (2 : Fin 3)))).trans e1.symm

theorem piece3 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S1x256x2048 .bf16) (h : x = iblk m (ok m) c 3 t) :
    x (ix3 0 (y 0) (y 1)) = m ((c.tc : Thread nD τ).loc main_arg1) (ix3 3 (p 0) (p 1)) := by
  subst h
  refine (congrFun (V_main_arg1 m c) (((cfgM m (ok m)).win 3).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 3) t (ix3 0 (y 0) (y 1) : S1x256x2048.Idx) (0 : Fin 3) rfl).trans (congrArg (fun n : ℕ => n * 1 + 0) (congrFun (idx3 m t) (0 : Fin 3)))
  · exact ((Pipeline.Window.rect_emb_val ((cfgM m (ok m)).win 3) t (ix3 0 (y 0) (y 1) : S1x256x2048.Idx) (1 : Fin 3) rfl).trans (congrArg (fun n : ℕ => n * 256 + (y 0).val) (congrFun (idx3 m t) (1 : Fin 3)))).trans e0.symm
  · exact ((Pipeline.Window.rect_emb_val ((cfgM m (ok m)).win 3) t (ix3 0 (y 0) (y 1) : S1x256x2048.Idx) (2 : Fin 3) rfl).trans (congrArg (fun n : ℕ => n * 2048 + (y 1).val) (congrFun (idx3 m t) (2 : Fin 3)))).trans e1.symm

theorem tile4 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S256x2048 .f32) (h : x = iblk m (ok m) c 4 t) : x y = m ((c.tc : Thread nD τ).loc main_arg2) p := by
  subst h
  refine (congrFun (V_main_arg2 m c) (((cfgM m (ok m)).win 4).rect t |>.emb y)).trans (congrArg (m ((c.tc : Thread nD τ).loc main_arg2)) (ext2 ?_ ?_))
  · exact (pos4_0 m t y).trans e0.symm
  · exact (pos4_1 m t y).trans e1.symm

theorem tile5 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S256x2048 .f32) (h : x = iblk m (ok m) c 5 t) : x y = m ((c.tc : Thread nD τ).loc main_arg3) p := by
  subst h
  refine (congrFun (V_main_arg3 m c) (((cfgM m (ok m)).win 5).rect t |>.emb y)).trans (congrArg (m ((c.tc : Thread nD τ).loc main_arg3)) (ext2 ?_ ?_))
  · exact (pos5_0 m t y).trans e0.symm
  · exact (pos5_1 m t y).trans e1.symm

theorem tile6 (c : Dev nD) (t : Fin (cfgM m (ok m)).N) (y : S256x2048.Idx) (p : S1024x2048.Idx) (e0 : (p 0).val = t.val * 256 + (y 0).val) (e1 : (p 1).val = 0 * 2048 + (y 1).val)
    (x : Vec Ideal S256x2048 .f32) (h : x = iblk m (ok m) c 6 t) : x y = m ((c.tc : Thread nD τ).loc main_arg4) p := by
  subst h
  refine (congrFun (V_main_arg4 m c) (((cfgM m (ok m)).win 6).rect t |>.emb y)).trans (congrArg (m ((c.tc : Thread nD τ).loc main_arg4)) (ext2 ?_ ?_))
  · exact (pos6_0 m t y).trans e0.symm
  · exact (pos6_1 m t y).trans e1.symm

/-- A block's gradient is the whole gradient at the block's place. -/
theorem block (c : Dev nD) (t : Fin (cfgM m (ok m)).N) (y : S256x2048.Idx) (p : S1024x2048.Idx) (e0 : (p 0).val = t.val * 256 + (y 0).val) (e1 : (p 1).val = 0 * 2048 + (y 1).val)
    (x0 x1 x2 x3 : Vec Ideal S1x256x2048 .bf16) (h0 : x0 = iblk m (ok m) c 0 t) (h1 : x1 = iblk m (ok m) c 1 t) (h2 : x2 = iblk m (ok m) c 2 t) (h3 : x3 = iblk m (ok m) c 3 t) :
    k0_pay2 x0 x1 x2 x3 y = grad (m ((c.tc : Thread nD τ).loc main_arg0)) (m ((c.tc : Thread nD τ).loc main_arg1)) p := by
  refine Eq.trans (congrArg _ (eta2 y)) ((pay2_at x0 x1 x2 x3 (y 0) (y 1)).trans ?_)
  rw [piece0 m c t y p e0 e1 x0 h0, piece1 m c t y p e0 e1 x1 h1, piece2 m c t y p e0 e1 x2 h2, piece3 m c t y p e0 e1 x3 h3]
  rfl

/-! The whole arrays: gradient, change, moments. -/

def G (a b : FVec Ideal S4x1024x2048 .bf16) : FVec Ideal S1024x2048 .f32 := fun y => grad a b y
def D (a b : FVec Ideal S4x1024x2048 .bf16) (w u v : FVec Ideal S1024x2048 .f32) : FVec Ideal S1024x2048 .f32 := fun y => Update.change (w y) (grad a b y) (u y) (v y)
def M (a b : FVec Ideal S4x1024x2048 .bf16) (u : FVec Ideal S1024x2048 .f32) : FVec Ideal S1024x2048 .f32 := fun y => Update.first (grad a b y) (u y)
def W (a b : FVec Ideal S4x1024x2048 .bf16) (v : FVec Ideal S1024x2048 .f32) : FVec Ideal S1024x2048 .f32 := fun y => Update.second (grad a b y) (v y)

theorem outs7 (c : Dev nD) (t : Fin (cfgM m (ok m)).N) : (outsAt0 m (ok m) c t).1 = k0_pay2 (iblk m (ok m) c 0 t) (iblk m (ok m) c 1 t) (iblk m (ok m) c 2 t) (iblk m (ok m) c 3 t) := by
  unfold outsAt0
  dsimp only
  exact out7 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at7 (c : Dev nD) (t : Fin (cfgM m (ok m)).N) (y : S256x2048.Idx) (p : S1024x2048.Idx) (e0 : (p 0).val = t.val * 256 + (y 0).val) (e1 : (p 1).val = 0 * 2048 + (y 1).val) :
    (outsAt0 m (ok m) c t).1 y = G (m ((c.tc : Thread nD τ).loc main_arg0)) (m ((c.tc : Thread nD τ).loc main_arg1)) p := by
  refine (congrFun (outs7 m c t) y).trans ?_
  exact block m c t y p e0 e1 _ _ _ _ rfl rfl rfl rfl

theorem final7 (c : Dev nD) : (dats m (ok m) 0 c).arrAt 7 (cfgM m (ok m)).N = G (m ((c.tc : Thread nD τ).loc main_arg0)) (m ((c.tc : Thread nD τ).loc main_arg1)) := by
  refine (dats m (ok m) 0 c).arrAt_eq_of_covers 7 _ (covers7 m) fun t hf y => ?_
  blk_simp
  rw [after0_7]
  refine at7 m c t y _ ?_ ?_
  · exact pos7_0 m t y
  · exact pos7_1 m t y

theorem outs8 (c : Dev nD) (t : Fin (cfgM m (ok m)).N) : (outsAt0 m (ok m) c t).2.1 = k0_pay1 (iblk m (ok m) c 4 t) (k0_pay4 (iblk m (ok m) c 0 t) (iblk m (ok m) c 1 t) (iblk m (ok m) c 2 t) (iblk m (ok m) c 3 t) (iblk m (ok m) c 6 t)) (k0_pay5 (iblk m (ok m) c 0 t) (iblk m (ok m) c 1 t) (iblk m (ok m) c 2 t) (iblk m (ok m) c 3 t) (iblk m (ok m) c 5 t)) := by
  unfold outsAt0
  dsimp only
  exact out8 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at8 (c : Dev nD) (t : Fin (cfgM m (ok m)).N) (y : S256x2048.Idx) (p : S1024x2048.Idx) (e0 : (p 0).val = t.val * 256 + (y 0).val) (e1 : (p 1).val = 0 * 2048 + (y 1).val) :
    (outsAt0 m (ok m) c t).2.1 y = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  refine (congrFun (outs8 m c t) y).trans ?_
  refine (pay1_at _ _ _ _ _ _ _ _).trans ?_
  rw [block m c t y p e0 e1 _ _ _ _ rfl rfl rfl rfl, tile4 m c t y p e0 e1 _ rfl, tile5 m c t y p e0 e1 _ rfl, tile6 m c t y p e0 e1 _ rfl]
  rfl

theorem final8 (c : Dev nD) : (dats m (ok m) 0 c).arrAt 8 (cfgM m (ok m)).N = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m (ok m) 0 c).arrAt_eq_of_covers 8 _ (covers8 m) fun t hf y => ?_
  blk_simp
  rw [after0_8]
  refine at8 m c t y _ ?_ ?_
  · exact pos8_0 m t y
  · exact pos8_1 m t y

theorem outs9 (c : Dev nD) (t : Fin (cfgM m (ok m)).N) : (outsAt0 m (ok m) c t).2.2.1 = k0_pay3 (iblk m (ok m) c 0 t) (iblk m (ok m) c 1 t) (iblk m (ok m) c 2 t) (iblk m (ok m) c 3 t) (iblk m (ok m) c 5 t) := by
  unfold outsAt0
  dsimp only
  exact out9 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at9 (c : Dev nD) (t : Fin (cfgM m (ok m)).N) (y : S256x2048.Idx) (p : S1024x2048.Idx) (e0 : (p 0).val = t.val * 256 + (y 0).val) (e1 : (p 1).val = 0 * 2048 + (y 1).val) :
    (outsAt0 m (ok m) c t).2.2.1 y = M (m ((c.tc : Thread nD τ).loc main_arg0)) (m ((c.tc : Thread nD τ).loc main_arg1)) (m ((c.tc : Thread nD τ).loc main_arg3)) p := by
  refine (congrFun (outs9 m c t) y).trans ?_
  refine (pay3_at _ _ _ _ _ _).trans ?_
  rw [block m c t y p e0 e1 _ _ _ _ rfl rfl rfl rfl, tile5 m c t y p e0 e1 _ rfl]
  rfl

theorem final9 (c : Dev nD) : (dats m (ok m) 0 c).arrAt 9 (cfgM m (ok m)).N = M (m ((c.tc : Thread nD τ).loc main_arg0)) (m ((c.tc : Thread nD τ).loc main_arg1)) (m ((c.tc : Thread nD τ).loc main_arg3)) := by
  refine (dats m (ok m) 0 c).arrAt_eq_of_covers 9 _ (covers9 m) fun t hf y => ?_
  blk_simp
  rw [after0_9]
  refine at9 m c t y _ ?_ ?_
  · exact pos9_0 m t y
  · exact pos9_1 m t y

theorem outs10 (c : Dev nD) (t : Fin (cfgM m (ok m)).N) : (outsAt0 m (ok m) c t).2.2.2 = k0_pay4 (iblk m (ok m) c 0 t) (iblk m (ok m) c 1 t) (iblk m (ok m) c 2 t) (iblk m (ok m) c 3 t) (iblk m (ok m) c 6 t) := by
  unfold outsAt0
  dsimp only
  exact out10 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at10 (c : Dev nD) (t : Fin (cfgM m (ok m)).N) (y : S256x2048.Idx) (p : S1024x2048.Idx) (e0 : (p 0).val = t.val * 256 + (y 0).val) (e1 : (p 1).val = 0 * 2048 + (y 1).val) :
    (outsAt0 m (ok m) c t).2.2.2 y = W (m ((c.tc : Thread nD τ).loc main_arg0)) (m ((c.tc : Thread nD τ).loc main_arg1)) (m ((c.tc : Thread nD τ).loc main_arg4)) p := by
  refine (congrFun (outs10 m c t) y).trans ?_
  refine (pay4_at _ _ _ _ _ _).trans ?_
  rw [block m c t y p e0 e1 _ _ _ _ rfl rfl rfl rfl, tile6 m c t y p e0 e1 _ rfl]
  rfl

theorem final10 (c : Dev nD) : (dats m (ok m) 0 c).arrAt 10 (cfgM m (ok m)).N = W (m ((c.tc : Thread nD τ).loc main_arg0)) (m ((c.tc : Thread nD τ).loc main_arg1)) (m ((c.tc : Thread nD τ).loc main_arg4)) := by
  refine (dats m (ok m) 0 c).arrAt_eq_of_covers 10 _ (covers10 m) fun t hf y => ?_
  blk_simp
  rw [after0_10]
  refine at10 m c t y _ ?_ ?_
  · exact pos10_0 m t y
  · exact pos10_1 m t y

end Cert.AdamDownIdeal.Hand

namespace Cert.Hand.AdamDown

open Idealize.ShloMosaic Idealize.ShloMosaic.TcCoe Idealize.SL.Sem
open Cert.AdamDownIdeal Cert.AdamDownRefIdeal.Read

theorem ref_grad (a b : FVec Ideal S4x1024x2048 .bf16) (y : S1024x2048.Idx) : val_main_v14 (F := Ideal) a b y = AdamDownIdeal.Hand.grad a b y := by
  simp only [val_main_v14_apply, val_main_v10_apply, val_main_v6_apply, val_main_v2_apply, val_main_v1_apply, val_main_v0_apply, val_main_v5_apply,
    val_main_v4_apply, val_main_v3_apply, val_main_v9_apply, val_main_v8_apply, val_main_v7_apply, val_main_v13_apply, val_main_v12_apply, val_main_v11_apply]
  unfold AdamDownIdeal.Hand.grad
  have h0 : (y 0).val < 1024 := (y 0).isLt
  have h1 : (y 1).val < 2048 := (y 1).isLt
  have e0 : idx_main_v0 (idx_main_v1 y) = ix3 0 (y 0) (y 1) := ext3 (by dsimp [idx_main_v0, idx_main_v1]) (by dsimp [idx_main_v0, idx_main_v1]; omega) (by dsimp [idx_main_v0, idx_main_v1]; omega)
  have e1 : idx_main_v3 (idx_main_v4 y) = ix3 1 (y 0) (y 1) := ext3 (by dsimp [idx_main_v3, idx_main_v4]) (by dsimp [idx_main_v3, idx_main_v4]; omega) (by dsimp [idx_main_v3, idx_main_v4]; omega)
  have e2 : idx_main_v7 (idx_main_v8 y) = ix3 2 (y 0) (y 1) := ext3 (by dsimp [idx_main_v7, idx_main_v8]) (by dsimp [idx_main_v7, idx_main_v8]; omega) (by dsimp [idx_main_v7, idx_main_v8]; omega)
  have e3 : idx_main_v11 (idx_main_v12 y) = ix3 3 (y 0) (y 1) := ext3 (by dsimp [idx_main_v11, idx_main_v12]) (by dsimp [idx_main_v11, idx_main_v12]; omega) (by dsimp [idx_main_v11, idx_main_v12]; omega)
  rw [e0, e1, e2, e3]
  exact congrArg (fun s : EReal => s + b (ix3 3 (y 0) (y 1))) (add_right_comm (a (ix3 0 (y 0) (y 1)) : EReal) (b (ix3 1 (y 0) (y 1))) (b (ix3 2 (y 0) (y 1))))

theorem grad_eq (a b : FVec Ideal S4x1024x2048 .bf16) : val_main_v14 (F := Ideal) a b = AdamDownIdeal.Hand.G a b := funext (ref_grad a b)

theorem first_eq (a b : FVec Ideal S4x1024x2048 .bf16) (u : FVec Ideal S1024x2048 .f32) : val_main_v19 (F := Ideal) a b u = AdamDownIdeal.Hand.M a b u := by
  funext y
  unfold AdamDownIdeal.Hand.M
  rw [← ref_grad]
  rfl

theorem second_eq (a b : FVec Ideal S4x1024x2048 .bf16) (v : FVec Ideal S1024x2048 .f32) : val_main_v25 (F := Ideal) a b v = AdamDownIdeal.Hand.W a b v := by
  funext y
  unfold AdamDownIdeal.Hand.W
  rw [← ref_grad]
  rfl

theorem change_eq (a b : FVec Ideal S4x1024x2048 .bf16) (w u v : FVec Ideal S1024x2048 .f32) : val_main_v38 (F := Ideal) a b w u v = AdamDownIdeal.Hand.D a b w u v := by
  funext y
  unfold AdamDownIdeal.Hand.D
  rw [← ref_grad]
  rfl

theorem frame_k : Cert.quiescent_AdamDown (hAdamDown := Cert.AdamDown.Gen.facts) := fun m ρ _ => Cert.AdamDown.Gen.frame m ρ (Cert.AdamDown.Hand.ok m)

theorem frame_i : Cert.quiescent_AdamDownIdeal (hAdamDownIdeal := Cert.AdamDownIdeal.Gen.facts) := fun m ρ _ => Cert.AdamDownIdeal.Gen.frame m ρ (Cert.AdamDownIdeal.Hand.ok m)

theorem frame_r : Cert.quiescent_AdamDownRefIdeal (hAdamDownRefIdeal := Cert.AdamDownRefIdeal.Gen.facts) := fun m ρ _ =>
  (θ_run Cert.AdamDownRefIdeal.defs _ _).mono (fun r h => ⟨fun c => (h c).2.2.2.2, sem_eq_zero_of_no_sems (by decide) r.2⟩) (Cert.AdamDownRefIdeal.Value.run (F := Ideal) m ρ)

open Cert.AdamDownIdeal.Gen in
/-- The four results after the run, and the arguments kept. -/
theorem results (m : (ℓ : Loc nD τ sig) → Buf (Elt Ideal) ℓ) (ρ : Dev nD → PrngReg) : θ_run Cert.AdamDownIdeal.defs (onTc (τ := τ) (main (F := Ideal))) ⟨m, fun _ => 0, ρ⟩ (fun r => ∀ c : Dev nD,
      (r.2.mem ((c.tc : Thread nD τ).loc main_v6_0) = AdamDownIdeal.Hand.G (m ((c.tc : Thread nD τ).loc main_arg0)) (m ((c.tc : Thread nD τ).loc main_arg1))
      ∧ r.2.mem ((c.tc : Thread nD τ).loc main_v6_1) = AdamDownIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamDownIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamDownIdeal.Hand.W (m ((c.tc : Thread nD τ).loc main_arg0)) (m ((c.tc : Thread nD τ).loc main_arg1)) (m ((c.tc : Thread nD τ).loc main_arg4)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))) := by
  have h₁ : θ_run Cert.AdamDownIdeal.defs (onTc (τ := τ) (main (F := Ideal))) ⟨m, fun _ => 0, ρ⟩ (fun r => ∀ c : Dev nD,
      r.2.mem ((c.tc : Thread nD τ).loc main_v6_0) = AdamDownIdeal.Hand.G (m ((c.tc : Thread nD τ).loc main_arg0)) (m ((c.tc : Thread nD τ).loc main_arg1))
      ∧ r.2.mem ((c.tc : Thread nD τ).loc main_v6_1) = AdamDownIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamDownIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamDownIdeal.Hand.W (m ((c.tc : Thread nD τ).loc main_arg0)) (m ((c.tc : Thread nD τ).loc main_arg1)) (m ((c.tc : Thread nD τ).loc main_arg4))) :=
    (θ_run Cert.AdamDownIdeal.defs _ _).mono (fun r h c => ⟨((h c).1 7).trans (Hand.final7 m c), ((h c).1 8).trans (Hand.final8 m c),
      ((h c).1 9).trans (Hand.final9 m c), ((h c).1 10).trans (Hand.final10 m c)⟩) (run_main m ρ (AdamDownIdeal.Hand.ok m))
  exact (θ_run Cert.AdamDownIdeal.defs _ _).mono (fun r h c => ⟨h.1 c, h.2 c⟩) (θ_run_and h₁ (unchanged m ρ (AdamDownIdeal.Hand.ok m)))

theorem values : Cert.algebraic_AdamDownIdeal_AdamDownRefIdeal (hAdamDownIdeal := Cert.AdamDownIdeal.Gen.facts) (hAdamDownRefIdeal := Cert.AdamDownRefIdeal.Gen.facts) := by
  intro m g m' g' _ hagree
  refine ⟨fun c => AdamDownIdeal.Hand.G (m ((c.tc : Thread nD τ).loc main_arg0)) (m ((c.tc : Thread nD τ).loc main_arg1)),
    fun c => AdamDownIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => AdamDownIdeal.Hand.M (m ((c.tc : Thread nD τ).loc main_arg0)) (m ((c.tc : Thread nD τ).loc main_arg1)) (m ((c.tc : Thread nD τ).loc main_arg3)),
    fun c => AdamDownIdeal.Hand.W (m ((c.tc : Thread nD τ).loc main_arg0)) (m ((c.tc : Thread nD τ).loc main_arg1)) (m ((c.tc : Thread nD τ).loc main_arg4)),
    (θ_run Cert.AdamDownIdeal.defs _ _).mono (fun _ h c => ⟨(h c).1.1, (h c).1.2.1, (h c).1.2.2.1, (h c).1.2.2.2, (h c).2⟩) (results m g),
    (θ_run Cert.AdamDownRefIdeal.defs _ _).mono (fun r h c => ⟨(h c).1.trans ?_, (h c).2.1.trans ?_, (h c).2.2.1.trans ?_, (h c).2.2.2.1.trans ?_, (h c).2.2.2.2⟩) (Cert.AdamDownRefIdeal.Value.run (F := Ideal) m' g')⟩
  all_goals obtain ⟨a0, a1, a2, a3, a4⟩ := hagree c
  · rw [val_main_v14_eq, a0, a1]
    exact grad_eq _ _
  · rw [val_main_v38_eq, a0, a1, a2, a3, a4]
    exact change_eq _ _ _ _ _
  · rw [val_main_v19_eq, a0, a1, a3]
    exact first_eq _ _ _
  · rw [val_main_v25_eq, a0, a1, a4]
    exact second_eq _ _ _

end Cert.Hand.AdamDown

end
-- ==== Proof.AdamUpValue.lean ====
/- The update of one device's part of a weight, `AdamUp`: the sum of the four chips' gradients and AdamW's step. -/
module

public import proofs.«01_k».proof.Proof.Whole
public import proofs.«01_k».proof.Proof.Update
public import proofs.«01_k».proof.Proof.Gen.AdamUpIdeal.Frame
public import proofs.«01_k».proof.Proof.Gen.AdamUp.Frame
public import proofs.«01_k».proof.Proof.Gen.AdamUpRefIdeal.Read
public import proofs.«01_k».proof.Proof.Gen.AdamUpRefIdeal
public import proofs.«01_k».proof.Defs

@[expose] public section

set_option maxRecDepth 16384

noncomputable section

namespace Cert.AdamUp.Hand

open Idealize.ShloMosaic Idealize.ShloMosaic.TcCoe Idealize.ShloMosaic.Tactic Idealize.SL.Sem
open Cert.AdamUp Cert.AdamUp.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

end Cert.AdamUp.Hand

namespace Cert.AdamUpIdeal.Hand

open Idealize.ShloMosaic Idealize.ShloMosaic.TcCoe Idealize.ShloMosaic.Tactic Idealize.SL.Sem
open Cert.AdamUpIdeal Cert.AdamUpIdeal.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

theorem out7 {F : FTy → Type} [FloatOps F] (c : Dev nD) (i : grid0.Coords)
    (a3 : Memref sig .tc .vmem S1x256x1024 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x1024 .bf16) (h6 : a6.IsWhole)
    (a7 : Memref sig .tc .vmem S256x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole) (a12 : Memref sig .tc .vmem S256x1024 .f32) (h12 : a12.IsWhole) (a13 : Memref sig .tc .vmem S256x1024 .f32) (h13 : a13.IsWhole)
    (x0 x1 x2 x3 : Vec F S1x256x1024 .bf16) (x4 x5 x6 : Vec F S256x1024 .f32) (xt : TbBuf0 (F := F) c tbM0_0) :
    out0_A_7 c i a3 h3 a4 h4 a5 h5 a6 h6 a7 h7 a8 h8 a9 h9 a10 h10 a11 h11 a12 h12 a13 h13 x0 x1 x2 x3 x4 x5 x6 xt = k0_pay2 x0 x1 x2 x3 := by
  unfold out0_A_7
  rw [View.read_writes_eq_canon _ _ _ (cover0_A_7 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x1024) start3, View.ld_unit_zero (S := S256x1024) start2]

theorem out8 {F : FTy → Type} [FloatOps F] (c : Dev nD) (i : grid0.Coords)
    (a3 : Memref sig .tc .vmem S1x256x1024 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x1024 .bf16) (h6 : a6.IsWhole)
    (a7 : Memref sig .tc .vmem S256x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole) (a12 : Memref sig .tc .vmem S256x1024 .f32) (h12 : a12.IsWhole) (a13 : Memref sig .tc .vmem S256x1024 .f32) (h13 : a13.IsWhole)
    (x0 x1 x2 x3 : Vec F S1x256x1024 .bf16) (x4 x5 x6 : Vec F S256x1024 .f32) (xt : TbBuf0 (F := F) c tbM0_0) :
    out0_A_8 c i a3 h3 a4 h4 a5 h5 a6 h6 a7 h7 a8 h8 a9 h9 a10 h10 a11 h11 a12 h12 a13 h13 x0 x1 x2 x3 x4 x5 x6 xt = k0_pay1 x4 (k0_pay4 x0 x1 x2 x3 x6) (k0_pay5 x0 x1 x2 x3 x5) := by
  unfold out0_A_8
  rw [View.read_writes_eq_canon _ _ _ (cover0_A_8 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x1024) start3, View.ld_unit_zero (S := S256x1024) start2]

theorem out9 {F : FTy → Type} [FloatOps F] (c : Dev nD) (i : grid0.Coords)
    (a3 : Memref sig .tc .vmem S1x256x1024 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x1024 .bf16) (h6 : a6.IsWhole)
    (a7 : Memref sig .tc .vmem S256x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole) (a12 : Memref sig .tc .vmem S256x1024 .f32) (h12 : a12.IsWhole) (a13 : Memref sig .tc .vmem S256x1024 .f32) (h13 : a13.IsWhole)
    (x0 x1 x2 x3 : Vec F S1x256x1024 .bf16) (x4 x5 x6 : Vec F S256x1024 .f32) (xt : TbBuf0 (F := F) c tbM0_0) :
    out0_A_9 c i a3 h3 a4 h4 a5 h5 a6 h6 a7 h7 a8 h8 a9 h9 a10 h10 a11 h11 a12 h12 a13 h13 x0 x1 x2 x3 x4 x5 x6 xt = k0_pay3 x0 x1 x2 x3 x5 := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x1024) start3, View.ld_unit_zero (S := S256x1024) start2]

theorem out10 {F : FTy → Type} [FloatOps F] (c : Dev nD) (i : grid0.Coords)
    (a3 : Memref sig .tc .vmem S1x256x1024 .bf16) (h3 : a3.IsWhole) (a4 : Memref sig .tc .vmem S1x256x1024 .bf16) (h4 : a4.IsWhole) (a5 : Memref sig .tc .vmem S1x256x1024 .bf16) (h5 : a5.IsWhole) (a6 : Memref sig .tc .vmem S1x256x1024 .bf16) (h6 : a6.IsWhole)
    (a7 : Memref sig .tc .vmem S256x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .f32) (h10 : a10.IsWhole) (a11 : Memref sig .tc .vmem S256x1024 .f32) (h11 : a11.IsWhole) (a12 : Memref sig .tc .vmem S256x1024 .f32) (h12 : a12.IsWhole) (a13 : Memref sig .tc .vmem S256x1024 .f32) (h13 : a13.IsWhole)
    (x0 x1 x2 x3 : Vec F S1x256x1024 .bf16) (x4 x5 x6 : Vec F S256x1024 .f32) (xt : TbBuf0 (F := F) c tbM0_0) :
    out0_A_10 c i a3 h3 a4 h4 a5 h5 a6 h6 a7 h7 a8 h8 a9 h9 a10 h10 a11 h11 a12 h12 a13 h13 x0 x1 x2 x3 x4 x5 x6 xt = k0_pay4 x0 x1 x2 x3 x6 := by
  unfold out0_A_10
  rw [View.read_writes_eq_canon _ _ _ (cover0_A_10 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x1024) start3, View.ld_unit_zero (S := S256x1024) start2]

theorem pay2_at (x0 x1 x2 x3 : Vec Ideal S1x256x1024 .bf16) (i : Fin 256) (j : Fin 1024) :
    k0_pay2 x0 x1 x2 x3 (ix2 i j) = (x0 (ix3 0 i j) + x1 (ix3 0 i j) + x2 (ix3 0 i j) + x3 (ix3 0 i j) : EReal) := by
  pointwise [k0_pay2]

theorem pay3_at (x0 x1 x2 x3 : Vec Ideal S1x256x1024 .bf16) (x5 : Vec Ideal S256x1024 .f32) (y : S256x1024.Idx) :
    k0_pay3 x0 x1 x2 x3 x5 y = Update.first (k0_pay2 x0 x1 x2 x3 y) (x5 y) := rfl

theorem pay4_at (x0 x1 x2 x3 : Vec Ideal S1x256x1024 .bf16) (x6 : Vec Ideal S256x1024 .f32) (y : S256x1024.Idx) :
    k0_pay4 x0 x1 x2 x3 x6 y = Update.second (k0_pay2 x0 x1 x2 x3 y) (x6 y) := rfl

theorem pay1_at (x0 x1 x2 x3 : Vec Ideal S1x256x1024 .bf16) (x4 x5 x6 : Vec Ideal S256x1024 .f32) (y : S256x1024.Idx) :
    k0_pay1 x4 (k0_pay4 x0 x1 x2 x3 x6) (k0_pay5 x0 x1 x2 x3 x5) y = Update.change (x4 y) (k0_pay2 x0 x1 x2 x3 y) (x5 y) (x6 y) := rfl

/-- The gradient: the chip's own piece and the three others. -/
def grad (a b : FVec Ideal S4x2048x1024 .bf16) (y : S2048x1024.Idx) : EReal :=
  a (ix3 0 (y 0) (y 1)) + b (ix3 2 (y 0) (y 1)) + b (ix3 1 (y 0) (y 1)) + b (ix3 3 (y 0) (y 1))

variable (m : (ℓ : Loc nD τ sig) → Buf (Elt Ideal) ℓ)

theorem idx0 (t : Fin (cfgM m (ok m)).N) : ((cfgM m (ok m)).win 0).index t = ![0, t.val, 0] := by
  show cc0_transform_0 inb_S4_S1_0 numel1_S1 (tbl m) (grid0.coords t) = _
  rw [ix_0]
  exact (by decide +kernel : ∀ t : Fin grid0.N, (![0, (BitVec.ofNat 32 (grid0.coords t 0).val).toNat, (BitVec.ofNat 32 (grid0.coords t 1).val).toNat] : Fin 3 → ℕ) = ![0, t.val, 0]) t

theorem idx1 (t : Fin (cfgM m (ok m)).N) : ((cfgM m (ok m)).win 1).index t = ![2, t.val, 0] := by
  show cc0_transform_1 inb_S4_S1_1 numel1_S1 (tbl m) (grid0.coords t) = _
  rw [ix_1]
  exact (by decide +kernel : ∀ t : Fin grid0.N, (![2, (BitVec.ofNat 32 (grid0.coords t 0).val).toNat, (BitVec.ofNat 32 (grid0.coords t 1).val).toNat] : Fin 3 → ℕ) = ![2, t.val, 0]) t

theorem idx2 (t : Fin (cfgM m (ok m)).N) : ((cfgM m (ok m)).win 2).index t = ![1, t.val, 0] := by
  show cc0_transform_2 inb_S4_S1_2 numel1_S1 (tbl m) (grid0.coords t) = _
  rw [ix_2]
  exact (by decide +kernel : ∀ t : Fin grid0.N, (![1, (BitVec.ofNat 32 (grid0.coords t 0).val).toNat, (BitVec.ofNat 32 (grid0.coords t 1).val).toNat] : Fin 3 → ℕ) = ![1, t.val, 0]) t

theorem idx3 (t : Fin (cfgM m (ok m)).N) : ((cfgM m (ok m)).win 3).index t = ![3, t.val, 0] := by
  show cc0_transform_3 inb_S4_S1_3 numel1_S1 (tbl m) (grid0.coords t) = _
  rw [ix_3]
  exact (by decide +kernel : ∀ t : Fin grid0.N, (![3, (BitVec.ofNat 32 (grid0.coords t 0).val).toNat, (BitVec.ofNat 32 (grid0.coords t 1).val).toNat] : Fin 3 → ℕ) = ![3, t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

theorem idx9 (t : Fin (cfgM m (ok m)).N) : ((cfgM m (ok m)).win 9).index t = ![t.val, 0] :=
  (by decide +kernel : ∀ t : Fin grid0.N, cc0_transform_9 (grid0.coords t) = ![t.val, 0]) t

theorem idx10 (t : Fin (cfgM m (ok m)).N) : ((cfgM m (ok m)).win 10).index t = ![t.val, 0] :=
  (by decide +kernel : ∀ t : Fin grid0.N, cc0_transform_10 (grid0.coords t) = ![t.val, 0]) t

theorem pos4_0 (t : Fin (cfgM m (ok m)).N) (y : S256x1024.Idx) : (((((cfgM m (ok m)).win 4).rect t).emb y (0 : Fin 2) : Fin 2048) : ℕ) = t.val * 256 + (y 0).val :=
  (Pipeline.Window.rect_emb_val ((cfgM m (ok m)).win 4) t y (0 : Fin 2) rfl).trans (congrArg (fun n : ℕ => n * 256 + (y 0).val) (congrFun (idx4 m t) (0 : Fin 2)))

theorem pos4_1 (t : Fin (cfgM m (ok m)).N) (y : S256x1024.Idx) : (((((cfgM m (ok m)).win 4).rect t).emb y (1 : Fin 2) : Fin 1024) : ℕ) = 0 * 1024 + (y 1).val :=
  (Pipeline.Window.rect_emb_val ((cfgM m (ok m)).win 4) t y (1 : Fin 2) rfl).trans (congrArg (fun n : ℕ => n * 1024 + (y 1).val) (congrFun (idx4 m t) (1 : Fin 2)))

theorem pos5_0 (t : Fin (cfgM m (ok m)).N) (y : S256x1024.Idx) : (((((cfgM m (ok m)).win 5).rect t).emb y (0 : Fin 2) : Fin 2048) : ℕ) = t.val * 256 + (y 0).val :=
  (Pipeline.Window.rect_emb_val ((cfgM m (ok m)).win 5) t y (0 : Fin 2) rfl).trans (congrArg (fun n : ℕ => n * 256 + (y 0).val) (congrFun (idx5 m t) (0 : Fin 2)))

theorem pos5_1 (t : Fin (cfgM m (ok m)).N) (y : S256x1024.Idx) : (((((cfgM m (ok m)).win 5).rect t).emb y (1 : Fin 2) : Fin 1024) : ℕ) = 0 * 1024 + (y 1).val :=
  (Pipeline.Window.rect_emb_val ((cfgM m (ok m)).win 5) t y (1 : Fin 2) rfl).trans (congrArg (fun n : ℕ => n * 1024 + (y 1).val) (congrFun (idx5 m t) (1 : Fin 2)))

theorem pos6_0 (t : Fin (cfgM m (ok m)).N) (y : S256x1024.Idx) : (((((cfgM m (ok m)).win 6).rect t).emb y (0 : Fin 2) : Fin 2048) : ℕ) = t.val * 256 + (y 0).val :=
  (Pipeline.Window.rect_emb_val ((cfgM m (ok m)).win 6) t y (0 : Fin 2) rfl).trans (congrArg (fun n : ℕ => n * 256 + (y 0).val) (congrFun (idx6 m t) (0 : Fin 2)))

theorem pos6_1 (t : Fin (cfgM m (ok m)).N) (y : S256x1024.Idx) : (((((cfgM m (ok m)).win 6).rect t).emb y (1 : Fin 2) : Fin 1024) : ℕ) = 0 * 1024 + (y 1).val :=
  (Pipeline.Window.rect_emb_val ((cfgM m (ok m)).win 6) t y (1 : Fin 2) rfl).trans (congrArg (fun n : ℕ => n * 1024 + (y 1).val) (congrFun (idx6 m t) (1 : Fin 2)))

theorem pos7_0 (t : Fin (cfgM m (ok m)).N) (y : S256x1024.Idx) : (((((cfgM m (ok m)).win 7).rect t).emb y (0 : Fin 2) : Fin 2048) : ℕ) = t.val * 256 + (y 0).val :=
  (Pipeline.Window.rect_emb_val ((cfgM m (ok m)).win 7) t y (0 : Fin 2) rfl).trans (congrArg (fun n : ℕ => n * 256 + (y 0).val) (congrFun (idx7 m t) (0 : Fin 2)))

theorem pos7_1 (t : Fin (cfgM m (ok m)).N) (y : S256x1024.Idx) : (((((cfgM m (ok m)).win 7).rect t).emb y (1 : Fin 2) : Fin 1024) : ℕ) = 0 * 1024 + (y 1).val :=
  (Pipeline.Window.rect_emb_val ((cfgM m (ok m)).win 7) t y (1 : Fin 2) rfl).trans (congrArg (fun n : ℕ => n * 1024 + (y 1).val) (congrFun (idx7 m t) (1 : Fin 2)))

theorem pos8_0 (t : Fin (cfgM m (ok m)).N) (y : S256x1024.Idx) : (((((cfgM m (ok m)).win 8).rect t).emb y (0 : Fin 2) : Fin 2048) : ℕ) = t.val * 256 + (y 0).val :=
  (Pipeline.Window.rect_emb_val ((cfgM m (ok m)).win 8) t y (0 : Fin 2) rfl).trans (congrArg (fun n : ℕ => n * 256 + (y 0).val) (congrFun (idx8 m t) (0 : Fin 2)))

theorem pos8_1 (t : Fin (cfgM m (ok m)).N) (y : S256x1024.Idx) : (((((cfgM m (ok m)).win 8).rect t).emb y (1 : Fin 2) : Fin 1024) : ℕ) = 0 * 1024 + (y 1).val :=
  (Pipeline.Window.rect_emb_val ((cfgM m (ok m)).win 8) t y (1 : Fin 2) rfl).trans (congrArg (fun n : ℕ => n * 1024 + (y 1).val) (congrFun (idx8 m t) (1 : Fin 2)))

theorem pos9_0 (t : Fin (cfgM m (ok m)).N) (y : S256x1024.Idx) : (((((cfgM m (ok m)).win 9).rect t).emb y (0 : Fin 2) : Fin 2048) : ℕ) = t.val * 256 + (y 0).val :=
  (Pipeline.Window.rect_emb_val ((cfgM m (ok m)).win 9) t y (0 : Fin 2) rfl).trans (congrArg (fun n : ℕ => n * 256 + (y 0).val) (congrFun (idx9 m t) (0 : Fin 2)))

theorem pos9_1 (t : Fin (cfgM m (ok m)).N) (y : S256x1024.Idx) : (((((cfgM m (ok m)).win 9).rect t).emb y (1 : Fin 2) : Fin 1024) : ℕ) = 0 * 1024 + (y 1).val :=
  (Pipeline.Window.rect_emb_val ((cfgM m (ok m)).win 9) t y (1 : Fin 2) rfl).trans (congrArg (fun n : ℕ => n * 1024 + (y 1).val) (congrFun (idx9 m t) (1 : Fin 2)))

theorem pos10_0 (t : Fin (cfgM m (ok m)).N) (y : S256x1024.Idx) : (((((cfgM m (ok m)).win 10).rect t).emb y (0 : Fin 2) : Fin 2048) : ℕ) = t.val * 256 + (y 0).val :=
  (Pipeline.Window.rect_emb_val ((cfgM m (ok m)).win 10) t y (0 : Fin 2) rfl).trans (congrArg (fun n : ℕ => n * 256 + (y 0).val) (congrFun (idx10 m t) (0 : Fin 2)))

theorem pos10_1 (t : Fin (cfgM m (ok m)).N) (y : S256x1024.Idx) : (((((cfgM m (ok m)).win 10).rect t).emb y (1 : Fin 2) : Fin 1024) : ℕ) = 0 * 1024 + (y 1).val :=
  (Pipeline.Window.rect_emb_val ((cfgM m (ok m)).win 10) t y (1 : Fin 2) rfl).trans (congrArg (fun n : ℕ => n * 1024 + (y 1).val) (congrFun (idx10 m t) (1 : Fin 2)))

theorem covers7 : ((cfgM m (ok m)).win 7).Covers := of_decide_eq_true (by sl_kernel_rfl)

theorem covers8 : ((cfgM m (ok m)).win 8).Covers := of_decide_eq_true (by sl_kernel_rfl)

theorem covers9 : ((cfgM m (ok m)).win 9).Covers := of_decide_eq_true (by sl_kernel_rfl)

theorem covers10 : ((cfgM m (ok m)).win 10).Covers := of_decide_eq_true (by sl_kernel_rfl)

theorem piece0 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S1x256x1024 .bf16) (h : x = iblk m (ok m) c 0 t) :
    x (ix3 0 (y 0) (y 1)) = m ((c.tc : Thread nD τ).loc main_arg0) (ix3 0 (p 0) (p 1)) := by
  subst h
  refine (congrFun (V_main_arg0 m c) (((cfgM m (ok m)).win 0).rect t |>.emb (ix3 0 (y 0) (y 1) : S1x256x1024.Idx))).trans (congrArg (m ((c.tc : Thread nD τ).loc main_arg0)) (ext3 ?_ ?_ ?_))
  · exact (Pipeline.Window.rect_emb_val ((cfgM m (ok m)).win 0) t (ix3 0 (y 0) (y 1) : S1x256x1024.Idx) (0 : Fin 3) rfl).trans (congrArg (fun n : ℕ => n * 1 + 0) (congrFun (idx0 m t) (0 : Fin 3)))
  · exact ((Pipeline.Window.rect_emb_val ((cfgM m (ok m)).win 0) t (ix3 0 (y 0) (y 1) : S1x256x1024.Idx) (1 : Fin 3) rfl).trans (congrArg (fun n : ℕ => n * 256 + (y 0).val) (congrFun (idx0 m t) (1 : Fin 3)))).trans e0.symm
  · exact ((Pipeline.Window.rect_emb_val ((cfgM m (ok m)).win 0) t (ix3 0 (y 0) (y 1) : S1x256x1024.Idx) (2 : Fin 3) rfl).trans (congrArg (fun n : ℕ => n * 1024 + (y 1).val) (congrFun (idx0 m t) (2 : Fin 3)))).trans e1.symm

theorem piece1 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S1x256x1024 .bf16) (h : x = iblk m (ok m) c 1 t) :
    x (ix3 0 (y 0) (y 1)) = m ((c.tc : Thread nD τ).loc main_arg1) (ix3 2 (p 0) (p 1)) := by
  subst h
  refine (congrFun (V_main_arg1 m c) (((cfgM m (ok m)).win 1).rect t |>.emb (ix3 0 (y 0) (y 1) : S1x256x1024.Idx))).trans (congrArg (m ((c.tc : Thread nD τ).loc main_arg1)) (ext3 ?_ ?_ ?_))
  · exact (Pipeline.Window.rect_emb_val ((cfgM m (ok m)).win 1) t (ix3 0 (y 0) (y 1) : S1x256x1024.Idx) (0 : Fin 3) rfl).trans (congrArg (fun n : ℕ => n * 1 + 0) (congrFun (idx1 m t) (0 : Fin 3)))
  · exact ((Pipeline.Window.rect_emb_val ((cfgM m (ok m)).win 1) t (ix3 0 (y 0) (y 1) : S1x256x1024.Idx) (1 : Fin 3) rfl).trans (congrArg (fun n : ℕ => n * 256 + (y 0).val) (congrFun (idx1 m t) (1 : Fin 3)))).trans e0.symm
  · exact ((Pipeline.Window.rect_emb_val ((cfgM m (ok m)).win 1) t (ix3 0 (y 0) (y 1) : S1x256x1024.Idx) (2 : Fin 3) rfl).trans (congrArg (fun n : ℕ => n * 1024 + (y 1).val) (congrFun (idx1 m t) (2 : Fin 3)))).trans e1.symm

theorem piece2 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S1x256x1024 .bf16) (h : x = iblk m (ok m) c 2 t) :
    x (ix3 0 (y 0) (y 1)) = m ((c.tc : Thread nD τ).loc main_arg1) (ix3 1 (p 0) (p 1)) := by
  subst h
  refine (congrFun (V_main_arg1 m c) (((cfgM m (ok m)).win 2).rect t |>.emb (ix3 0 (y 0) (y 1) : S1x256x1024.Idx))).trans (congrArg (m ((c.tc : Thread nD τ).loc main_arg1)) (ext3 ?_ ?_ ?_))
  · exact (Pipeline.Window.rect_emb_val ((cfgM m (ok m)).win 2) t (ix3 0 (y 0) (y 1) : S1x256x1024.Idx) (0 : Fin 3) rfl).trans (congrArg (fun n : ℕ => n * 1 + 0) (congrFun (idx2 m t) (0 : Fin 3)))
  · exact ((Pipeline.Window.rect_emb_val ((cfgM m (ok m)).win 2) t (ix3 0 (y 0) (y 1) : S1x256x1024.Idx) (1 : Fin 3) rfl).trans (congrArg (fun n : ℕ => n * 256 + (y 0).val) (congrFun (idx2 m t) (1 : Fin 3)))).trans e0.symm
  · exact ((Pipeline.Window.rect_emb_val ((cfgM m (ok m)).win 2) t (ix3 0 (y 0) (y 1) : S1x256x1024.Idx) (2 : Fin 3) rfl).trans (congrArg (fun n : ℕ => n * 1024 + (y 1).val) (congrFun (idx2 m t) (2 : Fin 3)))).trans e1.symm

theorem piece3 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S1x256x1024 .bf16) (h : x = iblk m (ok m) c 3 t) :
    x (ix3 0 (y 0) (y 1)) = m ((c.tc : Thread nD τ).loc main_arg1) (ix3 3 (p 0) (p 1)) := by
  subst h
  refine (congrFun (V_main_arg1 m c) (((cfgM m (ok m)).win 3).rect t |>.emb (ix3 0 (y 0) (y 1) : S1x256x1024.Idx))).trans (congrArg (m ((c.tc : Thread nD τ).loc main_arg1)) (ext3 ?_ ?_ ?_))
  · exact (Pipeline.Window.rect_emb_val ((cfgM m (ok m)).win 3) t (ix3 0 (y 0) (y 1) : S1x256x1024.Idx) (0 : Fin 3) rfl).trans (congrArg (fun n : ℕ => n * 1 + 0) (congrFun (idx3 m t) (0 : Fin 3)))
  · exact ((Pipeline.Window.rect_emb_val ((cfgM m (ok m)).win 3) t (ix3 0 (y 0) (y 1) : S1x256x1024.Idx) (1 : Fin 3) rfl).trans (congrArg (fun n : ℕ => n * 256 + (y 0).val) (congrFun (idx3 m t) (1 : Fin 3)))).trans e0.symm
  · exact ((Pipeline.Window.rect_emb_val ((cfgM m (ok m)).win 3) t (ix3 0 (y 0) (y 1) : S1x256x1024.Idx) (2 : Fin 3) rfl).trans (congrArg (fun n : ℕ => n * 1024 + (y 1).val) (congrFun (idx3 m t) (2 : Fin 3)))).trans e1.symm

theorem tile4 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S256x1024 .f32) (h : x = iblk m (ok m) c 4 t) : x y = m ((c.tc : Thread nD τ).loc main_arg2) p := by
  subst h
  refine (congrFun (V_main_arg2 m c) (((cfgM m (ok m)).win 4).rect t |>.emb y)).trans (congrArg (m ((c.tc : Thread nD τ).loc main_arg2)) (ext2 ?_ ?_))
  · exact (pos4_0 m t y).trans e0.symm
  · exact (pos4_1 m t y).trans e1.symm

theorem tile5 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S256x1024 .f32) (h : x = iblk m (ok m) c 5 t) : x y = m ((c.tc : Thread nD τ).loc main_arg3) p := by
  subst h
  refine (congrFun (V_main_arg3 m c) (((cfgM m (ok m)).win 5).rect t |>.emb y)).trans (congrArg (m ((c.tc : Thread nD τ).loc main_arg3)) (ext2 ?_ ?_))
  · exact (pos5_0 m t y).trans e0.symm
  · exact (pos5_1 m t y).trans e1.symm

theorem tile6 (c : Dev nD) (t : Fin (cfgM m (ok m)).N) (y : S256x1024.Idx) (p : S2048x1024.Idx) (e0 : (p 0).val = t.val * 256 + (y 0).val) (e1 : (p 1).val = 0 * 1024 + (y 1).val)
    (x : Vec Ideal S256x1024 .f32) (h : x = iblk m (ok m) c 6 t) : x y = m ((c.tc : Thread nD τ).loc main_arg4) p := by
  subst h
  refine (congrFun (V_main_arg4 m c) (((cfgM m (ok m)).win 6).rect t |>.emb y)).trans (congrArg (m ((c.tc : Thread nD τ).loc main_arg4)) (ext2 ?_ ?_))
  · exact (pos6_0 m t y).trans e0.symm
  · exact (pos6_1 m t y).trans e1.symm

/-- A block's gradient is the whole gradient at the block's place. -/
theorem block (c : Dev nD) (t : Fin (cfgM m (ok m)).N) (y : S256x1024.Idx) (p : S2048x1024.Idx) (e0 : (p 0).val = t.val * 256 + (y 0).val) (e1 : (p 1).val = 0 * 1024 + (y 1).val)
    (x0 x1 x2 x3 : Vec Ideal S1x256x1024 .bf16) (h0 : x0 = iblk m (ok m) c 0 t) (h1 : x1 = iblk m (ok m) c 1 t) (h2 : x2 = iblk m (ok m) c 2 t) (h3 : x3 = iblk m (ok m) c 3 t) :
    k0_pay2 x0 x1 x2 x3 y = grad (m ((c.tc : Thread nD τ).loc main_arg0)) (m ((c.tc : Thread nD τ).loc main_arg1)) p := by
  refine Eq.trans (congrArg _ (eta2 y)) ((pay2_at x0 x1 x2 x3 (y 0) (y 1)).trans ?_)
  rw [piece0 m c t y p e0 e1 x0 h0, piece1 m c t y p e0 e1 x1 h1, piece2 m c t y p e0 e1 x2 h2, piece3 m c t y p e0 e1 x3 h3]
  rfl

/-! The whole arrays: gradient, change, moments. -/

def G (a b : FVec Ideal S4x2048x1024 .bf16) : FVec Ideal S2048x1024 .f32 := fun y => grad a b y
def D (a b : FVec Ideal S4x2048x1024 .bf16) (w u v : FVec Ideal S2048x1024 .f32) : FVec Ideal S2048x1024 .f32 := fun y => Update.change (w y) (grad a b y) (u y) (v y)
def M (a b : FVec Ideal S4x2048x1024 .bf16) (u : FVec Ideal S2048x1024 .f32) : FVec Ideal S2048x1024 .f32 := fun y => Update.first (grad a b y) (u y)
def W (a b : FVec Ideal S4x2048x1024 .bf16) (v : FVec Ideal S2048x1024 .f32) : FVec Ideal S2048x1024 .f32 := fun y => Update.second (grad a b y) (v y)

theorem outs7 (c : Dev nD) (t : Fin (cfgM m (ok m)).N) : (outsAt0 m (ok m) c t).1 = k0_pay2 (iblk m (ok m) c 0 t) (iblk m (ok m) c 1 t) (iblk m (ok m) c 2 t) (iblk m (ok m) c 3 t) := by
  unfold outsAt0
  dsimp only
  exact out7 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at7 (c : Dev nD) (t : Fin (cfgM m (ok m)).N) (y : S256x1024.Idx) (p : S2048x1024.Idx) (e0 : (p 0).val = t.val * 256 + (y 0).val) (e1 : (p 1).val = 0 * 1024 + (y 1).val) :
    (outsAt0 m (ok m) c t).1 y = G (m ((c.tc : Thread nD τ).loc main_arg0)) (m ((c.tc : Thread nD τ).loc main_arg1)) p := by
  refine (congrFun (outs7 m c t) y).trans ?_
  exact block m c t y p e0 e1 _ _ _ _ rfl rfl rfl rfl

theorem final7 (c : Dev nD) : (dats m (ok m) 0 c).arrAt 7 (cfgM m (ok m)).N = G (m ((c.tc : Thread nD τ).loc main_arg0)) (m ((c.tc : Thread nD τ).loc main_arg1)) := by
  refine (dats m (ok m) 0 c).arrAt_eq_of_covers 7 _ (covers7 m) fun t hf y => ?_
  blk_simp
  rw [after0_7]
  refine at7 m c t y _ ?_ ?_
  · exact pos7_0 m t y
  · exact pos7_1 m t y

theorem outs8 (c : Dev nD) (t : Fin (cfgM m (ok m)).N) : (outsAt0 m (ok m) c t).2.1 = k0_pay1 (iblk m (ok m) c 4 t) (k0_pay4 (iblk m (ok m) c 0 t) (iblk m (ok m) c 1 t) (iblk m (ok m) c 2 t) (iblk m (ok m) c 3 t) (iblk m (ok m) c 6 t)) (k0_pay5 (iblk m (ok m) c 0 t) (iblk m (ok m) c 1 t) (iblk m (ok m) c 2 t) (iblk m (ok m) c 3 t) (iblk m (ok m) c 5 t)) := by
  unfold outsAt0
  dsimp only
  exact out8 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at8 (c : Dev nD) (t : Fin (cfgM m (ok m)).N) (y : S256x1024.Idx) (p : S2048x1024.Idx) (e0 : (p 0).val = t.val * 256 + (y 0).val) (e1 : (p 1).val = 0 * 1024 + (y 1).val) :
    (outsAt0 m (ok m) c t).2.1 y = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  refine (congrFun (outs8 m c t) y).trans ?_
  refine (pay1_at _ _ _ _ _ _ _ _).trans ?_
  rw [block m c t y p e0 e1 _ _ _ _ rfl rfl rfl rfl, tile4 m c t y p e0 e1 _ rfl, tile5 m c t y p e0 e1 _ rfl, tile6 m c t y p e0 e1 _ rfl]
  rfl

theorem final8 (c : Dev nD) : (dats m (ok m) 0 c).arrAt 8 (cfgM m (ok m)).N = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m (ok m) 0 c).arrAt_eq_of_covers 8 _ (covers8 m) fun t hf y => ?_
  blk_simp
  rw [after0_8]
  refine at8 m c t y _ ?_ ?_
  · exact pos8_0 m t y
  · exact pos8_1 m t y

theorem outs9 (c : Dev nD) (t : Fin (cfgM m (ok m)).N) : (outsAt0 m (ok m) c t).2.2.1 = k0_pay3 (iblk m (ok m) c 0 t) (iblk m (ok m) c 1 t) (iblk m (ok m) c 2 t) (iblk m (ok m) c 3 t) (iblk m (ok m) c 5 t) := by
  unfold outsAt0
  dsimp only
  exact out9 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at9 (c : Dev nD) (t : Fin (cfgM m (ok m)).N) (y : S256x1024.Idx) (p : S2048x1024.Idx) (e0 : (p 0).val = t.val * 256 + (y 0).val) (e1 : (p 1).val = 0 * 1024 + (y 1).val) :
    (outsAt0 m (ok m) c t).2.2.1 y = M (m ((c.tc : Thread nD τ).loc main_arg0)) (m ((c.tc : Thread nD τ).loc main_arg1)) (m ((c.tc : Thread nD τ).loc main_arg3)) p := by
  refine (congrFun (outs9 m c t) y).trans ?_
  refine (pay3_at _ _ _ _ _ _).trans ?_
  rw [block m c t y p e0 e1 _ _ _ _ rfl rfl rfl rfl, tile5 m c t y p e0 e1 _ rfl]
  rfl

theorem final9 (c : Dev nD) : (dats m (ok m) 0 c).arrAt 9 (cfgM m (ok m)).N = M (m ((c.tc : Thread nD τ).loc main_arg0)) (m ((c.tc : Thread nD τ).loc main_arg1)) (m ((c.tc : Thread nD τ).loc main_arg3)) := by
  refine (dats m (ok m) 0 c).arrAt_eq_of_covers 9 _ (covers9 m) fun t hf y => ?_
  blk_simp
  rw [after0_9]
  refine at9 m c t y _ ?_ ?_
  · exact pos9_0 m t y
  · exact pos9_1 m t y

theorem outs10 (c : Dev nD) (t : Fin (cfgM m (ok m)).N) : (outsAt0 m (ok m) c t).2.2.2 = k0_pay4 (iblk m (ok m) c 0 t) (iblk m (ok m) c 1 t) (iblk m (ok m) c 2 t) (iblk m (ok m) c 3 t) (iblk m (ok m) c 6 t) := by
  unfold outsAt0
  dsimp only
  exact out10 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at10 (c : Dev nD) (t : Fin (cfgM m (ok m)).N) (y : S256x1024.Idx) (p : S2048x1024.Idx) (e0 : (p 0).val = t.val * 256 + (y 0).val) (e1 : (p 1).val = 0 * 1024 + (y 1).val) :
    (outsAt0 m (ok m) c t).2.2.2 y = W (m ((c.tc : Thread nD τ).loc main_arg0)) (m ((c.tc : Thread nD τ).loc main_arg1)) (m ((c.tc : Thread nD τ).loc main_arg4)) p := by
  refine (congrFun (outs10 m c t) y).trans ?_
  refine (pay4_at _ _ _ _ _ _).trans ?_
  rw [block m c t y p e0 e1 _ _ _ _ rfl rfl rfl rfl, tile6 m c t y p e0 e1 _ rfl]
  rfl

theorem final10 (c : Dev nD) : (dats m (ok m) 0 c).arrAt 10 (cfgM m (ok m)).N = W (m ((c.tc : Thread nD τ).loc main_arg0)) (m ((c.tc : Thread nD τ).loc main_arg1)) (m ((c.tc : Thread nD τ).loc main_arg4)) := by
  refine (dats m (ok m) 0 c).arrAt_eq_of_covers 10 _ (covers10 m) fun t hf y => ?_
  blk_simp
  rw [after0_10]
  refine at10 m c t y _ ?_ ?_
  · exact pos10_0 m t y
  · exact pos10_1 m t y

end Cert.AdamUpIdeal.Hand

namespace Cert.Hand.AdamUp

open Idealize.ShloMosaic Idealize.ShloMosaic.TcCoe Idealize.SL.Sem
open Cert.AdamUpIdeal Cert.AdamUpRefIdeal.Read

theorem ref_grad (a b : FVec Ideal S4x2048x1024 .bf16) (y : S2048x1024.Idx) : val_main_v14 (F := Ideal) a b y = AdamUpIdeal.Hand.grad a b y := by
  simp only [val_main_v14_apply, val_main_v10_apply, val_main_v6_apply, val_main_v2_apply, val_main_v1_apply, val_main_v0_apply, val_main_v5_apply,
    val_main_v4_apply, val_main_v3_apply, val_main_v9_apply, val_main_v8_apply, val_main_v7_apply, val_main_v13_apply, val_main_v12_apply, val_main_v11_apply]
  unfold AdamUpIdeal.Hand.grad
  have h0 : (y 0).val < 2048 := (y 0).isLt
  have h1 : (y 1).val < 1024 := (y 1).isLt
  have e0 : idx_main_v0 (idx_main_v1 y) = ix3 0 (y 0) (y 1) := ext3 (by dsimp [idx_main_v0, idx_main_v1]) (by dsimp [idx_main_v0, idx_main_v1]; omega) (by dsimp [idx_main_v0, idx_main_v1]; omega)
  have e1 : idx_main_v3 (idx_main_v4 y) = ix3 1 (y 0) (y 1) := ext3 (by dsimp [idx_main_v3, idx_main_v4]) (by dsimp [idx_main_v3, idx_main_v4]; omega) (by dsimp [idx_main_v3, idx_main_v4]; omega)
  have e2 : idx_main_v7 (idx_main_v8 y) = ix3 2 (y 0) (y 1) := ext3 (by dsimp [idx_main_v7, idx_main_v8]) (by dsimp [idx_main_v7, idx_main_v8]; omega) (by dsimp [idx_main_v7, idx_main_v8]; omega)
  have e3 : idx_main_v11 (idx_main_v12 y) = ix3 3 (y 0) (y 1) := ext3 (by dsimp [idx_main_v11, idx_main_v12]) (by dsimp [idx_main_v11, idx_main_v12]; omega) (by dsimp [idx_main_v11, idx_main_v12]; omega)
  rw [e0, e1, e2, e3]
  exact congrArg (fun s : EReal => s + b (ix3 3 (y 0) (y 1))) (add_right_comm (a (ix3 0 (y 0) (y 1)) : EReal) (b (ix3 1 (y 0) (y 1))) (b (ix3 2 (y 0) (y 1))))

theorem grad_eq (a b : FVec Ideal S4x2048x1024 .bf16) : val_main_v14 (F := Ideal) a b = AdamUpIdeal.Hand.G a b := funext (ref_grad a b)

theorem first_eq (a b : FVec Ideal S4x2048x1024 .bf16) (u : FVec Ideal S2048x1024 .f32) : val_main_v19 (F := Ideal) a b u = AdamUpIdeal.Hand.M a b u := by
  funext y
  unfold AdamUpIdeal.Hand.M
  rw [← ref_grad]
  rfl

theorem second_eq (a b : FVec Ideal S4x2048x1024 .bf16) (v : FVec Ideal S2048x1024 .f32) : val_main_v25 (F := Ideal) a b v = AdamUpIdeal.Hand.W a b v := by
  funext y
  unfold AdamUpIdeal.Hand.W
  rw [← ref_grad]
  rfl

theorem change_eq (a b : FVec Ideal S4x2048x1024 .bf16) (w u v : FVec Ideal S2048x1024 .f32) : val_main_v38 (F := Ideal) a b w u v = AdamUpIdeal.Hand.D a b w u v := by
  funext y
  unfold AdamUpIdeal.Hand.D
  rw [← ref_grad]
  rfl

theorem frame_k : Cert.quiescent_AdamUp (hAdamUp := Cert.AdamUp.Gen.facts) := fun m ρ _ => Cert.AdamUp.Gen.frame m ρ (Cert.AdamUp.Hand.ok m)

theorem frame_i : Cert.quiescent_AdamUpIdeal (hAdamUpIdeal := Cert.AdamUpIdeal.Gen.facts) := fun m ρ _ => Cert.AdamUpIdeal.Gen.frame m ρ (Cert.AdamUpIdeal.Hand.ok m)

theorem frame_r : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, sem_eq_zero_of_no_sems (by decide) r.2⟩) (Cert.AdamUpRefIdeal.Value.run (F := Ideal) m ρ)

open Cert.AdamUpIdeal.Gen in
/-- The four results after the run, and the arguments kept. -/
theorem results (m : (ℓ : Loc nD τ sig) → Buf (Elt Ideal) ℓ) (ρ : Dev nD → PrngReg) : θ_run Cert.AdamUpIdeal.defs (onTc (τ := τ) (main (F := Ideal))) ⟨m, fun _ => 0, ρ⟩ (fun r => ∀ c : Dev nD,
      (r.2.mem ((c.tc : Thread nD τ).loc main_v6_0) = AdamUpIdeal.Hand.G (m ((c.tc : Thread nD τ).loc main_arg0)) (m ((c.tc : Thread nD τ).loc main_arg1))
      ∧ r.2.mem ((c.tc : Thread nD τ).loc main_v6_1) = AdamUpIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamUpIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamUpIdeal.Hand.W (m ((c.tc : Thread nD τ).loc main_arg0)) (m ((c.tc : Thread nD τ).loc main_arg1)) (m ((c.tc : Thread nD τ).loc main_arg4)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))) := by
  have h₁ : θ_run Cert.AdamUpIdeal.defs (onTc (τ := τ) (main (F := Ideal))) ⟨m, fun _ => 0, ρ⟩ (fun r => ∀ c : Dev nD,
      r.2.mem ((c.tc : Thread nD τ).loc main_v6_0) = AdamUpIdeal.Hand.G (m ((c.tc : Thread nD τ).loc main_arg0)) (m ((c.tc : Thread nD τ).loc main_arg1))
      ∧ r.2.mem ((c.tc : Thread nD τ).loc main_v6_1) = AdamUpIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamUpIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamUpIdeal.Hand.W (m ((c.tc : Thread nD τ).loc main_arg0)) (m ((c.tc : Thread nD τ).loc main_arg1)) (m ((c.tc : Thread nD τ).loc main_arg4))) :=
    (θ_run Cert.AdamUpIdeal.defs _ _).mono (fun r h c => ⟨((h c).1 7).trans (Hand.final7 m c), ((h c).1 8).trans (Hand.final8 m c),
      ((h c).1 9).trans (Hand.final9 m c), ((h c).1 10).trans (Hand.final10 m c)⟩) (run_main m ρ (AdamUpIdeal.Hand.ok m))
  exact (θ_run Cert.AdamUpIdeal.defs _ _).mono (fun r h c => ⟨h.1 c, h.2 c⟩) (θ_run_and h₁ (unchanged m ρ (AdamUpIdeal.Hand.ok m)))

theorem values : Cert.algebraic_AdamUpIdeal_AdamUpRefIdeal (hAdamUpIdeal := Cert.AdamUpIdeal.Gen.facts) (hAdamUpRefIdeal := Cert.AdamUpRefIdeal.Gen.facts) := by
  intro m g m' g' _ hagree
  refine ⟨fun c => AdamUpIdeal.Hand.G (m ((c.tc : Thread nD τ).loc main_arg0)) (m ((c.tc : Thread nD τ).loc main_arg1)),
    fun c => AdamUpIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => AdamUpIdeal.Hand.M (m ((c.tc : Thread nD τ).loc main_arg0)) (m ((c.tc : Thread nD τ).loc main_arg1)) (m ((c.tc : Thread nD τ).loc main_arg3)),
    fun c => AdamUpIdeal.Hand.W (m ((c.tc : Thread nD τ).loc main_arg0)) (m ((c.tc : Thread nD τ).loc main_arg1)) (m ((c.tc : Thread nD τ).loc main_arg4)),
    (θ_run Cert.AdamUpIdeal.defs _ _).mono (fun _ h c => ⟨(h c).1.1, (h c).1.2.1, (h c).1.2.2.1, (h c).1.2.2.2, (h c).2⟩) (results m g),
    (θ_run Cert.AdamUpRefIdeal.defs _ _).mono (fun r h c => ⟨(h c).1.trans ?_, (h c).2.1.trans ?_, (h c).2.2.1.trans ?_, (h c).2.2.2.1.trans ?_, (h c).2.2.2.2⟩) (Cert.AdamUpRefIdeal.Value.run (F := Ideal) m' g')⟩
  all_goals obtain ⟨a0, a1, a2, a3, a4⟩ := hagree c
  · rw [val_main_v14_eq, a0, a1]
    exact grad_eq _ _
  · rw [val_main_v38_eq, a0, a1, a2, a3, a4]
    exact change_eq _ _ _ _ _
  · rw [val_main_v19_eq, a0, a1, a3]
    exact first_eq _ _ _
  · rw [val_main_v25_eq, a0, a1, a4]
    exact second_eq _ _ _

end Cert.Hand.AdamUp

end
-- ==== Proof.AdamOutValue.lean ====
/- The update of one device's part of a weight, `AdamOut`: the sum of the four chips' gradients and AdamW's step. -/
module

public import proofs.«01_k».proof.Proof.Whole
public import proofs.«01_k».proof.Proof.Update
public import proofs.«01_k».proof.Proof.Gen.AdamOutIdeal.Frame
public import proofs.«01_k».proof.Proof.Gen.AdamOut.Frame
public import proofs.«01_k».proof.Proof.Gen.AdamOutRefIdeal.Read
public import proofs.«01_k».proof.Proof.Gen.AdamOutRefIdeal
public import proofs.«01_k».proof.Defs

@[expose] public section

set_option maxRecDepth 16384

noncomputable section

namespace Cert.AdamOut.Hand

open Idealize.ShloMosaic Idealize.ShloMosaic.TcCoe Idealize.ShloMosaic.Tactic Idealize.SL.Sem
open Cert.AdamOut Cert.AdamOut.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

end Cert.AdamOut.Hand

namespace Cert.AdamOutIdeal.Hand

open Idealize.ShloMosaic Idealize.ShloMosaic.TcCoe Idealize.ShloMosaic.Tactic Idealize.SL.Sem
open Cert.AdamOutIdeal Cert.AdamOutIdeal.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

theorem out7 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_7 c i a3 h3 a4 h4 a5 h5 a6 h6 a7 h7 a8 h8 a9 h9 a10 h10 a11 h11 a12 h12 a13 h13 x0 x1 x2 x3 x4 x5 x6 xt = k0_pay2 x0 x1 x2 x3 := by
  unfold out0_A_7
  rw [View.read_writes_eq_canon _ _ _ (cover0_A_7 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out8 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_8 c i a3 h3 a4 h4 a5 h5 a6 h6 a7 h7 a8 h8 a9 h9 a10 h10 a11 h11 a12 h12 a13 h13 x0 x1 x2 x3 x4 x5 x6 xt = k0_pay1 x4 (k0_pay4 x0 x1 x2 x3 x6) (k0_pay5 x0 x1 x2 x3 x5) := by
  unfold out0_A_8
  rw [View.read_writes_eq_canon _ _ _ (cover0_A_8 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out9 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_9 c i a3 h3 a4 h4 a5 h5 a6 h6 a7 h7 a8 h8 a9 h9 a10 h10 a11 h11 a12 h12 a13 h13 x0 x1 x2 x3 x4 x5 x6 xt = k0_pay3 x0 x1 x2 x3 x5 := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem out10 {F : FTy → Type} [FloatOps F] (c : Dev nD) (i : grid0.Coords)
    (a3 : Memref sig .tc .vmem S1x256x2048 .bf16) (h3 : a3.IsWhole) (a4 : Memref sig .tc .vmem S1x256x2048 .bf16) (h4 : a4.IsWhole) (a5 : Memref sig .tc .vmem S1x256x2048 .bf16) (h5 : a5.IsWhole) (a6 : Memref sig .tc .vmem S1x256x2048 .bf16) (h6 : a6.IsWhole)
    (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (a12 : Memref sig .tc .vmem S256x2048 .f32) (h12 : a12.IsWhole) (a13 : Memref sig .tc .vmem S256x2048 .f32) (h13 : a13.IsWhole)
    (x0 x1 x2 x3 : Vec F S1x256x2048 .bf16) (x4 x5 x6 : Vec F S256x2048 .f32) (xt : TbBuf0 (F := F) c tbM0_0) :
    out0_A_10 c i a3 h3 a4 h4 a5 h5 a6 h6 a7 h7 a8 h8 a9 h9 a10 h10 a11 h11 a12 h12 a13 h13 x0 x1 x2 x3 x4 x5 x6 xt = k0_pay4 x0 x1 x2 x3 x6 := by
  unfold out0_A_10
  rw [View.read_writes_eq_canon _ _ _ (cover0_A_10 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x256x2048) start3, View.ld_unit_zero (S := S256x2048) start2]

theorem pay2_at (x0 x1 x2 x3 : Vec Ideal S1x256x2048 .bf16) (i : Fin 256) (j : Fin 2048) :
    k0_pay2 x0 x1 x2 x3 (ix2 i j) = (x0 (ix3 0 i j) + x1 (ix3 0 i j) + x2 (ix3 0 i j) + x3 (ix3 0 i j) : EReal) := by
  pointwise [k0_pay2]

theorem pay3_at (x0 x1 x2 x3 : Vec Ideal S1x256x2048 .bf16) (x5 : Vec Ideal S256x2048 .f32) (y : S256x2048.Idx) :
    k0_pay3 x0 x1 x2 x3 x5 y = Update.first (k0_pay2 x0 x1 x2 x3 y) (x5 y) := rfl

theorem pay4_at (x0 x1 x2 x3 : Vec Ideal S1x256x2048 .bf16) (x6 : Vec Ideal S256x2048 .f32) (y : S256x2048.Idx) :
    k0_pay4 x0 x1 x2 x3 x6 y = Update.second (k0_pay2 x0 x1 x2 x3 y) (x6 y) := rfl

theorem pay1_at (x0 x1 x2 x3 : Vec Ideal S1x256x2048 .bf16) (x4 x5 x6 : Vec Ideal S256x2048 .f32) (y : S256x2048.Idx) :
    k0_pay1 x4 (k0_pay4 x0 x1 x2 x3 x6) (k0_pay5 x0 x1 x2 x3 x5) y = Update.change (x4 y) (k0_pay2 x0 x1 x2 x3 y) (x5 y) (x6 y) := rfl

/-- The gradient: the chip's own piece and the three others. -/
def grad (a b : FVec Ideal S4x256x2048 .bf16) (y : S256x2048.Idx) : EReal :=
  a (ix3 0 (y 0) (y 1)) + b (ix3 2 (y 0) (y 1)) + b (ix3 1 (y 0) (y 1)) + b (ix3 3 (y 0) (y 1))

variable (m : (ℓ : Loc nD τ sig) → Buf (Elt Ideal) ℓ)

theorem idx0 (t : Fin (cfgM m (ok m)).N) : ((cfgM m (ok m)).win 0).index t = ![0, t.val, 0] := by
  show cc0_transform_0 inb_S4_S1_0 numel1_S1 (tbl m) (grid0.coords t) = _
  rw [ix_0]
  exact (by decide +kernel : ∀ t : Fin grid0.N, (![0, (BitVec.ofNat 32 (grid0.coords t 0).val).toNat, (BitVec.ofNat 32 (grid0.coords t 1).val).toNat] : Fin 3 → ℕ) = ![0, t.val, 0]) t

theorem idx1 (t : Fin (cfgM m (ok m)).N) : ((cfgM m (ok m)).win 1).index t = ![2, t.val, 0] := by
  show cc0_transform_1 inb_S4_S1_1 numel1_S1 (tbl m) (grid0.coords t) = _
  rw [ix_1]
  exact (by decide +kernel : ∀ t : Fin grid0.N, (![2, (BitVec.ofNat 32 (grid0.coords t 0).val).toNat, (BitVec.ofNat 32 (grid0.coords t 1).val).toNat] : Fin 3 → ℕ) = ![2, t.val, 0]) t

theorem idx2 (t : Fin (cfgM m (ok m)).N) : ((cfgM m (ok m)).win 2).index t = ![1, t.val, 0] := by
  show cc0_transform_2 inb_S4_S1_2 numel1_S1 (tbl m) (grid0.coords t) = _
  rw [ix_2]
  exact (by decide +kernel : ∀ t : Fin grid0.N, (![1, (BitVec.ofNat 32 (grid0.coords t 0).val).toNat, (BitVec.ofNat 32 (grid0.coords t 1).val).toNat] : Fin 3 → ℕ) = ![1, t.val, 0]) t

theorem idx3 (t : Fin (cfgM m (ok m)).N) : ((cfgM m (ok m)).win 3).index t = ![3, t.val, 0] := by
  show cc0_transform_3 inb_S4_S1_3 numel1_S1 (tbl m) (grid0.coords t) = _
  rw [ix_3]
  exact (by decide +kernel : ∀ t : Fin grid0.N, (![3, (BitVec.ofNat 32 (grid0.coords t 0).val).toNat, (BitVec.ofNat 32 (grid0.coords t 1).val).toNat] : Fin 3 → ℕ) = ![3, t.val, 0]) t

theorem idx4 (t : Fin (cfgM m (ok m)).N) : ((cfgM m (ok m)).win 4).index t = ![t.val, 0] :=
  (by decide +kernel : ∀ t : Fin grid0.N, cc0_transform_4 (grid0.coords t) = ![t.val, 0]) t

theorem idx5 (t : Fin (cfgM m (ok m)).N) : ((cfgM m (ok m)).win 5).index t = ![t.val, 0] :=
  (by decide +kernel : ∀ t : Fin grid0.N, cc0_transform_5 (grid0.coords t) = ![t.val, 0]) t

theorem idx6 (t : Fin (cfgM m (ok m)).N) : ((cfgM m (ok m)).win 6).index t = ![t.val, 0] :=
  (by decide +kernel : ∀ t : Fin grid0.N, cc0_transform_6 (grid0.coords t) = ![t.val, 0]) t

theorem idx7 (t : Fin (cfgM m (ok m)).N) : ((cfgM m (ok m)).win 7).index t = ![t.val, 0] :=
  (by decide +kernel : ∀ t : Fin grid0.N, cc0_transform_7 (grid0.coords t) = ![t.val, 0]) t

theorem idx8 (t : Fin (cfgM m (ok m)).N) : ((cfgM m (ok m)).win 8).index t = ![t.val, 0] :=
  (by decide +kernel : ∀ t : Fin grid0.N, cc0_transform_8 (grid0.coords t) = ![t.val, 0]) t

theorem idx9 (t : Fin (cfgM m (ok m)).N) : ((cfgM m (ok m)).win 9).index t = ![t.val, 0] :=
  (by decide +kernel : ∀ t : Fin grid0.N, cc0_transform_9 (grid0.coords t) = ![t.val, 0]) t

theorem idx10 (t : Fin (cfgM m (ok m)).N) : ((cfgM m (ok m)).win 10).index t = ![t.val, 0] :=
  (by decide +kernel : ∀ t : Fin grid0.N, cc0_transform_10 (grid0.coords t) = ![t.val, 0]) t

theorem pos4_0 (t : Fin (cfgM m (ok m)).N) (y : S256x2048.Idx) : (((((cfgM m (ok m)).win 4).rect t).emb y (0 : Fin 2) : Fin 256) : ℕ) = t.val * 256 + (y 0).val :=
  (Pipeline.Window.rect_emb_val ((cfgM m (ok m)).win 4) t y (0 : Fin 2) rfl).trans (congrArg (fun n : ℕ => n * 256 + (y 0).val) (congrFun (idx4 m t) (0 : Fin 2)))

theorem pos4_1 (t : Fin (cfgM m (ok m)).N) (y : S256x2048.Idx) : (((((cfgM m (ok m)).win 4).rect t).emb y (1 : Fin 2) : Fin 2048) : ℕ) = 0 * 2048 + (y 1).val :=
  (Pipeline.Window.rect_emb_val ((cfgM m (ok m)).win 4) t y (1 : Fin 2) rfl).trans (congrArg (fun n : ℕ => n * 2048 + (y 1).val) (congrFun (idx4 m t) (1 : Fin 2)))

theorem pos5_0 (t : Fin (cfgM m (ok m)).N) (y : S256x2048.Idx) : (((((cfgM m (ok m)).win 5).rect t).emb y (0 : Fin 2) : Fin 256) : ℕ) = t.val * 256 + (y 0).val :=
  (Pipeline.Window.rect_emb_val ((cfgM m (ok m)).win 5) t y (0 : Fin 2) rfl).trans (congrArg (fun n : ℕ => n * 256 + (y 0).val) (congrFun (idx5 m t) (0 : Fin 2)))

theorem pos5_1 (t : Fin (cfgM m (ok m)).N) (y : S256x2048.Idx) : (((((cfgM m (ok m)).win 5).rect t).emb y (1 : Fin 2) : Fin 2048) : ℕ) = 0 * 2048 + (y 1).val :=
  (Pipeline.Window.rect_emb_val ((cfgM m (ok m)).win 5) t y (1 : Fin 2) rfl).trans (congrArg (fun n : ℕ => n * 2048 + (y 1).val) (congrFun (idx5 m t) (1 : Fin 2)))

theorem pos6_0 (t : Fin (cfgM m (ok m)).N) (y : S256x2048.Idx) : (((((cfgM m (ok m)).win 6).rect t).emb y (0 : Fin 2) : Fin 256) : ℕ) = t.val * 256 + (y 0).val :=
  (Pipeline.Window.rect_emb_val ((cfgM m (ok m)).win 6) t y (0 : Fin 2) rfl).trans (congrArg (fun n : ℕ => n * 256 + (y 0).val) (congrFun (idx6 m t) (0 : Fin 2)))

theorem pos6_1 (t : Fin (cfgM m (ok m)).N) (y : S256x2048.Idx) : (((((cfgM m (ok m)).win 6).rect t).emb y (1 : Fin 2) : Fin 2048) : ℕ) = 0 * 2048 + (y 1).val :=
  (Pipeline.Window.rect_emb_val ((cfgM m (ok m)).win 6) t y (1 : Fin 2) rfl).trans (congrArg (fun n : ℕ => n * 2048 + (y 1).val) (congrFun (idx6 m t) (1 : Fin 2)))

theorem pos7_0 (t : Fin (cfgM m (ok m)).N) (y : S256x2048.Idx) : (((((cfgM m (ok m)).win 7).rect t).emb y (0 : Fin 2) : Fin 256) : ℕ) = t.val * 256 + (y 0).val :=
  (Pipeline.Window.rect_emb_val ((cfgM m (ok m)).win 7) t y (0 : Fin 2) rfl).trans (congrArg (fun n : ℕ => n * 256 + (y 0).val) (congrFun (idx7 m t) (0 : Fin 2)))

theorem pos7_1 (t : Fin (cfgM m (ok m)).N) (y : S256x2048.Idx) : (((((cfgM m (ok m)).win 7).rect t).emb y (1 : Fin 2) : Fin 2048) : ℕ) = 0 * 2048 + (y 1).val :=
  (Pipeline.Window.rect_emb_val ((cfgM m (ok m)).win 7) t y (1 : Fin 2) rfl).trans (congrArg (fun n : ℕ => n * 2048 + (y 1).val) (congrFun (idx7 m t) (1 : Fin 2)))

theorem pos8_0 (t : Fin (cfgM m (ok m)).N) (y : S256x2048.Idx) : (((((cfgM m (ok m)).win 8).rect t).emb y (0 : Fin 2) : Fin 256) : ℕ) = t.val * 256 + (y 0).val :=
  (Pipeline.Window.rect_emb_val ((cfgM m (ok m)).win 8) t y (0 : Fin 2) rfl).trans (congrArg (fun n : ℕ => n * 256 + (y 0).val) (congrFun (idx8 m t) (0 : Fin 2)))

theorem pos8_1 (t : Fin (cfgM m (ok m)).N) (y : S256x2048.Idx) : (((((cfgM m (ok m)).win 8).rect t).emb y (1 : Fin 2) : Fin 2048) : ℕ) = 0 * 2048 + (y 1).val :=
  (Pipeline.Window.rect_emb_val ((cfgM m (ok m)).win 8) t y (1 : Fin 2) rfl).trans (congrArg (fun n : ℕ => n * 2048 + (y 1).val) (congrFun (idx8 m t) (1 : Fin 2)))

theorem pos9_0 (t : Fin (cfgM m (ok m)).N) (y : S256x2048.Idx) : (((((cfgM m (ok m)).win 9).rect t).emb y (0 : Fin 2) : Fin 256) : ℕ) = t.val * 256 + (y 0).val :=
  (Pipeline.Window.rect_emb_val ((cfgM m (ok m)).win 9) t y (0 : Fin 2) rfl).trans (congrArg (fun n : ℕ => n * 256 + (y 0).val) (congrFun (idx9 m t) (0 : Fin 2)))

theorem pos9_1 (t : Fin (cfgM m (ok m)).N) (y : S256x2048.Idx) : (((((cfgM m (ok m)).win 9).rect t).emb y (1 : Fin 2) : Fin 2048) : ℕ) = 0 * 2048 + (y 1).val :=
  (Pipeline.Window.rect_emb_val ((cfgM m (ok m)).win 9) t y (1 : Fin 2) rfl).trans (congrArg (fun n : ℕ => n * 2048 + (y 1).val) (congrFun (idx9 m t) (1 : Fin 2)))

theorem pos10_0 (t : Fin (cfgM m (ok m)).N) (y : S256x2048.Idx) : (((((cfgM m (ok m)).win 10).rect t).emb y (0 : Fin 2) : Fin 256) : ℕ) = t.val * 256 + (y 0).val :=
  (Pipeline.Window.rect_emb_val ((cfgM m (ok m)).win 10) t y (0 : Fin 2) rfl).trans (congrArg (fun n : ℕ => n * 256 + (y 0).val) (congrFun (idx10 m t) (0 : Fin 2)))

theorem pos10_1 (t : Fin (cfgM m (ok m)).N) (y : S256x2048.Idx) : (((((cfgM m (ok m)).win 10).rect t).emb y (1 : Fin 2) : Fin 2048) : ℕ) = 0 * 2048 + (y 1).val :=
  (Pipeline.Window.rect_emb_val ((cfgM m (ok m)).win 10) t y (1 : Fin 2) rfl).trans (congrArg (fun n : ℕ => n * 2048 + (y 1).val) (congrFun (idx10 m t) (1 : Fin 2)))

theorem covers7 : ((cfgM m (ok m)).win 7).Covers := of_decide_eq_true (by sl_kernel_rfl)

theorem covers8 : ((cfgM m (ok m)).win 8).Covers := of_decide_eq_true (by sl_kernel_rfl)

theorem covers9 : ((cfgM m (ok m)).win 9).Covers := of_decide_eq_true (by sl_kernel_rfl)

theorem covers10 : ((cfgM m (ok m)).win 10).Covers := of_decide_eq_true (by sl_kernel_rfl)

theorem piece0 (c : Dev nD) (t : Fin (cfgM m (ok m)).N) (y : S256x2048.Idx) (p : S256x2048.Idx) (e0 : (p 0).val = t.val * 256 + (y 0).val) (e1 : (p 1).val = 0 * 2048 + (y 1).val)
    (x : Vec Ideal S1x256x2048 .bf16) (h : x = iblk m (ok m) c 0 t) :
    x (ix3 0 (y 0) (y 1)) = m ((c.tc : Thread nD τ).loc main_arg0) (ix3 0 (p 0) (p 1)) := by
  subst h
  refine (congrFun (V_main_arg0 m c) (((cfgM m (ok m)).win 0).rect t |>.emb (ix3 0 (y 0) (y 1) : S1x256x2048.Idx))).trans (congrArg (m ((c.tc : Thread nD τ).loc main_arg0)) (ext3 ?_ ?_ ?_))
  · exact (Pipeline.Window.rect_emb_val ((cfgM m (ok m)).win 0) t (ix3 0 (y 0) (y 1) : S1x256x2048.Idx) (0 : Fin 3) rfl).trans (congrArg (fun n : ℕ => n * 1 + 0) (congrFun (idx0 m t) (0 : Fin 3)))
  · exact ((Pipeline.Window.rect_emb_val ((cfgM m (ok m)).win 0) t (ix3 0 (y 0) (y 1) : S1x256x2048.Idx) (1 : Fin 3) rfl).trans (congrArg (fun n : ℕ => n * 256 + (y 0).val) (congrFun (idx0 m t) (1 : Fin 3)))).trans e0.symm
  · exact ((Pipeline.Window.rect_emb_val ((cfgM m (ok m)).win 0) t (ix3 0 (y 0) (y 1) : S1x256x2048.Idx) (2 : Fin 3) rfl).trans (congrArg (fun n : ℕ => n * 2048 + (y 1).val) (congrFun (idx0 m t) (2 : Fin 3)))).trans e1.symm

theorem piece1 (c : Dev nD) (t : Fin (cfgM m (ok m)).N) (y : S256x2048.Idx) (p : S256x2048.Idx) (e0 : (p 0).val = t.val * 256 + (y 0).val) (e1 : (p 1).val = 0 * 2048 + (y 1).val)
    (x : Vec Ideal S1x256x2048 .bf16) (h : x = iblk m (ok m) c 1 t) :
    x (ix3 0 (y 0) (y 1)) = m ((c.tc : Thread nD τ).loc main_arg1) (ix3 2 (p 0) (p 1)) := by
  subst h
  refine (congrFun (V_main_arg1 m c) (((cfgM m (ok m)).win 1).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 1) t (ix3 0 (y 0) (y 1) : S1x256x2048.Idx) (0 : Fin 3) rfl).trans (congrArg (fun n : ℕ => n * 1 + 0) (congrFun (idx1 m t) (0 : Fin 3)))
  · exact ((Pipeline.Window.rect_emb_val ((cfgM m (ok m)).win 1) t (ix3 0 (y 0) (y 1) : S1x256x2048.Idx) (1 : Fin 3) rfl).trans (congrArg (fun n : ℕ => n * 256 + (y 0).val) (congrFun (idx1 m t) (1 : Fin 3)))).trans e0.symm
  · exact ((Pipeline.Window.rect_emb_val ((cfgM m (ok m)).win 1) t (ix3 0 (y 0) (y 1) : S1x256x2048.Idx) (2 : Fin 3) rfl).trans (congrArg (fun n : ℕ => n * 2048 + (y 1).val) (congrFun (idx1 m t) (2 : Fin 3)))).trans e1.symm

theorem piece2 (c : Dev nD) (t : Fin (cfgM m (ok m)).N) (y : S256x2048.Idx) (p : S256x2048.Idx) (e0 : (p 0).val = t.val * 256 + (y 0).val) (e1 : (p 1).val = 0 * 2048 + (y 1).val)
    (x : Vec Ideal S1x256x2048 .bf16) (h : x = iblk m (ok m) c 2 t) :
    x (ix3 0 (y 0) (y 1)) = m ((c.tc : Thread nD τ).loc main_arg1) (ix3 1 (p 0) (p 1)) := by
  subst h
  refine (congrFun (V_main_arg1 m c) (((cfgM m (ok m)).win 2).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 2) t (ix3 0 (y 0) (y 1) : S1x256x2048.Idx) (0 : Fin 3) rfl).trans (congrArg (fun n : ℕ => n * 1 + 0) (congrFun (idx2 m t) (0 : Fin 3)))
  · exact ((Pipeline.Window.rect_emb_val ((cfgM m (ok m)).win 2) t (ix3 0 (y 0) (y 1) : S1x256x2048.Idx) (1 : Fin 3) rfl).trans (congrArg (fun n : ℕ => n * 256 + (y 0).val) (congrFun (idx2 m t) (1 : Fin 3)))).trans e0.symm
  · exact ((Pipeline.Window.rect_emb_val ((cfgM m (ok m)).win 2) t (ix3 0 (y 0) (y 1) : S1x256x2048.Idx) (2 : Fin 3) rfl).trans (congrArg (fun n : ℕ => n * 2048 + (y 1).val) (congrFun (idx2 m t) (2 : Fin 3)))).trans e1.symm

theorem piece3 (c : Dev nD) (t : Fin (cfgM m (ok m)).N) (y : S256x2048.Idx) (p : S256x2048.Idx) (e0 : (p 0).val = t.val * 256 + (y 0).val) (e1 : (p 1).val = 0 * 2048 + (y 1).val)
    (x : Vec Ideal S1x256x2048 .bf16) (h : x = iblk m (ok m) c 3 t) :
    x (ix3 0 (y 0) (y 1)) = m ((c.tc : Thread nD τ).loc main_arg1) (ix3 3 (p 0) (p 1)) := by
  subst h
  refine (congrFun (V_main_arg1 m c) (((cfgM m (ok m)).win 3).rect t |>.emb (ix3 0 (y 0) (y 1) : S1x256x2048.Idx))).trans (congrArg (m ((c.tc : Thread nD τ).loc main_arg1)) (ext3 ?_ ?_ ?_))
  · exact (Pipeline.Window.rect_emb_val ((cfgM m (ok m)).win 3) t (ix3 0 (y 0) (y 1) : S1x256x2048.Idx) (0 : Fin 3) rfl).trans (congrArg (fun n : ℕ => n * 1 + 0) (congrFun (idx3 m t) (0 : Fin 3)))
  · exact ((Pipeline.Window.rect_emb_val ((cfgM m (ok m)).win 3) t (ix3 0 (y 0) (y 1) : S1x256x2048.Idx) (1 : Fin 3) rfl).trans (congrArg (fun n : ℕ => n * 256 + (y 0).val) (congrFun (idx3 m t) (1 : Fin 3)))).trans e0.symm
  · exact ((Pipeline.Window.rect_emb_val ((cfgM m (ok m)).win 3) t (ix3 0 (y 0) (y 1) : S1x256x2048.Idx) (2 : Fin 3) rfl).trans (congrArg (fun n : ℕ => n * 2048 + (y 1).val) (congrFun (idx3 m t) (2 : Fin 3)))).trans e1.symm

theorem tile4 (c : Dev nD) (t : Fin (cfgM m (ok m)).N) (y : S256x2048.Idx) (p : S256x2048.Idx) (e0 : (p 0).val = t.val * 256 + (y 0).val) (e1 : (p 1).val = 0 * 2048 + (y 1).val)
    (x : Vec Ideal S256x2048 .f32) (h : x = iblk m (ok m) c 4 t) : x y = m ((c.tc : Thread nD τ).loc main_arg2) p := by
  subst h
  refine (congrFun (V_main_arg2 m c) (((cfgM m (ok m)).win 4).rect t |>.emb y)).trans (congrArg (m ((c.tc : Thread nD τ).loc main_arg2)) (ext2 ?_ ?_))
  · exact (pos4_0 m t y).trans e0.symm
  · exact (pos4_1 m t y).trans e1.symm

theorem tile5 (c : Dev nD) (t : Fin (cfgM m (ok m)).N) (y : S256x2048.Idx) (p : S256x2048.Idx) (e0 : (p 0).val = t.val * 256 + (y 0).val) (e1 : (p 1).val = 0 * 2048 + (y 1).val)
    (x : Vec Ideal S256x2048 .f32) (h : x = iblk m (ok m) c 5 t) : x y = m ((c.tc : Thread nD τ).loc main_arg3) p := by
  subst h
  refine (congrFun (V_main_arg3 m c) (((cfgM m (ok m)).win 5).rect t |>.emb y)).trans (congrArg (m ((c.tc : Thread nD τ).loc main_arg3)) (ext2 ?_ ?_))
  · exact (pos5_0 m t y).trans e0.symm
  · exact (pos5_1 m t y).trans e1.symm

theorem tile6 (c : Dev nD) (t : Fin (cfgM m (ok m)).N) (y : S256x2048.Idx) (p : S256x2048.Idx) (e0 : (p 0).val = t.val * 256 + (y 0).val) (e1 : (p 1).val = 0 * 2048 + (y 1).val)
    (x : Vec Ideal S256x2048 .f32) (h : x = iblk m (ok m) c 6 t) : x y = m ((c.tc : Thread nD τ).loc main_arg4) p := by
  subst h
  refine (congrFun (V_main_arg4 m c) (((cfgM m (ok m)).win 6).rect t |>.emb y)).trans (congrArg (m ((c.tc : Thread nD τ).loc main_arg4)) (ext2 ?_ ?_))
  · exact (pos6_0 m t y).trans e0.symm
  · exact (pos6_1 m t y).trans e1.symm

/-- A block's gradient is the whole gradient at the block's place. -/
theorem block (c : Dev nD) (t : Fin (cfgM m (ok m)).N) (y : S256x2048.Idx) (p : S256x2048.Idx) (e0 : (p 0).val = t.val * 256 + (y 0).val) (e1 : (p 1).val = 0 * 2048 + (y 1).val)
    (x0 x1 x2 x3 : Vec Ideal S1x256x2048 .bf16) (h0 : x0 = iblk m (ok m) c 0 t) (h1 : x1 = iblk m (ok m) c 1 t) (h2 : x2 = iblk m (ok m) c 2 t) (h3 : x3 = iblk m (ok m) c 3 t) :
    k0_pay2 x0 x1 x2 x3 y = grad (m ((c.tc : Thread nD τ).loc main_arg0)) (m ((c.tc : Thread nD τ).loc main_arg1)) p := by
  refine Eq.trans (congrArg _ (eta2 y)) ((pay2_at x0 x1 x2 x3 (y 0) (y 1)).trans ?_)
  rw [piece0 m c t y p e0 e1 x0 h0, piece1 m c t y p e0 e1 x1 h1, piece2 m c t y p e0 e1 x2 h2, piece3 m c t y p e0 e1 x3 h3]
  rfl

/-! The whole arrays: gradient, change, moments. -/

def G (a b : FVec Ideal S4x256x2048 .bf16) : FVec Ideal S256x2048 .f32 := fun y => grad a b y
def D (a b : FVec Ideal S4x256x2048 .bf16) (w u v : FVec Ideal S256x2048 .f32) : FVec Ideal S256x2048 .f32 := fun y => Update.change (w y) (grad a b y) (u y) (v y)
def M (a b : FVec Ideal S4x256x2048 .bf16) (u : FVec Ideal S256x2048 .f32) : FVec Ideal S256x2048 .f32 := fun y => Update.first (grad a b y) (u y)
def W (a b : FVec Ideal S4x256x2048 .bf16) (v : FVec Ideal S256x2048 .f32) : FVec Ideal S256x2048 .f32 := fun y => Update.second (grad a b y) (v y)

theorem outs7 (c : Dev nD) (t : Fin (cfgM m (ok m)).N) : (outsAt0 m (ok m) c t).1 = k0_pay2 (iblk m (ok m) c 0 t) (iblk m (ok m) c 1 t) (iblk m (ok m) c 2 t) (iblk m (ok m) c 3 t) := by
  unfold outsAt0
  dsimp only
  exact out7 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at7 (c : Dev nD) (t : Fin (cfgM m (ok m)).N) (y : S256x2048.Idx) (p : S256x2048.Idx) (e0 : (p 0).val = t.val * 256 + (y 0).val) (e1 : (p 1).val = 0 * 2048 + (y 1).val) :
    (outsAt0 m (ok m) c t).1 y = G (m ((c.tc : Thread nD τ).loc main_arg0)) (m ((c.tc : Thread nD τ).loc main_arg1)) p := by
  refine (congrFun (outs7 m c t) y).trans ?_
  exact block m c t y p e0 e1 _ _ _ _ rfl rfl rfl rfl

theorem final7 (c : Dev nD) : (dats m (ok m) 0 c).arrAt 7 (cfgM m (ok m)).N = G (m ((c.tc : Thread nD τ).loc main_arg0)) (m ((c.tc : Thread nD τ).loc main_arg1)) := by
  refine (dats m (ok m) 0 c).arrAt_eq_of_covers 7 _ (covers7 m) fun t hf y => ?_
  blk_simp
  rw [after0_7]
  refine at7 m c t y _ ?_ ?_
  · exact pos7_0 m t y
  · exact pos7_1 m t y

theorem outs8 (c : Dev nD) (t : Fin (cfgM m (ok m)).N) : (outsAt0 m (ok m) c t).2.1 = k0_pay1 (iblk m (ok m) c 4 t) (k0_pay4 (iblk m (ok m) c 0 t) (iblk m (ok m) c 1 t) (iblk m (ok m) c 2 t) (iblk m (ok m) c 3 t) (iblk m (ok m) c 6 t)) (k0_pay5 (iblk m (ok m) c 0 t) (iblk m (ok m) c 1 t) (iblk m (ok m) c 2 t) (iblk m (ok m) c 3 t) (iblk m (ok m) c 5 t)) := by
  unfold outsAt0
  dsimp only
  exact out8 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at8 (c : Dev nD) (t : Fin (cfgM m (ok m)).N) (y : S256x2048.Idx) (p : S256x2048.Idx) (e0 : (p 0).val = t.val * 256 + (y 0).val) (e1 : (p 1).val = 0 * 2048 + (y 1).val) :
    (outsAt0 m (ok m) c t).2.1 y = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  refine (congrFun (outs8 m c t) y).trans ?_
  refine (pay1_at _ _ _ _ _ _ _ _).trans ?_
  rw [block m c t y p e0 e1 _ _ _ _ rfl rfl rfl rfl, tile4 m c t y p e0 e1 _ rfl, tile5 m c t y p e0 e1 _ rfl, tile6 m c t y p e0 e1 _ rfl]
  rfl

theorem final8 (c : Dev nD) : (dats m (ok m) 0 c).arrAt 8 (cfgM m (ok m)).N = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m (ok m) 0 c).arrAt_eq_of_covers 8 _ (covers8 m) fun t hf y => ?_
  blk_simp
  rw [after0_8]
  refine at8 m c t y _ ?_ ?_
  · exact pos8_0 m t y
  · exact pos8_1 m t y

theorem outs9 (c : Dev nD) (t : Fin (cfgM m (ok m)).N) : (outsAt0 m (ok m) c t).2.2.1 = k0_pay3 (iblk m (ok m) c 0 t) (iblk m (ok m) c 1 t) (iblk m (ok m) c 2 t) (iblk m (ok m) c 3 t) (iblk m (ok m) c 5 t) := by
  unfold outsAt0
  dsimp only
  exact out9 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at9 (c : Dev nD) (t : Fin (cfgM m (ok m)).N) (y : S256x2048.Idx) (p : S256x2048.Idx) (e0 : (p 0).val = t.val * 256 + (y 0).val) (e1 : (p 1).val = 0 * 2048 + (y 1).val) :
    (outsAt0 m (ok m) c t).2.2.1 y = M (m ((c.tc : Thread nD τ).loc main_arg0)) (m ((c.tc : Thread nD τ).loc main_arg1)) (m ((c.tc : Thread nD τ).loc main_arg3)) p := by
  refine (congrFun (outs9 m c t) y).trans ?_
  refine (pay3_at _ _ _ _ _ _).trans ?_
  rw [block m c t y p e0 e1 _ _ _ _ rfl rfl rfl rfl, tile5 m c t y p e0 e1 _ rfl]
  rfl

theorem final9 (c : Dev nD) : (dats m (ok m) 0 c).arrAt 9 (cfgM m (ok m)).N = M (m ((c.tc : Thread nD τ).loc main_arg0)) (m ((c.tc : Thread nD τ).loc main_arg1)) (m ((c.tc : Thread nD τ).loc main_arg3)) := by
  refine (dats m (ok m) 0 c).arrAt_eq_of_covers 9 _ (covers9 m) fun t hf y => ?_
  blk_simp
  rw [after0_9]
  refine at9 m c t y _ ?_ ?_
  · exact pos9_0 m t y
  · exact pos9_1 m t y

theorem outs10 (c : Dev nD) (t : Fin (cfgM m (ok m)).N) : (outsAt0 m (ok m) c t).2.2.2 = k0_pay4 (iblk m (ok m) c 0 t) (iblk m (ok m) c 1 t) (iblk m (ok m) c 2 t) (iblk m (ok m) c 3 t) (iblk m (ok m) c 6 t) := by
  unfold outsAt0
  dsimp only
  exact out10 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at10 (c : Dev nD) (t : Fin (cfgM m (ok m)).N) (y : S256x2048.Idx) (p : S256x2048.Idx) (e0 : (p 0).val = t.val * 256 + (y 0).val) (e1 : (p 1).val = 0 * 2048 + (y 1).val) :
    (outsAt0 m (ok m) c t).2.2.2 y = W (m ((c.tc : Thread nD τ).loc main_arg0)) (m ((c.tc : Thread nD τ).loc main_arg1)) (m ((c.tc : Thread nD τ).loc main_arg4)) p := by
  refine (congrFun (outs10 m c t) y).trans ?_
  refine (pay4_at _ _ _ _ _ _).trans ?_
  rw [block m c t y p e0 e1 _ _ _ _ rfl rfl rfl rfl, tile6 m c t y p e0 e1 _ rfl]
  rfl

theorem final10 (c : Dev nD) : (dats m (ok m) 0 c).arrAt 10 (cfgM m (ok m)).N = W (m ((c.tc : Thread nD τ).loc main_arg0)) (m ((c.tc : Thread nD τ).loc main_arg1)) (m ((c.tc : Thread nD τ).loc main_arg4)) := by
  refine (dats m (ok m) 0 c).arrAt_eq_of_covers 10 _ (covers10 m) fun t hf y => ?_
  blk_simp
  rw [after0_10]
  refine at10 m c t y _ ?_ ?_
  · exact pos10_0 m t y
  · exact pos10_1 m t y

end Cert.AdamOutIdeal.Hand

namespace Cert.Hand.AdamOut

open Idealize.ShloMosaic Idealize.ShloMosaic.TcCoe Idealize.SL.Sem
open Cert.AdamOutIdeal Cert.AdamOutRefIdeal.Read

theorem ref_grad (a b : FVec Ideal S4x256x2048 .bf16) (y : S256x2048.Idx) : val_main_v14 (F := Ideal) a b y = AdamOutIdeal.Hand.grad a b y := by
  simp only [val_main_v14_apply, val_main_v10_apply, val_main_v6_apply, val_main_v2_apply, val_main_v1_apply, val_main_v0_apply, val_main_v5_apply,
    val_main_v4_apply, val_main_v3_apply, val_main_v9_apply, val_main_v8_apply, val_main_v7_apply, val_main_v13_apply, val_main_v12_apply, val_main_v11_apply]
  unfold AdamOutIdeal.Hand.grad
  have h0 : (y 0).val < 256 := (y 0).isLt
  have h1 : (y 1).val < 2048 := (y 1).isLt
  have e0 : idx_main_v0 (idx_main_v1 y) = ix3 0 (y 0) (y 1) := ext3 (by dsimp [idx_main_v0, idx_main_v1]) (by dsimp [idx_main_v0, idx_main_v1]; omega) (by dsimp [idx_main_v0, idx_main_v1]; omega)
  have e1 : idx_main_v3 (idx_main_v4 y) = ix3 1 (y 0) (y 1) := ext3 (by dsimp [idx_main_v3, idx_main_v4]) (by dsimp [idx_main_v3, idx_main_v4]; omega) (by dsimp [idx_main_v3, idx_main_v4]; omega)
  have e2 : idx_main_v7 (idx_main_v8 y) = ix3 2 (y 0) (y 1) := ext3 (by dsimp [idx_main_v7, idx_main_v8]) (by dsimp [idx_main_v7, idx_main_v8]; omega) (by dsimp [idx_main_v7, idx_main_v8]; omega)
  have e3 : idx_main_v11 (idx_main_v12 y) = ix3 3 (y 0) (y 1) := ext3 (by dsimp [idx_main_v11, idx_main_v12]) (by dsimp [idx_main_v11, idx_main_v12]; omega) (by dsimp [idx_main_v11, idx_main_v12]; omega)
  rw [e0, e1, e2, e3]
  exact congrArg (fun s : EReal => s + b (ix3 3 (y 0) (y 1))) (add_right_comm (a (ix3 0 (y 0) (y 1)) : EReal) (b (ix3 1 (y 0) (y 1))) (b (ix3 2 (y 0) (y 1))))

theorem grad_eq (a b : FVec Ideal S4x256x2048 .bf16) : val_main_v14 (F := Ideal) a b = AdamOutIdeal.Hand.G a b := funext (ref_grad a b)

theorem first_eq (a b : FVec Ideal S4x256x2048 .bf16) (u : FVec Ideal S256x2048 .f32) : val_main_v19 (F := Ideal) a b u = AdamOutIdeal.Hand.M a b u := by
  funext y
  unfold AdamOutIdeal.Hand.M
  rw [← ref_grad]
  rfl

theorem second_eq (a b : FVec Ideal S4x256x2048 .bf16) (v : FVec Ideal S256x2048 .f32) : val_main_v25 (F := Ideal) a b v = AdamOutIdeal.Hand.W a b v := by
  funext y
  unfold AdamOutIdeal.Hand.W
  rw [← ref_grad]
  rfl

theorem change_eq (a b : FVec Ideal S4x256x2048 .bf16) (w u v : FVec Ideal S256x2048 .f32) : val_main_v38 (F := Ideal) a b w u v = AdamOutIdeal.Hand.D a b w u v := by
  funext y
  unfold AdamOutIdeal.Hand.D
  rw [← ref_grad]
  rfl

theorem frame_k : Cert.quiescent_AdamOut (hAdamOut := Cert.AdamOut.Gen.facts) := fun m ρ _ => Cert.AdamOut.Gen.frame m ρ (Cert.AdamOut.Hand.ok m)

theorem frame_i : Cert.quiescent_AdamOutIdeal (hAdamOutIdeal := Cert.AdamOutIdeal.Gen.facts) := fun m ρ _ => Cert.AdamOutIdeal.Gen.frame m ρ (Cert.AdamOutIdeal.Hand.ok m)

theorem frame_r : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩) (Cert.AdamOutRefIdeal.Value.run (F := Ideal) m ρ)

open Cert.AdamOutIdeal.Gen in
/-- The four results after the run, and the arguments kept. -/
theorem results (m : (ℓ : Loc nD τ sig) → Buf (Elt Ideal) ℓ) (ρ : Dev nD → PrngReg) : θ_run Cert.AdamOutIdeal.defs (onTc (τ := τ) (main (F := Ideal))) ⟨m, fun _ => 0, ρ⟩ (fun r => ∀ c : Dev nD,
      (r.2.mem ((c.tc : Thread nD τ).loc main_v6_0) = AdamOutIdeal.Hand.G (m ((c.tc : Thread nD τ).loc main_arg0)) (m ((c.tc : Thread nD τ).loc main_arg1))
      ∧ r.2.mem ((c.tc : Thread nD τ).loc main_v6_1) = AdamOutIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamOutIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamOutIdeal.Hand.W (m ((c.tc : Thread nD τ).loc main_arg0)) (m ((c.tc : Thread nD τ).loc main_arg1)) (m ((c.tc : Thread nD τ).loc main_arg4)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))) := by
  have h₁ : θ_run Cert.AdamOutIdeal.defs (onTc (τ := τ) (main (F := Ideal))) ⟨m, fun _ => 0, ρ⟩ (fun r => ∀ c : Dev nD,
      r.2.mem ((c.tc : Thread nD τ).loc main_v6_0) = AdamOutIdeal.Hand.G (m ((c.tc : Thread nD τ).loc main_arg0)) (m ((c.tc : Thread nD τ).loc main_arg1))
      ∧ r.2.mem ((c.tc : Thread nD τ).loc main_v6_1) = AdamOutIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamOutIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamOutIdeal.Hand.W (m ((c.tc : Thread nD τ).loc main_arg0)) (m ((c.tc : Thread nD τ).loc main_arg1)) (m ((c.tc : Thread nD τ).loc main_arg4))) :=
    (θ_run Cert.AdamOutIdeal.defs _ _).mono (fun r h c => ⟨((h c).1 7).trans (Hand.final7 m c), ((h c).1 8).trans (Hand.final8 m c),
      ((h c).1 9).trans (Hand.final9 m c), ((h c).1 10).trans (Hand.final10 m c)⟩) (run_main m ρ (AdamOutIdeal.Hand.ok m))
  exact (θ_run Cert.AdamOutIdeal.defs _ _).mono (fun r h c => ⟨h.1 c, h.2 c⟩) (θ_run_and h₁ (unchanged m ρ (AdamOutIdeal.Hand.ok m)))

theorem values : Cert.algebraic_AdamOutIdeal_AdamOutRefIdeal (hAdamOutIdeal := Cert.AdamOutIdeal.Gen.facts) (hAdamOutRefIdeal := Cert.AdamOutRefIdeal.Gen.facts) := by
  intro m g m' g' _ hagree
  refine ⟨fun c => AdamOutIdeal.Hand.G (m ((c.tc : Thread nD τ).loc main_arg0)) (m ((c.tc : Thread nD τ).loc main_arg1)),
    fun c => AdamOutIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => AdamOutIdeal.Hand.M (m ((c.tc : Thread nD τ).loc main_arg0)) (m ((c.tc : Thread nD τ).loc main_arg1)) (m ((c.tc : Thread nD τ).loc main_arg3)),
    fun c => AdamOutIdeal.Hand.W (m ((c.tc : Thread nD τ).loc main_arg0)) (m ((c.tc : Thread nD τ).loc main_arg1)) (m ((c.tc : Thread nD τ).loc main_arg4)),
    (θ_run Cert.AdamOutIdeal.defs _ _).mono (fun _ h c => ⟨(h c).1.1, (h c).1.2.1, (h c).1.2.2.1, (h c).1.2.2.2, (h c).2⟩) (results m g),
    (θ_run Cert.AdamOutRefIdeal.defs _ _).mono (fun r h c => ⟨(h c).1.trans ?_, (h c).2.1.trans ?_, (h c).2.2.1.trans ?_, (h c).2.2.2.1.trans ?_, (h c).2.2.2.2⟩) (Cert.AdamOutRefIdeal.Value.run (F := Ideal) m' g')⟩
  all_goals obtain ⟨a0, a1, a2, a3, a4⟩ := hagree c
  · rw [val_main_v14_eq, a0, a1]
    exact grad_eq _ _
  · rw [val_main_v38_eq, a0, a1, a2, a3, a4]
    exact change_eq _ _ _ _ _
  · rw [val_main_v19_eq, a0, a1, a3]
    exact first_eq _ _ _
  · rw [val_main_v25_eq, a0, a1, a4]
    exact second_eq _ _ _

end Cert.Hand.AdamOut

end
-- ==== Proof.AdamInValue.lean ====
/- The update of one device's part of a weight, `AdamIn`: the sum of the four chips' gradients and AdamW's step. -/
module

public import proofs.«01_k».proof.Proof.Whole
public import proofs.«01_k».proof.Proof.Update
public import proofs.«01_k».proof.Proof.Gen.AdamInIdeal.Frame
public import proofs.«01_k».proof.Proof.Gen.AdamIn.Frame
public import proofs.«01_k».proof.Proof.Gen.AdamInRefIdeal.Read
public import proofs.«01_k».proof.Proof.Gen.AdamInRefIdeal
public import proofs.«01_k».proof.Defs

@[expose] public section

set_option maxRecDepth 16384

noncomputable section

namespace Cert.AdamIn.Hand

open Idealize.ShloMosaic Idealize.ShloMosaic.TcCoe Idealize.ShloMosaic.Tactic Idealize.SL.Sem
open Cert.AdamIn Cert.AdamIn.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

end Cert.AdamIn.Hand

namespace Cert.AdamInIdeal.Hand

open Idealize.ShloMosaic Idealize.ShloMosaic.TcCoe Idealize.ShloMosaic.Tactic Idealize.SL.Sem
open Cert.AdamInIdeal Cert.AdamInIdeal.Gen Cert.Hand

section table

variable {F : FTy → Type} [FloatOps F] (m : (ℓ : Loc nD τ sig) → Buf (Elt F) ℓ)

/-! The table's four words, which choose the pieces: 0, 2, 1, 3. -/

theorem word0 : (tbl m).at 0 (Rect.unit (s := S4) ![0] S1.size inb_S4_S1_0) numel1_S1 = 0#32 := rfl
theorem word1 : (tbl m).at 0 (Rect.unit (s := S4) ![1] S1.size inb_S4_S1_1) numel1_S1 = 2#32 := rfl
theorem word2 : (tbl m).at 0 (Rect.unit (s := S4) ![2] S1.size inb_S4_S1_2) numel1_S1 = 1#32 := rfl
theorem word3 : (tbl m).at 0 (Rect.unit (s := S4) ![3] S1.size inb_S4_S1_3) numel1_S1 = 3#32 := rfl

theorem ix_0 : cc0_transform_0 inb_S4_S1_0 numel1_S1 (tbl m) = fun i => ![0, (BitVec.ofNat 32 (i 0).val).toNat, (BitVec.ofNat 32 (i 1).val).toNat] := by
  funext i
  unfold cc0_transform_0
  rw [word0]
  rfl

theorem ix_1 : cc0_transform_1 inb_S4_S1_1 numel1_S1 (tbl m) = fun i => ![2, (BitVec.ofNat 32 (i 0).val).toNat, (BitVec.ofNat 32 (i 1).val).toNat] := by
  funext i
  unfold cc0_transform_1
  rw [word1]
  rfl

theorem ix_2 : cc0_transform_2 inb_S4_S1_2 numel1_S1 (tbl m) = fun i => ![1, (BitVec.ofNat 32 (i 0).val).toNat, (BitVec.ofNat 32 (i 1).val).toNat] := by
  funext i
  unfold cc0_transform_2
  rw [word2]
  rfl

theorem ix_3 : cc0_transform_3 inb_S4_S1_3 numel1_S1 (tbl m) = fun i => ![3, (BitVec.ofNat 32 (i 0).val).toNat, (BitVec.ofNat 32 (i 1).val).toNat] := by
  funext i
  unfold cc0_transform_3
  rw [word3]
  rfl

/-- So every block lies inside its array. -/
theorem ok : Ok m := by
  unfold Ok ok0
  rw [ix_0, ix_1, ix_2, ix_3]
  decide +kernel

end table

theorem out7 {F : FTy → Type} [FloatOps F] (c : Dev nD) (i : grid0.Coords)
    (a3 : Memref sig .tc .vmem S1x577x512 .bf16) (h3 : a3.IsWhole) (a4 : Memref sig .tc .vmem S1x577x512 .bf16) (h4 : a4.IsWhole) (a5 : Memref sig .tc .vmem S1x577x512 .bf16) (h5 : a5.IsWhole) (a6 : Memref sig .tc .vmem S1x577x512 .bf16) (h6 : a6.IsWhole)
    (a7 : Memref sig .tc .vmem S577x512 .f32) (h7 : a7.IsWhole) (a8 : Memref sig .tc .vmem S577x512 .f32) (h8 : a8.IsWhole) (a9 : Memref sig .tc .vmem S577x512 .f32) (h9 : a9.IsWhole) (a10 : Memref sig .tc .vmem S577x512 .f32) (h10 : a10.IsWhole) (a11 : Memref sig .tc .vmem S577x512 .f32) (h11 : a11.IsWhole) (a12 : Memref sig .tc .vmem S577x512 .f32) (h12 : a12.IsWhole) (a13 : Memref sig .tc .vmem S577x512 .f32) (h13 : a13.IsWhole)
    (x0 x1 x2 x3 : Vec F S1x577x512 .bf16) (x4 x5 x6 : Vec F S577x512 .f32) (xt : TbBuf0 (F := F) c tbM0_0) :
    out0_A_7 c i a3 h3 a4 h4 a5 h5 a6 h6 a7 h7 a8 h8 a9 h9 a10 h10 a11 h11 a12 h12 a13 h13 x0 x1 x2 x3 x4 x5 x6 xt = k0_pay2 x0 x1 x2 x3 := by
  unfold out0_A_7
  rw [View.read_writes_eq_canon _ _ _ (cover0_A_7 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x577x512) start3, View.ld_unit_zero (S := S577x512) start2]

theorem out8 {F : FTy → Type} [FloatOps F] (c : Dev nD) (i : grid0.Coords)
    (a3 : Memref sig .tc .vmem S1x577x512 .bf16) (h3 : a3.IsWhole) (a4 : Memref sig .tc .vmem S1x577x512 .bf16) (h4 : a4.IsWhole) (a5 : Memref sig .tc .vmem S1x577x512 .bf16) (h5 : a5.IsWhole) (a6 : Memref sig .tc .vmem S1x577x512 .bf16) (h6 : a6.IsWhole)
    (a7 : Memref sig .tc .vmem S577x512 .f32) (h7 : a7.IsWhole) (a8 : Memref sig .tc .vmem S577x512 .f32) (h8 : a8.IsWhole) (a9 : Memref sig .tc .vmem S577x512 .f32) (h9 : a9.IsWhole) (a10 : Memref sig .tc .vmem S577x512 .f32) (h10 : a10.IsWhole) (a11 : Memref sig .tc .vmem S577x512 .f32) (h11 : a11.IsWhole) (a12 : Memref sig .tc .vmem S577x512 .f32) (h12 : a12.IsWhole) (a13 : Memref sig .tc .vmem S577x512 .f32) (h13 : a13.IsWhole)
    (x0 x1 x2 x3 : Vec F S1x577x512 .bf16) (x4 x5 x6 : Vec F S577x512 .f32) (xt : TbBuf0 (F := F) c tbM0_0) :
    out0_A_8 c i a3 h3 a4 h4 a5 h5 a6 h6 a7 h7 a8 h8 a9 h9 a10 h10 a11 h11 a12 h12 a13 h13 x0 x1 x2 x3 x4 x5 x6 xt = k0_pay1 x4 (k0_pay4 x0 x1 x2 x3 x6) (k0_pay5 x0 x1 x2 x3 x5) := by
  unfold out0_A_8
  rw [View.read_writes_eq_canon _ _ _ (cover0_A_8 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x577x512) start3, View.ld_unit_zero (S := S577x512) start2]

theorem out9 {F : FTy → Type} [FloatOps F] (c : Dev nD) (i : grid0.Coords)
    (a3 : Memref sig .tc .vmem S1x577x512 .bf16) (h3 : a3.IsWhole) (a4 : Memref sig .tc .vmem S1x577x512 .bf16) (h4 : a4.IsWhole) (a5 : Memref sig .tc .vmem S1x577x512 .bf16) (h5 : a5.IsWhole) (a6 : Memref sig .tc .vmem S1x577x512 .bf16) (h6 : a6.IsWhole)
    (a7 : Memref sig .tc .vmem S577x512 .f32) (h7 : a7.IsWhole) (a8 : Memref sig .tc .vmem S577x512 .f32) (h8 : a8.IsWhole) (a9 : Memref sig .tc .vmem S577x512 .f32) (h9 : a9.IsWhole) (a10 : Memref sig .tc .vmem S577x512 .f32) (h10 : a10.IsWhole) (a11 : Memref sig .tc .vmem S577x512 .f32) (h11 : a11.IsWhole) (a12 : Memref sig .tc .vmem S577x512 .f32) (h12 : a12.IsWhole) (a13 : Memref sig .tc .vmem S577x512 .f32) (h13 : a13.IsWhole)
    (x0 x1 x2 x3 : Vec F S1x577x512 .bf16) (x4 x5 x6 : Vec F S577x512 .f32) (xt : TbBuf0 (F := F) c tbM0_0) :
    out0_A_9 c i a3 h3 a4 h4 a5 h5 a6 h6 a7 h7 a8 h8 a9 h9 a10 h10 a11 h11 a12 h12 a13 h13 x0 x1 x2 x3 x4 x5 x6 xt = k0_pay3 x0 x1 x2 x3 x5 := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x577x512) start3, View.ld_unit_zero (S := S577x512) start2]

theorem out10 {F : FTy → Type} [FloatOps F] (c : Dev nD) (i : grid0.Coords)
    (a3 : Memref sig .tc .vmem S1x577x512 .bf16) (h3 : a3.IsWhole) (a4 : Memref sig .tc .vmem S1x577x512 .bf16) (h4 : a4.IsWhole) (a5 : Memref sig .tc .vmem S1x577x512 .bf16) (h5 : a5.IsWhole) (a6 : Memref sig .tc .vmem S1x577x512 .bf16) (h6 : a6.IsWhole)
    (a7 : Memref sig .tc .vmem S577x512 .f32) (h7 : a7.IsWhole) (a8 : Memref sig .tc .vmem S577x512 .f32) (h8 : a8.IsWhole) (a9 : Memref sig .tc .vmem S577x512 .f32) (h9 : a9.IsWhole) (a10 : Memref sig .tc .vmem S577x512 .f32) (h10 : a10.IsWhole) (a11 : Memref sig .tc .vmem S577x512 .f32) (h11 : a11.IsWhole) (a12 : Memref sig .tc .vmem S577x512 .f32) (h12 : a12.IsWhole) (a13 : Memref sig .tc .vmem S577x512 .f32) (h13 : a13.IsWhole)
    (x0 x1 x2 x3 : Vec F S1x577x512 .bf16) (x4 x5 x6 : Vec F S577x512 .f32) (xt : TbBuf0 (F := F) c tbM0_0) :
    out0_A_10 c i a3 h3 a4 h4 a5 h5 a6 h6 a7 h7 a8 h8 a9 h9 a10 h10 a11 h11 a12 h12 a13 h13 x0 x1 x2 x3 x4 x5 x6 xt = k0_pay4 x0 x1 x2 x3 x6 := by
  unfold out0_A_10
  rw [View.read_writes_eq_canon _ _ _ (cover0_A_10 c i a3 h3 a4 h4 a5 h5 a6 h6 a7 h7 a8 h8 a9 h9 a10 h10 a11 h11 a12 h12 a13 h13 x0 x1 x2 x3 x4 x5 x6 xt)]
  unfold kernelRun0_A
  dsimp only
  sl_unfold_words
  rw [View.canon_unit_zero start2]
  simp only [View.readAt_eq_ld, h3.read_unread, h4.read_unread, h5.read_unread, h6.read_unread, h7.read_unread, h8.read_unread, h9.read_unread,
    View.ld_unit_zero (S := S1x577x512) start3, View.ld_unit_zero (S := S577x512) start2]

theorem pay2_at (x0 x1 x2 x3 : Vec Ideal S1x577x512 .bf16) (i : Fin 577) (j : Fin 512) :
    k0_pay2 x0 x1 x2 x3 (ix2 i j) = (x0 (ix3 0 i j) + x1 (ix3 0 i j) + x2 (ix3 0 i j) + x3 (ix3 0 i j) : EReal) := by
  pointwise [k0_pay2]

theorem pay3_at (x0 x1 x2 x3 : Vec Ideal S1x577x512 .bf16) (x5 : Vec Ideal S577x512 .f32) (y : S577x512.Idx) :
    k0_pay3 x0 x1 x2 x3 x5 y = Update.first (k0_pay2 x0 x1 x2 x3 y) (x5 y) := rfl

theorem pay4_at (x0 x1 x2 x3 : Vec Ideal S1x577x512 .bf16) (x6 : Vec Ideal S577x512 .f32) (y : S577x512.Idx) :
    k0_pay4 x0 x1 x2 x3 x6 y = Update.second (k0_pay2 x0 x1 x2 x3 y) (x6 y) := rfl

theorem pay1_at (x0 x1 x2 x3 : Vec Ideal S1x577x512 .bf16) (x4 x5 x6 : Vec Ideal S577x512 .f32) (y : S577x512.Idx) :
    k0_pay1 x4 (k0_pay4 x0 x1 x2 x3 x6) (k0_pay5 x0 x1 x2 x3 x5) y = Update.change (x4 y) (k0_pay2 x0 x1 x2 x3 y) (x5 y) (x6 y) := rfl

/-- The gradient: the chip's own piece and the three others. -/
def grad (a b : FVec Ideal S4x577x2048 .bf16) (y : S577x2048.Idx) : EReal :=
  a (ix3 0 (y 0) (y 1)) + b (ix3 2 (y 0) (y 1)) + b (ix3 1 (y 0) (y 1)) + b (ix3 3 (y 0) (y 1))

variable (m : (ℓ : Loc nD τ sig) → Buf (Elt Ideal) ℓ)

theorem idx0 (t : Fin (cfgM m (ok m)).N) : ((cfgM m (ok m)).win 0).index t = ![0, 0, t.val] := by
  show cc0_transform_0 inb_S4_S1_0 numel1_S1 (tbl m) (grid0.coords t) = _
  rw [ix_0]
  exact (by decide +kernel : ∀ t : Fin grid0.N, (![0, (BitVec.ofNat 32 (grid0.coords t 0).val).toNat, (BitVec.ofNat 32 (grid0.coords t 1).val).toNat] : Fin 3 → ℕ) = ![0, 0, t.val]) t

theorem idx1 (t : Fin (cfgM m (ok m)).N) : ((cfgM m (ok m)).win 1).index t = ![2, 0, t.val] := by
  show cc0_transform_1 inb_S4_S1_1 numel1_S1 (tbl m) (grid0.coords t) = _
  rw [ix_1]
  exact (by decide +kernel : ∀ t : Fin grid0.N, (![2, (BitVec.ofNat 32 (grid0.coords t 0).val).toNat, (BitVec.ofNat 32 (grid0.coords t 1).val).toNat] : Fin 3 → ℕ) = ![2, 0, t.val]) t

theorem idx2 (t : Fin (cfgM m (ok m)).N) : ((cfgM m (ok m)).win 2).index t = ![1, 0, t.val] := by
  show cc0_transform_2 inb_S4_S1_2 numel1_S1 (tbl m) (grid0.coords t) = _
  rw [ix_2]
  exact (by decide +kernel : ∀ t : Fin grid0.N, (![1, (BitVec.ofNat 32 (grid0.coords t 0).val).toNat, (BitVec.ofNat 32 (grid0.coords t 1).val).toNat] : Fin 3 → ℕ) = ![1, 0, t.val]) t

theorem idx3 (t : Fin (cfgM m (ok m)).N) : ((cfgM m (ok m)).win 3).index t = ![3, 0, t.val] := by
  show cc0_transform_3 inb_S4_S1_3 numel1_S1 (tbl m) (grid0.coords t) = _
  rw [ix_3]
  exact (by decide +kernel : ∀ t : Fin grid0.N, (![3, (BitVec.ofNat 32 (grid0.coords t 0).val).toNat, (BitVec.ofNat 32 (grid0.coords t 1).val).toNat] : Fin 3 → ℕ) = ![3, 0, t.val]) t

theorem idx4 (t : Fin (cfgM m (ok m)).N) : ((cfgM m (ok m)).win 4).index t = ![0, t.val] :=
  (by decide +kernel : ∀ t : Fin grid0.N, cc0_transform_4 (grid0.coords t) = ![0, t.val]) t

theorem idx5 (t : Fin (cfgM m (ok m)).N) : ((cfgM m (ok m)).win 5).index t = ![0, t.val] :=
  (by decide +kernel : ∀ t : Fin grid0.N, cc0_transform_5 (grid0.coords t) = ![0, t.val]) t

theorem idx6 (t : Fin (cfgM m (ok m)).N) : ((cfgM m (ok m)).win 6).index t = ![0, t.val] :=
  (by decide +kernel : ∀ t : Fin grid0.N, cc0_transform_6 (grid0.coords t) = ![0, t.val]) t

theorem idx7 (t : Fin (cfgM m (ok m)).N) : ((cfgM m (ok m)).win 7).index t = ![0, t.val] :=
  (by decide +kernel : ∀ t : Fin grid0.N, cc0_transform_7 (grid0.coords t) = ![0, t.val]) t

theorem idx8 (t : Fin (cfgM m (ok m)).N) : ((cfgM m (ok m)).win 8).index t = ![0, t.val] :=
  (by decide +kernel : ∀ t : Fin grid0.N, cc0_transform_8 (grid0.coords t) = ![0, t.val]) t

theorem idx9 (t : Fin (cfgM m (ok m)).N) : ((cfgM m (ok m)).win 9).index t = ![0, t.val] :=
  (by decide +kernel : ∀ t : Fin grid0.N, cc0_transform_9 (grid0.coords t) = ![0, t.val]) t

theorem idx10 (t : Fin (cfgM m (ok m)).N) : ((cfgM m (ok m)).win 10).index t = ![0, t.val] :=
  (by decide +kernel : ∀ t : Fin grid0.N, cc0_transform_10 (grid0.coords t) = ![0, t.val]) t

theorem pos4_0 (t : Fin (cfgM m (ok m)).N) (y : S577x512.Idx) : (((((cfgM m (ok m)).win 4).rect t).emb y (0 : Fin 2) : Fin 577) : ℕ) = 0 * 577 + (y 0).val :=
  (Pipeline.Window.rect_emb_val ((cfgM m (ok m)).win 4) t y (0 : Fin 2) rfl).trans (congrArg (fun n : ℕ => n * 577 + (y 0).val) (congrFun (idx4 m t) (0 : Fin 2)))

theorem pos4_1 (t : Fin (cfgM m (ok m)).N) (y : S577x512.Idx) : (((((cfgM m (ok m)).win 4).rect t).emb y (1 : Fin 2) : Fin 2048) : ℕ) = t.val * 512 + (y 1).val :=
  (Pipeline.Window.rect_emb_val ((cfgM m (ok m)).win 4) t y (1 : Fin 2) rfl).trans (congrArg (fun n : ℕ => n * 512 + (y 1).val) (congrFun (idx4 m t) (1 : Fin 2)))

theorem pos5_0 (t : Fin (cfgM m (ok m)).N) (y : S577x512.Idx) : (((((cfgM m (ok m)).win 5).rect t).emb y (0 : Fin 2) : Fin 577) : ℕ) = 0 * 577 + (y 0).val :=
  (Pipeline.Window.rect_emb_val ((cfgM m (ok m)).win 5) t y (0 : Fin 2) rfl).trans (congrArg (fun n : ℕ => n * 577 + (y 0).val) (congrFun (idx5 m t) (0 : Fin 2)))

theorem pos5_1 (t : Fin (cfgM m (ok m)).N) (y : S577x512.Idx) : (((((cfgM m (ok m)).win 5).rect t).emb y (1 : Fin 2) : Fin 2048) : ℕ) = t.val * 512 + (y 1).val :=
  (Pipeline.Window.rect_emb_val ((cfgM m (ok m)).win 5) t y (1 : Fin 2) rfl).trans (congrArg (fun n : ℕ => n * 512 + (y 1).val) (congrFun (idx5 m t) (1 : Fin 2)))

theorem pos6_0 (t : Fin (cfgM m (ok m)).N) (y : S577x512.Idx) : (((((cfgM m (ok m)).win 6).rect t).emb y (0 : Fin 2) : Fin 577) : ℕ) = 0 * 577 + (y 0).val :=
  (Pipeline.Window.rect_emb_val ((cfgM m (ok m)).win 6) t y (0 : Fin 2) rfl).trans (congrArg (fun n : ℕ => n * 577 + (y 0).val) (congrFun (idx6 m t) (0 : Fin 2)))

theorem pos6_1 (t : Fin (cfgM m (ok m)).N) (y : S577x512.Idx) : (((((cfgM m (ok m)).win 6).rect t).emb y (1 : Fin 2) : Fin 2048) : ℕ) = t.val * 512 + (y 1).val :=
  (Pipeline.Window.rect_emb_val ((cfgM m (ok m)).win 6) t y (1 : Fin 2) rfl).trans (congrArg (fun n : ℕ => n * 512 + (y 1).val) (congrFun (idx6 m t) (1 : Fin 2)))

theorem pos7_0 (t : Fin (cfgM m (ok m)).N) (y : S577x512.Idx) : (((((cfgM m (ok m)).win 7).rect t).emb y (0 : Fin 2) : Fin 577) : ℕ) = 0 * 577 + (y 0).val :=
  (Pipeline.Window.rect_emb_val ((cfgM m (ok m)).win 7) t y (0 : Fin 2) rfl).trans (congrArg (fun n : ℕ => n * 577 + (y 0).val) (congrFun (idx7 m t) (0 : Fin 2)))

theorem pos7_1 (t : Fin (cfgM m (ok m)).N) (y : S577x512.Idx) : (((((cfgM m (ok m)).win 7).rect t).emb y (1 : Fin 2) : Fin 2048) : ℕ) = t.val * 512 + (y 1).val :=
  (Pipeline.Window.rect_emb_val ((cfgM m (ok m)).win 7) t y (1 : Fin 2) rfl).trans (congrArg (fun n : ℕ => n * 512 + (y 1).val) (congrFun (idx7 m t) (1 : Fin 2)))

theorem pos8_0 (t : Fin (cfgM m (ok m)).N) (y : S577x512.Idx) : (((((cfgM m (ok m)).win 8).rect t).emb y (0 : Fin 2) : Fin 577) : ℕ) = 0 * 577 + (y 0).val :=
  (Pipeline.Window.rect_emb_val ((cfgM m (ok m)).win 8) t y (0 : Fin 2) rfl).trans (congrArg (fun n : ℕ => n * 577 + (y 0).val) (congrFun (idx8 m t) (0 : Fin 2)))

theorem pos8_1 (t : Fin (cfgM m (ok m)).N) (y : S577x512.Idx) : (((((cfgM m (ok m)).win 8).rect t).emb y (1 : Fin 2) : Fin 2048) : ℕ) = t.val * 512 + (y 1).val :=
  (Pipeline.Window.rect_emb_val ((cfgM m (ok m)).win 8) t y (1 : Fin 2) rfl).trans (congrArg (fun n : ℕ => n * 512 + (y 1).val) (congrFun (idx8 m t) (1 : Fin 2)))

theorem pos9_0 (t : Fin (cfgM m (ok m)).N) (y : S577x512.Idx) : (((((cfgM m (ok m)).win 9).rect t).emb y (0 : Fin 2) : Fin 577) : ℕ) = 0 * 577 + (y 0).val :=
  (Pipeline.Window.rect_emb_val ((cfgM m (ok m)).win 9) t y (0 : Fin 2) rfl).trans (congrArg (fun n : ℕ => n * 577 + (y 0).val) (congrFun (idx9 m t) (0 : Fin 2)))

theorem pos9_1 (t : Fin (cfgM m (ok m)).N) (y : S577x512.Idx) : (((((cfgM m (ok m)).win 9).rect t).emb y (1 : Fin 2) : Fin 2048) : ℕ) = t.val * 512 + (y 1).val :=
  (Pipeline.Window.rect_emb_val ((cfgM m (ok m)).win 9) t y (1 : Fin 2) rfl).trans (congrArg (fun n : ℕ => n * 512 + (y 1).val) (congrFun (idx9 m t) (1 : Fin 2)))

theorem pos10_0 (t : Fin (cfgM m (ok m)).N) (y : S577x512.Idx) : (((((cfgM m (ok m)).win 10).rect t).emb y (0 : Fin 2) : Fin 577) : ℕ) = 0 * 577 + (y 0).val :=
  (Pipeline.Window.rect_emb_val ((cfgM m (ok m)).win 10) t y (0 : Fin 2) rfl).trans (congrArg (fun n : ℕ => n * 577 + (y 0).val) (congrFun (idx10 m t) (0 : Fin 2)))

theorem pos10_1 (t : Fin (cfgM m (ok m)).N) (y : S577x512.Idx) : (((((cfgM m (ok m)).win 10).rect t).emb y (1 : Fin 2) : Fin 2048) : ℕ) = t.val * 512 + (y 1).val :=
  (Pipeline.Window.rect_emb_val ((cfgM m (ok m)).win 10) t y (1 : Fin 2) rfl).trans (congrArg (fun n : ℕ => n * 512 + (y 1).val) (congrFun (idx10 m t) (1 : Fin 2)))

theorem covers7 : ((cfgM m (ok m)).win 7).Covers := of_decide_eq_true (by sl_kernel_rfl)

theorem covers8 : ((cfgM m (ok m)).win 8).Covers := of_decide_eq_true (by sl_kernel_rfl)

theorem covers9 : ((cfgM m (ok m)).win 9).Covers := of_decide_eq_true (by sl_kernel_rfl)

theorem covers10 : ((cfgM m (ok m)).win 10).Covers := of_decide_eq_true (by sl_kernel_rfl)

theorem piece0 (c : Dev nD) (t : Fin (cfgM m (ok m)).N) (y : S577x512.Idx) (p : S577x2048.Idx) (e0 : (p 0).val = 0 * 577 + (y 0).val) (e1 : (p 1).val = t.val * 512 + (y 1).val)
    (x : Vec Ideal S1x577x512 .bf16) (h : x = iblk m (ok m) c 0 t) :
    x (ix3 0 (y 0) (y 1)) = m ((c.tc : Thread nD τ).loc main_arg0) (ix3 0 (p 0) (p 1)) := by
  subst h
  refine (congrFun (V_main_arg0 m c) (((cfgM m (ok m)).win 0).rect t |>.emb (ix3 0 (y 0) (y 1) : S1x577x512.Idx))).trans (congrArg (m ((c.tc : Thread nD τ).loc main_arg0)) (ext3 ?_ ?_ ?_))
  · exact (Pipeline.Window.rect_emb_val ((cfgM m (ok m)).win 0) t (ix3 0 (y 0) (y 1) : S1x577x512.Idx) (0 : Fin 3) rfl).trans (congrArg (fun n : ℕ => n * 1 + 0) (congrFun (idx0 m t) (0 : Fin 3)))
  · exact ((Pipeline.Window.rect_emb_val ((cfgM m (ok m)).win 0) t (ix3 0 (y 0) (y 1) : S1x577x512.Idx) (1 : Fin 3) rfl).trans (congrArg (fun n : ℕ => n * 577 + (y 0).val) (congrFun (idx0 m t) (1 : Fin 3)))).trans e0.symm
  · exact ((Pipeline.Window.rect_emb_val ((cfgM m (ok m)).win 0) t (ix3 0 (y 0) (y 1) : S1x577x512.Idx) (2 : Fin 3) rfl).trans (congrArg (fun n : ℕ => n * 512 + (y 1).val) (congrFun (idx0 m t) (2 : Fin 3)))).trans e1.symm

theorem piece1 (c : Dev nD) (t : Fin (cfgM m (ok m)).N) (y : S577x512.Idx) (p : S577x2048.Idx) (e0 : (p 0).val = 0 * 577 + (y 0).val) (e1 : (p 1).val = t.val * 512 + (y 1).val)
    (x : Vec Ideal S1x577x512 .bf16) (h : x = iblk m (ok m) c 1 t) :
    x (ix3 0 (y 0) (y 1)) = m ((c.tc : Thread nD τ).loc main_arg1) (ix3 2 (p 0) (p 1)) := by
  subst h
  refine (congrFun (V_main_arg1 m c) (((cfgM m (ok m)).win 1).rect t |>.emb (ix3 0 (y 0) (y 1) : S1x577x512.Idx))).trans (congrArg (m ((c.tc : Thread nD τ).loc main_arg1)) (ext3 ?_ ?_ ?_))
  · exact (Pipeline.Window.rect_emb_val ((cfgM m (ok m)).win 1) t (ix3 0 (y 0) (y 1) : S1x577x512.Idx) (0 : Fin 3) rfl).trans (congrArg (fun n : ℕ => n * 1 + 0) (congrFun (idx1 m t) (0 : Fin 3)))
  · exact ((Pipeline.Window.rect_emb_val ((cfgM m (ok m)).win 1) t (ix3 0 (y 0) (y 1) : S1x577x512.Idx) (1 : Fin 3) rfl).trans (congrArg (fun n : ℕ => n * 577 + (y 0).val) (congrFun (idx1 m t) (1 : Fin 3)))).trans e0.symm
  · exact ((Pipeline.Window.rect_emb_val ((cfgM m (ok m)).win 1) t (ix3 0 (y 0) (y 1) : S1x577x512.Idx) (2 : Fin 3) rfl).trans (congrArg (fun n : ℕ => n * 512 + (y 1).val) (congrFun (idx1 m t) (2 : Fin 3)))).trans e1.symm

theorem piece2 (c : Dev nD) (t : Fin (cfgM m (ok m)).N) (y : S577x512.Idx) (p : S577x2048.Idx) (e0 : (p 0).val = 0 * 577 + (y 0).val) (e1 : (p 1).val = t.val * 512 + (y 1).val)
    (x : Vec Ideal S1x577x512 .bf16) (h : x = iblk m (ok m) c 2 t) :
    x (ix3 0 (y 0) (y 1)) = m ((c.tc : Thread nD τ).loc main_arg1) (ix3 1 (p 0) (p 1)) := by
  subst h
  refine (congrFun (V_main_arg1 m c) (((cfgM m (ok m)).win 2).rect t |>.emb (ix3 0 (y 0) (y 1) : S1x577x512.Idx))).trans (congrArg (m ((c.tc : Thread nD τ).loc main_arg1)) (ext3 ?_ ?_ ?_))
  · exact (Pipeline.Window.rect_emb_val ((cfgM m (ok m)).win 2) t (ix3 0 (y 0) (y 1) : S1x577x512.Idx) (0 : Fin 3) rfl).trans (congrArg (fun n : ℕ => n * 1 + 0) (congrFun (idx2 m t) (0 : Fin 3)))
  · exact ((Pipeline.Window.rect_emb_val ((cfgM m (ok m)).win 2) t (ix3 0 (y 0) (y 1) : S1x577x512.Idx) (1 : Fin 3) rfl).trans (congrArg (fun n : ℕ => n * 577 + (y 0).val) (congrFun (idx2 m t) (1 : Fin 3)))).trans e0.symm
  · exact ((Pipeline.Window.rect_emb_val ((cfgM m (ok m)).win 2) t (ix3 0 (y 0) (y 1) : S1x577x512.Idx) (2 : Fin 3) rfl).trans (congrArg (fun n : ℕ => n * 512 + (y 1).val) (congrFun (idx2 m t) (2 : Fin 3)))).trans e1.symm

theorem piece3 (c : Dev nD) (t : Fin (cfgM m (ok m)).N) (y : S577x512.Idx) (p : S577x2048.Idx) (e0 : (p 0).val = 0 * 577 + (y 0).val) (e1 : (p 1).val = t.val * 512 + (y 1).val)
    (x : Vec Ideal S1x577x512 .bf16) (h : x = iblk m (ok m) c 3 t) :
    x (ix3 0 (y 0) (y 1)) = m ((c.tc : Thread nD τ).loc main_arg1) (ix3 3 (p 0) (p 1)) := by
  subst h
  refine (congrFun (V_main_arg1 m c) (((cfgM m (ok m)).win 3).rect t |>.emb (ix3 0 (y 0) (y 1) : S1x577x512.Idx))).trans (congrArg (m ((c.tc : Thread nD τ).loc main_arg1)) (ext3 ?_ ?_ ?_))
  · exact (Pipeline.Window.rect_emb_val ((cfgM m (ok m)).win 3) t (ix3 0 (y 0) (y 1) : S1x577x512.Idx) (0 : Fin 3) rfl).trans (congrArg (fun n : ℕ => n * 1 + 0) (congrFun (idx3 m t) (0 : Fin 3)))
  · exact ((Pipeline.Window.rect_emb_val ((cfgM m (ok m)).win 3) t (ix3 0 (y 0) (y 1) : S1x577x512.Idx) (1 : Fin 3) rfl).trans (congrArg (fun n : ℕ => n * 577 + (y 0).val) (congrFun (idx3 m t) (1 : Fin 3)))).trans e0.symm
  · exact ((Pipeline.Window.rect_emb_val ((cfgM m (ok m)).win 3) t (ix3 0 (y 0) (y 1) : S1x577x512.Idx) (2 : Fin 3) rfl).trans (congrArg (fun n : ℕ => n * 512 + (y 1).val) (congrFun (idx3 m t) (2 : Fin 3)))).trans e1.symm

theorem tile4 (c : Dev nD) (t : Fin (cfgM m (ok m)).N) (y : S577x512.Idx) (p : S577x2048.Idx) (e0 : (p 0).val = 0 * 577 + (y 0).val) (e1 : (p 1).val = t.val * 512 + (y 1).val)
    (x : Vec Ideal S577x512 .f32) (h : x = iblk m (ok m) c 4 t) : x y = m ((c.tc : Thread nD τ).loc main_arg2) p := by
  subst h
  refine (congrFun (V_main_arg2 m c) (((cfgM m (ok m)).win 4).rect t |>.emb y)).trans (congrArg (m ((c.tc : Thread nD τ).loc main_arg2)) (ext2 ?_ ?_))
  · exact (pos4_0 m t y).trans e0.symm
  · exact (pos4_1 m t y).trans e1.symm

theorem tile5 (c : Dev nD) (t : Fin (cfgM m (ok m)).N) (y : S577x512.Idx) (p : S577x2048.Idx) (e0 : (p 0).val = 0 * 577 + (y 0).val) (e1 : (p 1).val = t.val * 512 + (y 1).val)
    (x : Vec Ideal S577x512 .f32) (h : x = iblk m (ok m) c 5 t) : x y = m ((c.tc : Thread nD τ).loc main_arg3) p := by
  subst h
  refine (congrFun (V_main_arg3 m c) (((cfgM m (ok m)).win 5).rect t |>.emb y)).trans (congrArg (m ((c.tc : Thread nD τ).loc main_arg3)) (ext2 ?_ ?_))
  · exact (pos5_0 m t y).trans e0.symm
  · exact (pos5_1 m t y).trans e1.symm

theorem tile6 (c : Dev nD) (t : Fin (cfgM m (ok m)).N) (y : S577x512.Idx) (p : S577x2048.Idx) (e0 : (p 0).val = 0 * 577 + (y 0).val) (e1 : (p 1).val = t.val * 512 + (y 1).val)
    (x : Vec Ideal S577x512 .f32) (h : x = iblk m (ok m) c 6 t) : x y = m ((c.tc : Thread nD τ).loc main_arg4) p := by
  subst h
  refine (congrFun (V_main_arg4 m c) (((cfgM m (ok m)).win 6).rect t |>.emb y)).trans (congrArg (m ((c.tc : Thread nD τ).loc main_arg4)) (ext2 ?_ ?_))
  · exact (pos6_0 m t y).trans e0.symm
  · exact (pos6_1 m t y).trans e1.symm

/-- A block's gradient is the whole gradient at the block's place. -/
theorem block (c : Dev nD) (t : Fin (cfgM m (ok m)).N) (y : S577x512.Idx) (p : S577x2048.Idx) (e0 : (p 0).val = 0 * 577 + (y 0).val) (e1 : (p 1).val = t.val * 512 + (y 1).val)
    (x0 x1 x2 x3 : Vec Ideal S1x577x512 .bf16) (h0 : x0 = iblk m (ok m) c 0 t) (h1 : x1 = iblk m (ok m) c 1 t) (h2 : x2 = iblk m (ok m) c 2 t) (h3 : x3 = iblk m (ok m) c 3 t) :
    k0_pay2 x0 x1 x2 x3 y = grad (m ((c.tc : Thread nD τ).loc main_arg0)) (m ((c.tc : Thread nD τ).loc main_arg1)) p := by
  refine Eq.trans (congrArg _ (eta2 y)) ((pay2_at x0 x1 x2 x3 (y 0) (y 1)).trans ?_)
  rw [piece0 m c t y p e0 e1 x0 h0, piece1 m c t y p e0 e1 x1 h1, piece2 m c t y p e0 e1 x2 h2, piece3 m c t y p e0 e1 x3 h3]
  rfl

/-! The whole arrays: gradient, change, moments. -/

def G (a b : FVec Ideal S4x577x2048 .bf16) : FVec Ideal S577x2048 .f32 := fun y => grad a b y
def D (a b : FVec Ideal S4x577x2048 .bf16) (w u v : FVec Ideal S577x2048 .f32) : FVec Ideal S577x2048 .f32 := fun y => Update.change (w y) (grad a b y) (u y) (v y)
def M (a b : FVec Ideal S4x577x2048 .bf16) (u : FVec Ideal S577x2048 .f32) : FVec Ideal S577x2048 .f32 := fun y => Update.first (grad a b y) (u y)
def W (a b : FVec Ideal S4x577x2048 .bf16) (v : FVec Ideal S577x2048 .f32) : FVec Ideal S577x2048 .f32 := fun y => Update.second (grad a b y) (v y)

theorem outs7 (c : Dev nD) (t : Fin (cfgM m (ok m)).N) : (outsAt0 m (ok m) c t).1 = k0_pay2 (iblk m (ok m) c 0 t) (iblk m (ok m) c 1 t) (iblk m (ok m) c 2 t) (iblk m (ok m) c 3 t) := by
  unfold outsAt0
  dsimp only
  exact out7 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at7 (c : Dev nD) (t : Fin (cfgM m (ok m)).N) (y : S577x512.Idx) (p : S577x2048.Idx) (e0 : (p 0).val = 0 * 577 + (y 0).val) (e1 : (p 1).val = t.val * 512 + (y 1).val) :
    (outsAt0 m (ok m) c t).1 y = G (m ((c.tc : Thread nD τ).loc main_arg0)) (m ((c.tc : Thread nD τ).loc main_arg1)) p := by
  refine (congrFun (outs7 m c t) y).trans ?_
  exact block m c t y p e0 e1 _ _ _ _ rfl rfl rfl rfl

theorem final7 (c : Dev nD) : (dats m (ok m) 0 c).arrAt 7 (cfgM m (ok m)).N = G (m ((c.tc : Thread nD τ).loc main_arg0)) (m ((c.tc : Thread nD τ).loc main_arg1)) := by
  refine (dats m (ok m) 0 c).arrAt_eq_of_covers 7 _ (covers7 m) fun t hf y => ?_
  blk_simp
  rw [after0_7]
  refine at7 m c t y _ ?_ ?_
  · exact pos7_0 m t y
  · exact pos7_1 m t y

theorem outs8 (c : Dev nD) (t : Fin (cfgM m (ok m)).N) : (outsAt0 m (ok m) c t).2.1 = k0_pay1 (iblk m (ok m) c 4 t) (k0_pay4 (iblk m (ok m) c 0 t) (iblk m (ok m) c 1 t) (iblk m (ok m) c 2 t) (iblk m (ok m) c 3 t) (iblk m (ok m) c 6 t)) (k0_pay5 (iblk m (ok m) c 0 t) (iblk m (ok m) c 1 t) (iblk m (ok m) c 2 t) (iblk m (ok m) c 3 t) (iblk m (ok m) c 5 t)) := by
  unfold outsAt0
  dsimp only
  exact out8 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at8 (c : Dev nD) (t : Fin (cfgM m (ok m)).N) (y : S577x512.Idx) (p : S577x2048.Idx) (e0 : (p 0).val = 0 * 577 + (y 0).val) (e1 : (p 1).val = t.val * 512 + (y 1).val) :
    (outsAt0 m (ok m) c t).2.1 y = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p := by
  refine (congrFun (outs8 m c t) y).trans ?_
  refine (pay1_at _ _ _ _ _ _ _ _).trans ?_
  rw [block m c t y p e0 e1 _ _ _ _ rfl rfl rfl rfl, tile4 m c t y p e0 e1 _ rfl, tile5 m c t y p e0 e1 _ rfl, tile6 m c t y p e0 e1 _ rfl]
  rfl

theorem final8 (c : Dev nD) : (dats m (ok m) 0 c).arrAt 8 (cfgM m (ok m)).N = D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m (ok m) 0 c).arrAt_eq_of_covers 8 _ (covers8 m) fun t hf y => ?_
  blk_simp
  rw [after0_8]
  refine at8 m c t y _ ?_ ?_
  · exact pos8_0 m t y
  · exact pos8_1 m t y

theorem outs9 (c : Dev nD) (t : Fin (cfgM m (ok m)).N) : (outsAt0 m (ok m) c t).2.2.1 = k0_pay3 (iblk m (ok m) c 0 t) (iblk m (ok m) c 1 t) (iblk m (ok m) c 2 t) (iblk m (ok m) c 3 t) (iblk m (ok m) c 5 t) := by
  unfold outsAt0
  dsimp only
  exact out9 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at9 (c : Dev nD) (t : Fin (cfgM m (ok m)).N) (y : S577x512.Idx) (p : S577x2048.Idx) (e0 : (p 0).val = 0 * 577 + (y 0).val) (e1 : (p 1).val = t.val * 512 + (y 1).val) :
    (outsAt0 m (ok m) c t).2.2.1 y = M (m ((c.tc : Thread nD τ).loc main_arg0)) (m ((c.tc : Thread nD τ).loc main_arg1)) (m ((c.tc : Thread nD τ).loc main_arg3)) p := by
  refine (congrFun (outs9 m c t) y).trans ?_
  refine (pay3_at _ _ _ _ _ _).trans ?_
  rw [block m c t y p e0 e1 _ _ _ _ rfl rfl rfl rfl, tile5 m c t y p e0 e1 _ rfl]
  rfl

theorem final9 (c : Dev nD) : (dats m (ok m) 0 c).arrAt 9 (cfgM m (ok m)).N = M (m ((c.tc : Thread nD τ).loc main_arg0)) (m ((c.tc : Thread nD τ).loc main_arg1)) (m ((c.tc : Thread nD τ).loc main_arg3)) := by
  refine (dats m (ok m) 0 c).arrAt_eq_of_covers 9 _ (covers9 m) fun t hf y => ?_
  blk_simp
  rw [after0_9]
  refine at9 m c t y _ ?_ ?_
  · exact pos9_0 m t y
  · exact pos9_1 m t y

theorem outs10 (c : Dev nD) (t : Fin (cfgM m (ok m)).N) : (outsAt0 m (ok m) c t).2.2.2 = k0_pay4 (iblk m (ok m) c 0 t) (iblk m (ok m) c 1 t) (iblk m (ok m) c 2 t) (iblk m (ok m) c 3 t) (iblk m (ok m) c 6 t) := by
  unfold outsAt0
  dsimp only
  exact out10 (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (ms0_9 m (ok m) t) (hs0_9 m (ok m) t) (ms0_10 m (ok m) t) (hs0_10 m (ok m) t) (iblk m (ok m) c 0 t) (iblk m (ok m) c 1 t) (iblk m (ok m) c 2 t) (iblk m (ok m) c 3 t) (iblk m (ok m) c 4 t) (iblk m (ok m) c 5 t) (iblk m (ok m) c 6 t) (tbl m 0)

theorem at10 (c : Dev nD) (t : Fin (cfgM m (ok m)).N) (y : S577x512.Idx) (p : S577x2048.Idx) (e0 : (p 0).val = 0 * 577 + (y 0).val) (e1 : (p 1).val = t.val * 512 + (y 1).val) :
    (outsAt0 m (ok m) c t).2.2.2 y = W (m ((c.tc : Thread nD τ).loc main_arg0)) (m ((c.tc : Thread nD τ).loc main_arg1)) (m ((c.tc : Thread nD τ).loc main_arg4)) p := by
  refine (congrFun (outs10 m c t) y).trans ?_
  refine (pay4_at _ _ _ _ _ _).trans ?_
  rw [block m c t y p e0 e1 _ _ _ _ rfl rfl rfl rfl, tile6 m c t y p e0 e1 _ rfl]
  rfl

theorem final10 (c : Dev nD) : (dats m (ok m) 0 c).arrAt 10 (cfgM m (ok m)).N = W (m ((c.tc : Thread nD τ).loc main_arg0)) (m ((c.tc : Thread nD τ).loc main_arg1)) (m ((c.tc : Thread nD τ).loc main_arg4)) := by
  refine (dats m (ok m) 0 c).arrAt_eq_of_covers 10 _ (covers10 m) fun t hf y => ?_
  blk_simp
  rw [after0_10]
  refine at10 m c t y _ ?_ ?_
  · exact pos10_0 m t y
  · exact pos10_1 m t y

end Cert.AdamInIdeal.Hand

namespace Cert.Hand.AdamIn

open Idealize.ShloMosaic Idealize.ShloMosaic.TcCoe Idealize.SL.Sem
open Cert.AdamInIdeal Cert.AdamInRefIdeal.Read

theorem ref_grad (a b : FVec Ideal S4x577x2048 .bf16) (y : S577x2048.Idx) : val_main_v14 (F := Ideal) a b y = AdamInIdeal.Hand.grad a b y := by
  simp only [val_main_v14_apply, val_main_v10_apply, val_main_v6_apply, val_main_v2_apply, val_main_v1_apply, val_main_v0_apply, val_main_v5_apply,
    val_main_v4_apply, val_main_v3_apply, val_main_v9_apply, val_main_v8_apply, val_main_v7_apply, val_main_v13_apply, val_main_v12_apply, val_main_v11_apply]
  unfold AdamInIdeal.Hand.grad
  have h0 : (y 0).val < 577 := (y 0).isLt
  have h1 : (y 1).val < 2048 := (y 1).isLt
  have e0 : idx_main_v0 (idx_main_v1 y) = ix3 0 (y 0) (y 1) := ext3 (by dsimp [idx_main_v0, idx_main_v1]) (by dsimp [idx_main_v0, idx_main_v1]; omega) (by dsimp [idx_main_v0, idx_main_v1]; omega)
  have e1 : idx_main_v3 (idx_main_v4 y) = ix3 1 (y 0) (y 1) := ext3 (by dsimp [idx_main_v3, idx_main_v4]) (by dsimp [idx_main_v3, idx_main_v4]; omega) (by dsimp [idx_main_v3, idx_main_v4]; omega)
  have e2 : idx_main_v7 (idx_main_v8 y) = ix3 2 (y 0) (y 1) := ext3 (by dsimp [idx_main_v7, idx_main_v8]) (by dsimp [idx_main_v7, idx_main_v8]; omega) (by dsimp [idx_main_v7, idx_main_v8]; omega)
  have e3 : idx_main_v11 (idx_main_v12 y) = ix3 3 (y 0) (y 1) := ext3 (by dsimp [idx_main_v11, idx_main_v12]) (by dsimp [idx_main_v11, idx_main_v12]; omega) (by dsimp [idx_main_v11, idx_main_v12]; omega)
  rw [e0, e1, e2, e3]
  exact congrArg (fun s : EReal => s + b (ix3 3 (y 0) (y 1))) (add_right_comm (a (ix3 0 (y 0) (y 1)) : EReal) (b (ix3 1 (y 0) (y 1))) (b (ix3 2 (y 0) (y 1))))

theorem grad_eq (a b : FVec Ideal S4x577x2048 .bf16) : val_main_v14 (F := Ideal) a b = AdamInIdeal.Hand.G a b := funext (ref_grad a b)

theorem first_eq (a b : FVec Ideal S4x577x2048 .bf16) (u : FVec Ideal S577x2048 .f32) : val_main_v19 (F := Ideal) a b u = AdamInIdeal.Hand.M a b u := by
  funext y
  unfold AdamInIdeal.Hand.M
  rw [← ref_grad]
  rfl

theorem second_eq (a b : FVec Ideal S4x577x2048 .bf16) (v : FVec Ideal S577x2048 .f32) : val_main_v25 (F := Ideal) a b v = AdamInIdeal.Hand.W a b v := by
  funext y
  unfold AdamInIdeal.Hand.W
  rw [← ref_grad]
  rfl

theorem change_eq (a b : FVec Ideal S4x577x2048 .bf16) (w u v : FVec Ideal S577x2048 .f32) : val_main_v38 (F := Ideal) a b w u v = AdamInIdeal.Hand.D a b w u v := by
  funext y
  unfold AdamInIdeal.Hand.D
  rw [← ref_grad]
  rfl

theorem frame_k : Cert.quiescent_AdamIn (hAdamIn := Cert.AdamIn.Gen.facts) := fun m ρ _ => Cert.AdamIn.Gen.frame m ρ (Cert.AdamIn.Hand.ok m)

theorem frame_i : Cert.quiescent_AdamInIdeal (hAdamInIdeal := Cert.AdamInIdeal.Gen.facts) := fun m ρ _ => Cert.AdamInIdeal.Gen.frame m ρ (Cert.AdamInIdeal.Hand.ok m)

theorem frame_r : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩) (Cert.AdamInRefIdeal.Value.run (F := Ideal) m ρ)

open Cert.AdamInIdeal.Gen in
/-- The four results after the run, and the arguments kept. -/
theorem results (m : (ℓ : Loc nD τ sig) → Buf (Elt Ideal) ℓ) (ρ : Dev nD → PrngReg) : θ_run Cert.AdamInIdeal.defs (onTc (τ := τ) (main (F := Ideal))) ⟨m, fun _ => 0, ρ⟩ (fun r => ∀ c : Dev nD,
      (r.2.mem ((c.tc : Thread nD τ).loc main_v6_0) = AdamInIdeal.Hand.G (m ((c.tc : Thread nD τ).loc main_arg0)) (m ((c.tc : Thread nD τ).loc main_arg1))
      ∧ r.2.mem ((c.tc : Thread nD τ).loc main_v6_1) = AdamInIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamInIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamInIdeal.Hand.W (m ((c.tc : Thread nD τ).loc main_arg0)) (m ((c.tc : Thread nD τ).loc main_arg1)) (m ((c.tc : Thread nD τ).loc main_arg4)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))) := by
  have h₁ : θ_run Cert.AdamInIdeal.defs (onTc (τ := τ) (main (F := Ideal))) ⟨m, fun _ => 0, ρ⟩ (fun r => ∀ c : Dev nD,
      r.2.mem ((c.tc : Thread nD τ).loc main_v6_0) = AdamInIdeal.Hand.G (m ((c.tc : Thread nD τ).loc main_arg0)) (m ((c.tc : Thread nD τ).loc main_arg1))
      ∧ r.2.mem ((c.tc : Thread nD τ).loc main_v6_1) = AdamInIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6_2) = AdamInIdeal.Hand.M (m ((c.tc : Thread nD τ).loc main_arg0)) (m ((c.tc : Thread nD τ).loc main_arg1)) (m ((c.tc : Thread nD τ).loc main_arg3))
      ∧ r.2.mem ((c.tc : Thread nD τ).loc main_v6_3) = AdamInIdeal.Hand.W (m ((c.tc : Thread nD τ).loc main_arg0)) (m ((c.tc : Thread nD τ).loc main_arg1)) (m ((c.tc : Thread nD τ).loc main_arg4))) :=
    (θ_run Cert.AdamInIdeal.defs _ _).mono (fun r h c => ⟨((h c).1 7).trans (Hand.final7 m c), ((h c).1 8).trans (Hand.final8 m c),
      ((h c).1 9).trans (Hand.final9 m c), ((h c).1 10).trans (Hand.final10 m c)⟩) (run_main m ρ (AdamInIdeal.Hand.ok m))
  exact (θ_run Cert.AdamInIdeal.defs _ _).mono (fun r h c => ⟨h.1 c, h.2 c⟩) (θ_run_and h₁ (unchanged m ρ (AdamInIdeal.Hand.ok m)))

theorem values : Cert.algebraic_AdamInIdeal_AdamInRefIdeal (hAdamInIdeal := Cert.AdamInIdeal.Gen.facts) (hAdamInRefIdeal := Cert.AdamInRefIdeal.Gen.facts) := by
  intro m g m' g' _ hagree
  refine ⟨fun c => AdamInIdeal.Hand.G (m ((c.tc : Thread nD τ).loc main_arg0)) (m ((c.tc : Thread nD τ).loc main_arg1)),
    fun c => AdamInIdeal.Hand.D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => AdamInIdeal.Hand.M (m ((c.tc : Thread nD τ).loc main_arg0)) (m ((c.tc : Thread nD τ).loc main_arg1)) (m ((c.tc : Thread nD τ).loc main_arg3)),
    fun c => AdamInIdeal.Hand.W (m ((c.tc : Thread nD τ).loc main_arg0)) (m ((c.tc : Thread nD τ).loc main_arg1)) (m ((c.tc : Thread nD τ).loc main_arg4)),
    (θ_run Cert.AdamInIdeal.defs _ _).mono (fun _ h c => ⟨(h c).1.1, (h c).1.2.1, (h c).1.2.2.1, (h c).1.2.2.2, (h c).2⟩) (results m g),
    (θ_run Cert.AdamInRefIdeal.defs _ _).mono (fun r h c => ⟨(h c).1.trans ?_, (h c).2.1.trans ?_, (h c).2.2.1.trans ?_, (h c).2.2.2.1.trans ?_, (h c).2.2.2.2⟩) (Cert.AdamInRefIdeal.Value.run (F := Ideal) m' g')⟩
  all_goals obtain ⟨a0, a1, a2, a3, a4⟩ := hagree c
  · rw [val_main_v14_eq, a0, a1]
    exact grad_eq _ _
  · rw [val_main_v38_eq, a0, a1, a2, a3, a4]
    exact change_eq _ _ _ _ _
  · rw [val_main_v19_eq, a0, a1, a3]
    exact first_eq _ _ _
  · rw [val_main_v25_eq, a0, a1, a4]
    exact second_eq _ _ _

end Cert.Hand.AdamIn

end
-- ==== Proof.Values.lean ====
/- What one grid point of the backward call leaves in its output buffers, as functions of the point's input
   blocks: the tiles of the four query blocks in the kernel's own payloads, the three accumulators as lists of
   stores (last first), and the four outputs. Nothing here speaks of memory. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-- A grid point and the blocks it reads: the head's `q`, `k`, `v` and output gradient, the running log-gates by
    row and by column, and the rows' log-sums. -/
structure Pt (F : FTy → Type) where
  i : grid0.Coords
  q : Vec F S2048x128 .bf16
  k : Vec F S2048x128 .bf16
  v : Vec F S2048x128 .bf16
  g : Vec F S2048x128 .bf16
  c : Vec F S2048x128 .f32
  ct : Vec F S8x2048 .f32
  l : Vec F S2048x128 .f32

/-! ## Loads -/

/-- Rows `0 … 511` of a staged block, and so on: the four query blocks. -/
def row0 {e : EltTy} (x : Vec F S2048x128 e) : Vec F S512x128 e := View.ld x (Rect.unit ![0, 0] S512x128.size inb_S2048x128_S512x128_0_0)
def row1 {e : EltTy} (x : Vec F S2048x128 e) : Vec F S512x128 e := View.ld x (Rect.unit ![512, 0] S512x128.size inb_S2048x128_S512x128_512_0)
def row2 {e : EltTy} (x : Vec F S2048x128 e) : Vec F S512x128 e := View.ld x (Rect.unit ![1024, 0] S512x128.size inb_S2048x128_S512x128_1024_0)
def row3 {e : EltTy} (x : Vec F S2048x128 e) : Vec F S512x128 e := View.ld x (Rect.unit ![1536, 0] S512x128.size inb_S2048x128_S512x128_1536_0)

/-- The first 1024, 1536, 2048 rows of a staged block: the keys the query blocks look at. -/
def top1 {e : EltTy} (x : Vec F S2048x128 e) : Vec F S1024x128 e := View.ld x (Rect.unit ![0, 0] S1024x128.size inb_S2048x128_S1024x128_0_0)
def top2 {e : EltTy} (x : Vec F S2048x128 e) : Vec F S1536x128 e := View.ld x (Rect.unit ![0, 0] S1536x128.size inb_S2048x128_S1536x128_0_0)
def top3 {e : EltTy} (x : Vec F S2048x128 e) : Vec F S2048x128 e := View.ld x (Rect.unit ![0, 0] S2048x128.size inb_S2048x128_S2048x128_0_0)

/-- The first 512, 1024, 1536, 2048 entries of a row. -/
def fst0 (x : Vec F S1x2048 .f32) : Vec F S1x512 .f32 := View.ld x (Rect.unit ![0, 0] S1x512.size inb_S1x2048_S1x512_0_0)
def fst1 (x : Vec F S1x2048 .f32) : Vec F S1x1024 .f32 := View.ld x (Rect.unit ![0, 0] S1x1024.size inb_S1x2048_S1x1024_0_0)
def fst2 (x : Vec F S1x2048 .f32) : Vec F S1x1536 .f32 := View.ld x (Rect.unit ![0, 0] S1x1536.size inb_S1x2048_S1x1536_0_0)
def fst3 (x : Vec F S1x2048 .f32) : Vec F S1x2048 .f32 := View.ld x (Rect.unit ![0, 0] S1x2048.size inb_S1x2048_S1x2048_0_0)

namespace Pt

variable (P : Pt F)

/-- The head's column of the log-gates, its row of them, its column of the log-sums. -/
def cq : FVec F S2048x1 .f32 := k0_pay4 P.i (top3 P.c)
def ck : FVec F S1x2048 .f32 := k0_pay5 (View.ld P.ct (Rect.unit (k0_off1 P.i) S1x2048.size (k0_off1_inb P.i)))
def ls : FVec F S2048x1 .f32 := k0_pay6 P.i (top3 P.l)

/-- The row number of an entry of the last tile. -/
def io3 : IVec S512x2048 32 := iota .tc S512x2048 32 [0] iota_S512x2048_d0_w32

/-- The masked scores of query blocks 1 and 3 (blocks 0 and 2 are cut elsewhere). -/
def s1 : FVec F S512x1024 .f32 := k0_pay17 P.cq P.ck (row1 P.q) (top1 P.k)
def s3 : FVec F S512x2048 .f32 := k0_pay33 P.cq P.ck (row3 P.q) (top3 P.k)
/-- The gradient of the scores, block 2. -/
def d2 : FVec F S512x1536 .f32 := k0_pay27 P.cq P.ck P.ls (row2 P.q) (top2 P.k) (top2 P.v) (row2 P.g)
/-- The weights of block 2. -/
def p2 : FVec F S512x1536 .f32 := k0_pay26 P.cq P.ck P.ls (row2 P.q) (top2 P.k)

/-! ## The accumulator of the keys' gradient -/

def K0 : List (View.Piece (Elt F) S2048x128 .f32) := [⟨Rect.unit ![0, 0] S2048x128.size inb_S2048x128_S2048x128_0_0, k0_pay7⟩]
def K1 : List (View.Piece (Elt F) S2048x128 .f32) :=
  ⟨Rect.unit ![0, 0] S512x128.size inb_S2048x128_S512x128_0_0, k0_pay15 (row0 P.q) (k0_pay13 P.cq P.ck P.ls (row0 P.q) (row0 P.k) (row0 P.v) (row0 P.g)) (row0 (View.canon K0))⟩ :: K0
def K2 : List (View.Piece (Elt F) S2048x128 .f32) :=
  ⟨Rect.unit ![0, 0] S1024x128.size inb_S2048x128_S1024x128_0_0, k0_pay23 P.ls (row1 P.q) (top1 P.v) (row1 P.g) P.s1 (top1 (View.canon P.K1))⟩ :: P.K1
def K3 : List (View.Piece (Elt F) S2048x128 .f32) :=
  ⟨Rect.unit ![0, 0] S1536x128.size inb_S2048x128_S1536x128_0_0, k0_pay31 (row2 P.q) P.d2 (top2 (View.canon P.K2))⟩ :: P.K2
def K4 : List (View.Piece (Elt F) S2048x128 .f32) :=
  ⟨Rect.unit ![0, 0] S2048x128.size inb_S2048x128_S2048x128_0_0, k0_pay39 P.ls (row3 P.q) (top3 P.v) (row3 P.g) P.s3 io3 1536#32 (top3 (View.canon P.K3))⟩ :: P.K3

/-! ## The accumulator of the values' gradient -/

def V0 : List (View.Piece (Elt F) S2048x128 .f32) := [⟨Rect.unit ![0, 0] S2048x128.size inb_S2048x128_S2048x128_0_0, k0_pay8⟩]
def V1 : List (View.Piece (Elt F) S2048x128 .f32) :=
  ⟨Rect.unit ![0, 0] S512x128.size inb_S2048x128_S512x128_0_0, k0_pay16 (row0 P.g) (k0_pay10 P.cq P.ck P.ls (row0 P.q) (row0 P.k)) (row0 (View.canon V0))⟩ :: V0
def V2 : List (View.Piece (Elt F) S2048x128 .f32) :=
  ⟨Rect.unit ![0, 0] S1024x128.size inb_S2048x128_S1024x128_0_0, k0_pay25 (k0_pay24 P.ls (row1 P.g) P.s1 (top1 (View.canon P.V1)))⟩ :: P.V1
def V3 : List (View.Piece (Elt F) S2048x128 .f32) :=
  ⟨Rect.unit ![0, 0] S1536x128.size inb_S2048x128_S1536x128_0_0, k0_pay32 (row2 P.g) P.p2 (top2 (View.canon P.V2))⟩ :: P.V2
def V4 : List (View.Piece (Elt F) S2048x128 .f32) :=
  ⟨Rect.unit ![0, 0] S2048x128.size inb_S2048x128_S2048x128_0_0, k0_pay1 (row3 P.g) (top3 (View.canon P.V3)) (k0_pay40 P.ls P.s3 io3 1536#32)⟩ :: P.V3

/-! ## The accumulator of the log-gates' gradient -/

def C0 : List (View.Piece (Elt F) S1x2048 .f32) := [⟨Rect.unit ![0, 0] S1x2048.size inb_S1x2048_S1x2048_0_0, k0_pay9⟩]
def C1 : List (View.Piece (Elt F) S1x2048 .f32) :=
  ⟨Rect.unit ![0, 0] S1x512.size inb_S1x2048_S1x512_0_0, k0_pay12 P.cq P.ck P.ls (row0 P.q) (row0 P.k) (row0 P.v) (row0 P.g) (fst0 (View.canon C0))⟩ :: C0
def C2 : List (View.Piece (Elt F) S1x2048 .f32) :=
  ⟨Rect.unit ![0, 0] S1x1024.size inb_S1x2048_S1x1024_0_0, k0_pay20 P.ls (top1 P.v) (row1 P.g) P.s1 (fst1 (View.canon P.C1))⟩ :: P.C1
def C3 : List (View.Piece (Elt F) S1x2048 .f32) :=
  ⟨Rect.unit ![0, 0] S1x1536.size inb_S1x2048_S1x1536_0_0, k0_pay28 P.cq P.ck P.ls (row2 P.q) (top2 P.k) (top2 P.v) (row2 P.g) (fst2 (View.canon P.C2))⟩ :: P.C2
def C4 : List (View.Piece (Elt F) S1x2048 .f32) :=
  ⟨Rect.unit ![0, 0] S1x2048.size inb_S1x2048_S1x2048_0_0, k0_pay36 P.ls (top3 P.v) (row3 P.g) P.s3 io3 1536#32 (fst3 (View.canon P.C3))⟩ :: P.C3

/-! ## The outputs -/

def dqL : List (View.Piece (Elt F) S2048x128 .bf16) :=
  [⟨Rect.unit ![1536, 0] S512x128.size inb_S2048x128_S512x128_1536_0, k0_pay38 P.ls (top3 P.k) (top3 P.v) (row3 P.g) P.s3 io3 1536#32⟩,
   ⟨Rect.unit ![1024, 0] S512x128.size inb_S2048x128_S512x128_1024_0, k0_pay30 (top2 P.k) P.d2⟩,
   ⟨Rect.unit ![512, 0] S512x128.size inb_S2048x128_S512x128_512_0, k0_pay22 P.ls (top1 P.k) (top1 P.v) (row1 P.g) P.s1⟩,
   ⟨Rect.unit ![0, 0] S512x128.size inb_S2048x128_S512x128_0_0, k0_pay14 P.cq P.ck P.ls (row0 P.q) (row0 P.k) (row0 P.v) (row0 P.g)⟩]

/-- The gradients of the head's queries, keys and values, and its row of the log-gates' gradient. -/
def dq : Vec F S2048x128 .bf16 := View.canon P.dqL
def dk : Vec F S2048x128 .bf16 := k0_pay2 (top3 (View.canon P.K4))
def dv : Vec F S2048x128 .bf16 := k0_pay3 (top3 (View.canon P.V4))
def dc : Vec F S1x2048 .f32 := fst3 (View.canon P.C4)

/-- The log-gates' gradient after the point: the head's row replaced, the other rows as they were. -/
def dcNew (y : Vec F S8x2048 .f32) : Vec F S8x2048 .f32 :=
  (Rect.unit (s := S8x2048) (k0_off1 P.i) S1x2048.size (k0_off1_inb P.i)).overlay y P.dc

end Pt

end Cert.KernelIdeal.Hand

end
-- ==== Proof.Head.lean ====
/- The mathematics of the backward call for one head, in extended reals: from the head's queries, keys, values and
   output gradient, its running log-gates and its rows' log-sums, the weights, the scores' gradient, and the four
   gradients. No memory, no tiles. -/
module

public import Idealize.ShloMosaic.PureOps.Ideal
public import Idealize.ShloMosaic.Lib.Pointwise

@[expose] public section

noncomputable section

namespace Cert.Hand

open Idealize.ShloMosaic

/-- What the backward call reads of one head: `2048` rows of `128` numbers each of `q`, `k`, `v` and the output's
    gradient `g`, the running log-gates read by row (`cq`) and by key (`ck`), and the rows' log-sums. -/
structure Head where
  q : Fin 2048 → Fin 128 → EReal
  k : Fin 2048 → Fin 128 → EReal
  v : Fin 2048 → Fin 128 → EReal
  g : Fin 2048 → Fin 128 → EReal
  cq : Fin 2048 → EReal
  ck : Fin 2048 → EReal
  l : Fin 2048 → EReal

/-- The scale of the scores, as the programs write it. -/
def scale : EReal := Ideal.ofBits .f32 0x3DB504F3#32

theorem minus_inf : Ideal.ofBits .f32 0xFF800000#32 = (⊥ : EReal) := by simp [Ideal.ofBits, Ideal.ieee]

namespace Head

variable (h : Head)

/-- The score of row `r` at key `j`, and the masked score: a row looks at the keys up to its own. -/
def s (r j : Fin 2048) : EReal := (∑ d, h.q r d * h.k j d) * scale + h.cq r - h.ck j
def m (r j : Fin 2048) : EReal := if j.val ≤ r.val then h.s r j else ⊥
/-- The weights, from the saved log-sums. -/
def p (r j : Fin 2048) : EReal := Ideal.exp (h.m r j - h.l r)
/-- The gradient of a weight, and of a score. -/
def dp (r j : Fin 2048) : EReal := ∑ d, h.g r d * h.v j d
def ds (r j : Fin 2048) : EReal := h.p r j * (h.dp r j - ∑ x, h.p r x * h.dp r x)
/-- The gradients of the queries, keys, values, and of the log-gates by key. -/
def gq (r : Fin 2048) (d : Fin 128) : EReal := (∑ j, h.ds r j * h.k j d) * scale
def gk (j : Fin 2048) (d : Fin 128) : EReal := (∑ r, h.ds r j * h.q r d) * scale
def gv (j : Fin 2048) (d : Fin 128) : EReal := ∑ r, h.p r j * h.g r d
def gc (j : Fin 2048) : EReal := ∑ r, h.ds r j

/-- Past a row's own key its weight and the score's gradient are zero, whatever the log-sum. -/
theorem p_zero {r j : Fin 2048} (hj : r.val < j.val) : h.p r j = 0 := by
  unfold p m
  rw [if_neg (by omega), EReal.bot_sub]
  rfl

theorem ds_zero {r j : Fin 2048} (hj : r.val < j.val) : h.ds r j = 0 := by
  unfold ds; rw [h.p_zero hj, zero_mul]

end Head

/-- A sum over the first `e` of `n` indices is the whole sum where the rest is zero. -/
theorem sum_first {e n : ℕ} (hen : e ≤ n) (f : Fin n → EReal) (hf : ∀ j, e ≤ j.val → f j = 0) :
    ∑ x : Fin e, f ⟨x.val, x.isLt.trans_le hen⟩ = ∑ j, f j := by
  obtain ⟨k, rfl⟩ := Nat.exists_eq_add_of_le hen
  rw [Fin.sum_univ_add, Finset.sum_eq_zero (s := Finset.univ) (f := fun i : Fin k => f (Fin.natAdd e i)) (fun i _ => hf _ (by simp))]
  rw [add_zero]
  rfl

/-- A sum over 2048 rows is the sum of its four blocks of 512. -/
theorem sum_blocks (f : Fin 2048 → EReal) :
    ∑ r, f r = (∑ r : Fin 512, f ⟨r.val, by omega⟩) + (∑ r : Fin 512, f ⟨512 + r.val, by omega⟩)
      + (∑ r : Fin 512, f ⟨1024 + r.val, by omega⟩) + ∑ r : Fin 512, f ⟨1536 + r.val, by omega⟩ := by
  rw [show (∑ r : Fin 2048, f r) = ∑ r : Fin (512 + 512 + 512 + 512), f r from rfl, Fin.sum_univ_add, Fin.sum_univ_add, Fin.sum_univ_add]
  rfl

/-- The mask's comparison of a row and a key, as words. -/
theorem mask_select (o : ℕ) (ho : o ≤ 1536) (a b : ℕ) (ha : a < 2048) (hb : b < 2048) (x y : EReal) :
    Scalar.select (IntOp.cmpi .sge (IntOp.addi (BitVec.ofNat 32 a) (BitVec.ofNat 32 o)) (BitVec.ofNat 32 b)) x y
      = if b ≤ o + a then x else y := by
  have e1 : (BitVec.ofNat 32 a + BitVec.ofNat 32 o).toInt = (o + a : ℕ) := by
    rw [← BitVec.ofNat_add, BitVec.toInt_ofNat']; rw [Int.bmod_def]; omega
  have e2 : (BitVec.ofNat 32 b).toInt = (b : ℕ) := by
    rw [BitVec.toInt_ofNat']; rw [Int.bmod_def]; omega
  unfold Scalar.select IntOp.cmpi IntOp.addi
  simp only [BitVec.sle, e1, e2]
  by_cases hb : b ≤ o + a
  · have hd : ((b : ℤ) ≤ ((o + a : ℕ) : ℤ)) := by exact_mod_cast hb
    rw [decide_eq_true hd, if_pos hb]; rfl
  · have hd : ¬((b : ℤ) ≤ ((o + a : ℕ) : ℤ)) := by exact_mod_cast hb
    rw [decide_eq_false hd, if_neg hb]; rfl

theorem mask_full (r j : Fin 2048) (x y : EReal) :
    Scalar.select (IntOp.cmpi .sge (IntOp.addi (BitVec.ofNat 32 r.val) 0#32) (BitVec.ofNat 32 j.val)) x y = if j.val ≤ r.val then x else y := by
  have h := mask_select 0 (by omega) r.val j.val r.isLt j.isLt x y
  rw [Nat.zero_add] at h
  exact h

/-- The lane that a head's number selects. -/
theorem lane_select (i : ℕ) (hi : i < 128) (f : Fin 128 → EReal) :
    ∑ x : Fin 128, Scalar.select (IntOp.cmpi .eq (BitVec.ofNat 32 x.val) (BitVec.ofNat 32 i)) (f x) 0 = f ⟨i, hi⟩ := by
  have e : ∀ x : Fin 128, Scalar.select (IntOp.cmpi .eq (BitVec.ofNat 32 x.val) (BitVec.ofNat 32 i)) (f x) 0 = if x = ⟨i, hi⟩ then f x else 0 := fun x => by
    have h : (BitVec.ofNat 32 x.val = BitVec.ofNat 32 i) ↔ x = ⟨i, hi⟩ := by
      rw [← BitVec.toNat_inj, BitVec.toNat_ofNat, BitVec.toNat_ofNat, Fin.ext_iff]
      show x.val % 2 ^ 32 = i % 2 ^ 32 ↔ x.val = i
      omega
    unfold Scalar.select IntOp.cmpi
    by_cases hx : x = ⟨i, hi⟩
    · rw [if_pos hx, h.mpr hx]; simp
    · have hn : (BitVec.ofNat 32 x.val == BitVec.ofNat 32 i) = false := beq_eq_false_iff_ne.mpr fun e => hx (h.mp e)
      rw [if_neg hx, hn]; rfl
  simp only [e, Finset.sum_ite_eq', Finset.mem_univ, if_true]

end Cert.Hand

end
-- ==== Proof.Tiles.lean ====
/- At the exact values, the tiles of the backward call's body are the blocks of the head's mathematics: each query
   block's weights, scores' gradient and query gradient, entry by entry. -/
module

public import proofs.«01_k».proof.Proof.Values
public import proofs.«01_k».proof.Proof.Head
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Hand

/-! ## Loads, entry by entry -/

section
variable {F : FTy → Type} [FloatOps F]

theorem row0_at {e : EltTy} (x : Vec F S2048x128 e) (r : Fin 512) (d : Fin 128) : row0 x (ix2 r d) = x (ix2 ⟨r.val, by omega⟩ d) := by
  unfold row0; pointwise
theorem row1_at {e : EltTy} (x : Vec F S2048x128 e) (r : Fin 512) (d : Fin 128) : row1 x (ix2 r d) = x (ix2 ⟨512 + r.val, by omega⟩ d) := by
  unfold row1; pointwise
theorem row2_at {e : EltTy} (x : Vec F S2048x128 e) (r : Fin 512) (d : Fin 128) : row2 x (ix2 r d) = x (ix2 ⟨1024 + r.val, by omega⟩ d) := by
  unfold row2; pointwise
theorem row3_at {e : EltTy} (x : Vec F S2048x128 e) (r : Fin 512) (d : Fin 128) : row3 x (ix2 r d) = x (ix2 ⟨1536 + r.val, by omega⟩ d) := by
  unfold row3; pointwise
theorem top1_at {e : EltTy} (x : Vec F S2048x128 e) (r : Fin 1024) (d : Fin 128) : top1 x (ix2 r d) = x (ix2 ⟨r.val, by omega⟩ d) := by
  unfold top1; pointwise
theorem top2_at {e : EltTy} (x : Vec F S2048x128 e) (r : Fin 1536) (d : Fin 128) : top2 x (ix2 r d) = x (ix2 ⟨r.val, by omega⟩ d) := by
  unfold top2; pointwise
theorem top3_at {e : EltTy} (x : Vec F S2048x128 e) (r : Fin 2048) (d : Fin 128) : top3 x (ix2 r d) = x (ix2 r d) := by
  unfold top3; pointwise
theorem fst0_at (x : Vec F S1x2048 .f32) (j : Fin 512) : fst0 x (ix2 0 j) = x (ix2 0 ⟨j.val, by omega⟩) := by
  unfold fst0; pointwise
theorem fst1_at (x : Vec F S1x2048 .f32) (j : Fin 1024) : fst1 x (ix2 0 j) = x (ix2 0 ⟨j.val, by omega⟩) := by
  unfold fst1; pointwise
theorem fst2_at (x : Vec F S1x2048 .f32) (j : Fin 1536) : fst2 x (ix2 0 j) = x (ix2 0 ⟨j.val, by omega⟩) := by
  unfold fst2; pointwise
theorem fst3_at (x : Vec F S1x2048 .f32) (j : Fin 2048) : fst3 x (ix2 0 j) = x (ix2 0 j) := by
  unfold fst3; pointwise
end

namespace Pt

variable (P : Pt Ideal)

/-- The point's number is its head's. -/
theorem lane_lt : (P.i 0).val < 8 := (P.i 0).isLt

/-- The head a point works on. -/
def hd : Head where
  q r d := P.q (ix2 r d)
  k r d := P.k (ix2 r d)
  v r d := P.v (ix2 r d)
  g r d := P.g (ix2 r d)
  cq r := P.c (ix2 r ⟨(P.i 0).val, by have := P.lane_lt; omega⟩)
  ck j := P.ct (ix2 ⟨(P.i 0).val, P.lane_lt⟩ j)
  l r := P.l (ix2 r ⟨(P.i 0).val, by have := P.lane_lt; omega⟩)

theorem cq_at (r : Fin 2048) : P.cq (ix2 r 0) = P.hd.cq r := by
  unfold cq
  pointwise [k0_pay4]
  simp only [top3_at]
  exact lane_select _ (by have := P.lane_lt; omega) fun x => P.c (ix2 r x)

theorem ls_at (r : Fin 2048) : P.ls (ix2 r 0) = P.hd.l r := by
  unfold ls
  pointwise [k0_pay6]
  simp only [top3_at]
  exact lane_select _ (by have := P.lane_lt; omega) fun x => P.l (ix2 r x)

theorem ck_at (j : Fin 2048) : P.ck (ix2 0 j) = P.hd.ck j := by
  unfold ck
  pointwise [k0_pay5]
  exact congrArg P.ct (funext fun a => Fin.ext (by
    have e0 : k0_off1 P.i 0 = (P.i 0).val := congrFun (k0_off1_eq P.i) 0
    have e1 : k0_off1 P.i 1 = 0 := congrFun (k0_off1_eq P.i) 1
    match a with
    | ⟨0, _⟩ => exact e0
    | ⟨1, _⟩ => show k0_off1 P.i 1 + j.val = j.val; omega))

/-! ## The weights of the four query blocks -/

theorem m1_at (r : Fin 512) (j : Fin 1024) : P.s1 (ix2 r j) = P.hd.m ⟨512 + r.val, by omega⟩ ⟨j.val, by omega⟩ := by
  unfold s1
  pointwise [k0_pay17]
  simp only [row1_at, top1_at]
  rw [cq_at, ck_at, minus_inf, mask_select 512 (by omega) _ _ (by omega) (by omega)]
  rfl

theorem s3_at (r : Fin 512) (j : Fin 2048) : P.s3 (ix2 r j) = P.hd.s ⟨1536 + r.val, by omega⟩ j := by
  unfold s3
  pointwise [k0_pay33]
  simp only [row3_at, top3_at]
  rw [cq_at, ck_at]
  rfl

theorem p0_at (r : Fin 512) (j : Fin 512) :
    k0_pay10 P.cq P.ck P.ls (row0 P.q) (row0 P.k) (ix2 r j) = P.hd.p ⟨r.val, by omega⟩ ⟨j.val, by omega⟩ := by
  pointwise [k0_pay10]
  simp only [row0_at]
  rw [cq_at, ck_at, ls_at, minus_inf, mask_select 0 (by omega) _ _ (by omega) (by omega), Nat.zero_add]
  rfl

theorem p1_at (r : Fin 512) (j : Fin 1024) : k0_pay18 P.ls P.s1 (ix2 r j) = P.hd.p ⟨512 + r.val, by omega⟩ ⟨j.val, by omega⟩ := by
  pointwise [k0_pay18]
  rw [m1_at, ls_at]
  rfl

theorem p2_at (r : Fin 512) (j : Fin 1536) : P.p2 (ix2 r j) = P.hd.p ⟨1024 + r.val, by omega⟩ ⟨j.val, by omega⟩ := by
  unfold p2
  pointwise [k0_pay26]
  simp only [row2_at, top2_at]
  rw [cq_at, ck_at, ls_at, minus_inf, mask_select 1024 (by omega) _ _ (by omega) (by omega)]
  rfl

theorem p3_at (r : Fin 512) (j : Fin 2048) : k0_pay34 P.ls P.s3 io3 1536#32 (ix2 r j) = P.hd.p ⟨1536 + r.val, by omega⟩ j := by
  unfold io3
  pointwise [k0_pay34]
  rw [s3_at, ls_at, minus_inf, mask_select 1536 (by omega) _ _ (by omega) j.isLt]
  rfl

/-! ## The scores' gradient -/

theorem ds0_at (r : Fin 512) (j : Fin 512) :
    k0_pay11 P.cq P.ck P.ls (row0 P.q) (row0 P.k) (row0 P.v) (row0 P.g) (ix2 r j) = P.hd.ds ⟨r.val, by omega⟩ ⟨j.val, by omega⟩ := by
  pointwise [k0_pay11]
  simp only [p0_at, row0_at]
  have hs := sum_first (e := 512) (n := 2048) (by omega) (fun x => P.hd.p ⟨r.val, by omega⟩ x * P.hd.dp ⟨r.val, by omega⟩ x)
    fun x hx => by beta_reduce; rw [P.hd.p_zero (by show r.val < x.val; omega), zero_mul]
  unfold Head.ds; rw [← hs]; rfl

theorem ds1_at (r : Fin 512) (j : Fin 1024) :
    k0_pay19 P.ls (top1 P.v) (row1 P.g) P.s1 (ix2 r j) = P.hd.ds ⟨512 + r.val, by omega⟩ ⟨j.val, by omega⟩ := by
  pointwise [k0_pay19]
  simp only [p1_at, row1_at, top1_at]
  have hs := sum_first (e := 1024) (n := 2048) (by omega) (fun x => P.hd.p ⟨512 + r.val, by omega⟩ x * P.hd.dp ⟨512 + r.val, by omega⟩ x)
    fun x hx => by beta_reduce; rw [P.hd.p_zero (by show 512 + r.val < x.val; omega), zero_mul]
  unfold Head.ds; rw [← hs]; rfl

theorem ds2_at (r : Fin 512) (j : Fin 1536) : P.d2 (ix2 r j) = P.hd.ds ⟨1024 + r.val, by omega⟩ ⟨j.val, by omega⟩ := by
  have e : ∀ x : Fin 1536, k0_pay26 P.cq P.ck P.ls (row2 P.q) (top2 P.k) (ix2 r x) = P.hd.p ⟨1024 + r.val, by omega⟩ ⟨x.val, by omega⟩ := fun x => P.p2_at r x
  unfold d2
  pointwise [k0_pay27]
  simp only [e, row2_at, top2_at]
  have hs := sum_first (e := 1536) (n := 2048) (by omega) (fun x => P.hd.p ⟨1024 + r.val, by omega⟩ x * P.hd.dp ⟨1024 + r.val, by omega⟩ x)
    fun x hx => by beta_reduce; rw [P.hd.p_zero (by show 1024 + r.val < x.val; omega), zero_mul]
  unfold Head.ds; rw [← hs]; rfl

theorem ds3_at (r : Fin 512) (j : Fin 2048) :
    k0_pay35 P.ls (top3 P.v) (row3 P.g) P.s3 io3 1536#32 (ix2 r j) = P.hd.ds ⟨1536 + r.val, by omega⟩ j := by
  pointwise [k0_pay35]
  simp only [p3_at, row3_at, top3_at]
  rfl

/-! ## The queries' gradient -/

theorem gq0_at (r : Fin 512) (d : Fin 128) :
    k0_pay14 P.cq P.ck P.ls (row0 P.q) (row0 P.k) (row0 P.v) (row0 P.g) (ix2 r d) = P.hd.gq ⟨r.val, by omega⟩ d := by
  pointwise [k0_pay14, k0_pay13]
  simp only [ds0_at, row0_at]
  have hs := sum_first (e := 512) (n := 2048) (by omega) (fun x => P.hd.ds ⟨r.val, by omega⟩ x * P.hd.k x d)
    fun x hx => by beta_reduce; rw [P.hd.ds_zero (by show r.val < x.val; omega), zero_mul]
  unfold Head.gq; rw [← hs]; rfl

theorem gq1_at (r : Fin 512) (d : Fin 128) :
    k0_pay22 P.ls (top1 P.k) (top1 P.v) (row1 P.g) P.s1 (ix2 r d) = P.hd.gq ⟨512 + r.val, by omega⟩ d := by
  pointwise [k0_pay22, k0_pay21]
  simp only [ds1_at, top1_at]
  have hs := sum_first (e := 1024) (n := 2048) (by omega) (fun x => P.hd.ds ⟨512 + r.val, by omega⟩ x * P.hd.k x d)
    fun x hx => by beta_reduce; rw [P.hd.ds_zero (by show 512 + r.val < x.val; omega), zero_mul]
  unfold Head.gq; rw [← hs]; rfl

theorem gq2_at (r : Fin 512) (d : Fin 128) : k0_pay30 (top2 P.k) P.d2 (ix2 r d) = P.hd.gq ⟨1024 + r.val, by omega⟩ d := by
  pointwise [k0_pay30, k0_pay29]
  simp only [ds2_at, top2_at]
  have hs := sum_first (e := 1536) (n := 2048) (by omega) (fun x => P.hd.ds ⟨1024 + r.val, by omega⟩ x * P.hd.k x d)
    fun x hx => by beta_reduce; rw [P.hd.ds_zero (by show 1024 + r.val < x.val; omega), zero_mul]
  unfold Head.gq; rw [← hs]; rfl

theorem gq3_at (r : Fin 512) (d : Fin 128) :
    k0_pay38 P.ls (top3 P.k) (top3 P.v) (row3 P.g) P.s3 io3 1536#32 (ix2 r d) = P.hd.gq ⟨1536 + r.val, by omega⟩ d := by
  pointwise [k0_pay38, k0_pay37]
  simp only [ds3_at, top3_at]
  rfl

end Pt

end Cert.KernelIdeal.Hand

end
-- ==== Proof.Point.lean ====
/- At the exact values, the outputs of a grid point are the head's four gradients: the query blocks' stores put
   together, and the three accumulators, each a sum of the four blocks' parts, summed up. -/
module

public import proofs.«01_k».proof.Proof.Tiles

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Hand

/-- Reading the last store of a list where it stored: rows `o … o + n` of a two-axis array. -/
theorem canon_in {N M n o : ℕ} {e : EltTy} (inb : ∀ a, (![o, 0] : Fin 2 → ℕ) a + (![n, M] : Fin 2 → ℕ) a ≤ (⟨2, ![N, M]⟩ : Shape).size a)
    (w : Vec Ideal ⟨2, ![n, M]⟩ e) (L : List (View.Piece (Elt Ideal) ⟨2, ![N, M]⟩ e)) (j : Fin N) (d : Fin M) (x : Fin n) (hx : j.val = o + x.val) :
    View.canon (⟨Rect.unit (s := ⟨2, ![N, M]⟩) ![o, 0] ![n, M] inb, w⟩ :: L) (ix2 j d) = w (ix2 x d) := by
  have e := View.canon_cons_emb (Val := Elt Ideal) (Rect.unit (s := ⟨2, ![N, M]⟩) ![o, 0] ![n, M] inb) w L (ix2 x d)
  refine (congrArg _ (funext fun a => Fin.ext ?_)).trans e
  match a with
  | ⟨0, _⟩ => show j.val = o + 1 * x.val; omega
  | ⟨1, _⟩ => show d.val = 0 + 1 * d.val; omega

/-- Reading it elsewhere: the earlier stores. -/
theorem canon_off {N M n o : ℕ} {e : EltTy} (inb : ∀ a, (![o, 0] : Fin 2 → ℕ) a + (![n, M] : Fin 2 → ℕ) a ≤ (⟨2, ![N, M]⟩ : Shape).size a)
    (w : Vec Ideal ⟨2, ![n, M]⟩ e) (L : List (View.Piece (Elt Ideal) ⟨2, ![N, M]⟩ e)) (j : Fin N) (d : Fin M) (hx : j.val < o ∨ o + n ≤ j.val) :
    View.canon (⟨Rect.unit (s := ⟨2, ![N, M]⟩) ![o, 0] ![n, M] inb, w⟩ :: L) (ix2 j d) = View.canon L (ix2 j d) := by
  refine View.canon_cons_of_not_mem (Val := Elt Ideal) _ _ fun hm => ?_
  have h0 := (Rect.mem_set_unit (inb := inb)).mp hm 0
  have h1 : o ≤ j.val ∧ j.val < o + n := h0
  omega

/-- The same of a row stored from its start. -/
theorem canon_row_in {N n : ℕ} (inb : ∀ a, (![0, 0] : Fin 2 → ℕ) a + (![1, n] : Fin 2 → ℕ) a ≤ (⟨2, ![1, N]⟩ : Shape).size a)
    (w : Vec Ideal ⟨2, ![1, n]⟩ .f32) (L : List (View.Piece (Elt Ideal) ⟨2, ![1, N]⟩ .f32)) (j : Fin N) (x : Fin n) (hx : j.val = x.val) :
    View.canon (⟨Rect.unit (s := ⟨2, ![1, N]⟩) ![0, 0] ![1, n] inb, w⟩ :: L) (ix2 0 j) = w (ix2 0 x) := by
  have e := View.canon_cons_emb (Val := Elt Ideal) (Rect.unit (s := ⟨2, ![1, N]⟩) ![0, 0] ![1, n] inb) w L (ix2 0 x)
  refine (congrArg _ (funext fun a => Fin.ext ?_)).trans e
  match a with
  | ⟨0, _⟩ => rfl
  | ⟨1, _⟩ => show j.val = 0 + 1 * x.val; omega

theorem canon_row_off {N n : ℕ} (inb : ∀ a, (![0, 0] : Fin 2 → ℕ) a + (![1, n] : Fin 2 → ℕ) a ≤ (⟨2, ![1, N]⟩ : Shape).size a)
    (w : Vec Ideal ⟨2, ![1, n]⟩ .f32) (L : List (View.Piece (Elt Ideal) ⟨2, ![1, N]⟩ .f32)) (j : Fin N) (hx : n ≤ j.val) :
    View.canon (⟨Rect.unit (s := ⟨2, ![1, N]⟩) ![0, 0] ![1, n] inb, w⟩ :: L) (ix2 0 j) = View.canon L (ix2 0 j) := by
  refine View.canon_cons_of_not_mem (Val := Elt Ideal) _ _ fun hm => ?_
  have h1 : 0 ≤ j.val ∧ j.val < 0 + n := (Rect.mem_set_unit (inb := inb)).mp hm 1
  omega

/-- A block's part of a sum over the rows is zero where every term is. -/
theorem part_zero {n : ℕ} {f : Fin n → EReal} {a : EReal} (h : ∀ x, f x = 0) : a = a + ∑ x, f x := by
  rw [Finset.sum_eq_zero fun x _ => h x, add_zero]

namespace Pt

variable (P : Pt Ideal)

/-! ## The queries' gradient -/

theorem dq_at (r : Fin 2048) (d : Fin 128) : P.dq (ix2 r d) = P.hd.gq r d := by
  unfold dq dqL
  by_cases h3 : 1536 ≤ r.val
  · rw [canon_in _ _ _ r d ⟨r.val - 1536, by omega⟩ (by show r.val = 1536 + (r.val - 1536); omega), gq3_at]
    exact congrArg (P.hd.gq · d) (Fin.ext (by show 1536 + (r.val - 1536) = r.val; omega))
  rw [canon_off _ _ _ r d (by omega)]
  by_cases h2 : 1024 ≤ r.val
  · rw [canon_in _ _ _ r d ⟨r.val - 1024, by omega⟩ (by show r.val = 1024 + (r.val - 1024); omega), gq2_at]
    exact congrArg (P.hd.gq · d) (Fin.ext (by show 1024 + (r.val - 1024) = r.val; omega))
  rw [canon_off _ _ _ r d (by omega)]
  by_cases h1 : 512 ≤ r.val
  · rw [canon_in _ _ _ r d ⟨r.val - 512, by omega⟩ (by show r.val = 512 + (r.val - 512); omega), gq1_at]
    exact congrArg (P.hd.gq · d) (Fin.ext (by show 512 + (r.val - 512) = r.val; omega))
  rw [canon_off _ _ _ r d (by omega), canon_in _ _ _ r d ⟨r.val, by omega⟩ (by show r.val = 0 + r.val; omega), gq0_at]

/-! ## The keys' gradient -/

theorem K0_at (j : Fin 2048) (d : Fin 128) : View.canon (K0 (F := Ideal)) (ix2 j d) = 0 := by
  unfold K0
  rw [canon_in _ _ _ j d j (by omega)]
  pointwise [k0_pay7]

theorem K1_at (j : Fin 2048) (d : Fin 128) :
    View.canon P.K1 (ix2 j d) = ∑ r : Fin 512, P.hd.ds ⟨r.val, by omega⟩ j * P.hd.q ⟨r.val, by omega⟩ d := by
  unfold K1
  by_cases h : j.val < 512
  · rw [canon_in _ _ _ j d ⟨j.val, h⟩ (by show j.val = 0 + j.val; omega)]
    pointwise [k0_pay15, k0_pay13]
    simp only [ds0_at, row0_at]
    rw [K0_at, zero_add]; rfl
  · rw [canon_off _ _ _ j d (by omega), K0_at]
    exact (part_zero fun r => by rw [P.hd.ds_zero (by show r.val < j.val; omega), zero_mul]).trans (zero_add _)

theorem K2_at (j : Fin 2048) (d : Fin 128) :
    View.canon P.K2 (ix2 j d) = View.canon P.K1 (ix2 j d) + ∑ r : Fin 512, P.hd.ds ⟨512 + r.val, by omega⟩ j * P.hd.q ⟨512 + r.val, by omega⟩ d := by
  unfold K2
  by_cases h : j.val < 1024
  · rw [canon_in _ _ _ j d ⟨j.val, h⟩ (by show j.val = 0 + j.val; omega)]
    pointwise [k0_pay23, k0_pay21]
    simp only [ds1_at, row1_at, top1_at]
    rfl
  · rw [canon_off _ _ _ j d (by omega)]
    exact part_zero fun r => by rw [P.hd.ds_zero (by show 512 + r.val < j.val; omega), zero_mul]

theorem K3_at (j : Fin 2048) (d : Fin 128) :
    View.canon P.K3 (ix2 j d) = View.canon P.K2 (ix2 j d) + ∑ r : Fin 512, P.hd.ds ⟨1024 + r.val, by omega⟩ j * P.hd.q ⟨1024 + r.val, by omega⟩ d := by
  unfold K3
  by_cases h : j.val < 1536
  · rw [canon_in _ _ _ j d ⟨j.val, h⟩ (by show j.val = 0 + j.val; omega)]
    pointwise [k0_pay31, k0_pay29]
    simp only [ds2_at, row2_at, top2_at]
    rfl
  · rw [canon_off _ _ _ j d (by omega)]
    exact part_zero fun r => by rw [P.hd.ds_zero (by show 1024 + r.val < j.val; omega), zero_mul]

theorem K4_at (j : Fin 2048) (d : Fin 128) :
    View.canon P.K4 (ix2 j d) = View.canon P.K3 (ix2 j d) + ∑ r : Fin 512, P.hd.ds ⟨1536 + r.val, by omega⟩ j * P.hd.q ⟨1536 + r.val, by omega⟩ d := by
  unfold K4
  rw [canon_in _ _ _ j d j (by omega)]
  pointwise [k0_pay39, k0_pay37]
  simp only [ds3_at, row3_at, top3_at]
  rfl

theorem dk_at (j : Fin 2048) (d : Fin 128) : P.dk (ix2 j d) = P.hd.gk j d := by
  unfold dk
  pointwise [k0_pay2]
  rw [top3_at, K4_at, K3_at, K2_at, K1_at]
  unfold Head.gk
  rw [sum_blocks]
  rfl

/-! ## The values' gradient -/

theorem V0_at (j : Fin 2048) (d : Fin 128) : View.canon (V0 (F := Ideal)) (ix2 j d) = 0 := by
  unfold V0
  rw [canon_in _ _ _ j d j (by omega)]
  pointwise [k0_pay8]

theorem V1_at (j : Fin 2048) (d : Fin 128) :
    View.canon P.V1 (ix2 j d) = ∑ r : Fin 512, P.hd.p ⟨r.val, by omega⟩ j * P.hd.g ⟨r.val, by omega⟩ d := by
  unfold V1
  by_cases h : j.val < 512
  · rw [canon_in _ _ _ j d ⟨j.val, h⟩ (by show j.val = 0 + j.val; omega)]
    pointwise [k0_pay16]
    simp only [p0_at, row0_at]
    rw [V0_at, zero_add]; rfl
  · rw [canon_off _ _ _ j d (by omega), V0_at]
    exact (part_zero fun r => by rw [P.hd.p_zero (by show r.val < j.val; omega), zero_mul]).trans (zero_add _)

theorem V2_at (j : Fin 2048) (d : Fin 128) :
    View.canon P.V2 (ix2 j d) = View.canon P.V1 (ix2 j d) + ∑ r : Fin 512, P.hd.p ⟨512 + r.val, by omega⟩ j * P.hd.g ⟨512 + r.val, by omega⟩ d := by
  unfold V2
  by_cases h : j.val < 1024
  · rw [canon_in _ _ _ j d ⟨j.val, h⟩ (by show j.val = 0 + j.val; omega)]
    pointwise [k0_pay25, k0_pay24]
    simp only [p1_at, row1_at, top1_at]
    rfl
  · rw [canon_off _ _ _ j d (by omega)]
    exact part_zero fun r => by rw [P.hd.p_zero (by show 512 + r.val < j.val; omega), zero_mul]

theorem V3_at (j : Fin 2048) (d : Fin 128) :
    View.canon P.V3 (ix2 j d) = View.canon P.V2 (ix2 j d) + ∑ r : Fin 512, P.hd.p ⟨1024 + r.val, by omega⟩ j * P.hd.g ⟨1024 + r.val, by omega⟩ d := by
  unfold V3
  by_cases h : j.val < 1536
  · rw [canon_in _ _ _ j d ⟨j.val, h⟩ (by show j.val = 0 + j.val; omega)]
    pointwise [k0_pay32]
    simp only [p2_at, row2_at, top2_at]
    rfl
  · rw [canon_off _ _ _ j d (by omega)]
    exact part_zero fun r => by rw [P.hd.p_zero (by show 1024 + r.val < j.val; omega), zero_mul]

theorem pay1_at (g : Vec Ideal S512x128 .bf16) (acc : Vec Ideal S2048x128 .f32) (p : FVec Ideal S512x2048 .bf16) (j : Fin 2048) (d : Fin 128) :
    k0_pay1 g acc p (ix2 j d) = (acc (ix2 j d) + ∑ r : Fin 512, p (ix2 r j) * g (ix2 r d) : EReal) := by
  pointwise [k0_pay1]

theorem pay40_at (r : Fin 512) (j : Fin 2048) : k0_pay40 P.ls P.s3 io3 1536#32 (ix2 r j) = P.hd.p ⟨1536 + r.val, by omega⟩ j := by
  rw [← p3_at]
  pointwise [k0_pay40]

theorem V4_at (j : Fin 2048) (d : Fin 128) :
    View.canon P.V4 (ix2 j d) = View.canon P.V3 (ix2 j d) + ∑ r : Fin 512, P.hd.p ⟨1536 + r.val, by omega⟩ j * P.hd.g ⟨1536 + r.val, by omega⟩ d := by
  unfold V4
  rw [canon_in _ _ _ j d j (by omega), pay1_at]
  simp only [pay40_at, row3_at, top3_at]
  rfl

theorem dv_at (j : Fin 2048) (d : Fin 128) : P.dv (ix2 j d) = P.hd.gv j d := by
  unfold dv
  pointwise [k0_pay3]
  rw [top3_at, V4_at, V3_at, V2_at, V1_at]
  unfold Head.gv
  rw [sum_blocks]

/-! ## The log-gates' gradient -/

theorem C0_at (j : Fin 2048) : View.canon (C0 (F := Ideal)) (ix2 0 j) = 0 := by
  unfold C0
  rw [canon_row_in _ _ _ j j rfl]
  pointwise [k0_pay9]

theorem C1_at (j : Fin 2048) : View.canon P.C1 (ix2 0 j) = ∑ r : Fin 512, P.hd.ds ⟨r.val, by omega⟩ j := by
  unfold C1
  by_cases h : j.val < 512
  · rw [canon_row_in _ _ _ j ⟨j.val, h⟩ rfl]
    pointwise [k0_pay12]
    simp only [ds0_at, fst0_at]
    rw [C0_at, zero_add]
  · rw [canon_row_off _ _ _ j (by omega), C0_at]
    exact (part_zero fun r => P.hd.ds_zero (by show r.val < j.val; omega)).trans (zero_add _)

theorem C2_at (j : Fin 2048) : View.canon P.C2 (ix2 0 j) = View.canon P.C1 (ix2 0 j) + ∑ r : Fin 512, P.hd.ds ⟨512 + r.val, by omega⟩ j := by
  unfold C2
  by_cases h : j.val < 1024
  · rw [canon_row_in _ _ _ j ⟨j.val, h⟩ rfl]
    pointwise [k0_pay20]
    simp only [ds1_at, fst1_at]
  · rw [canon_row_off _ _ _ j (by omega)]
    exact part_zero fun r => P.hd.ds_zero (by show 512 + r.val < j.val; omega)

theorem C3_at (j : Fin 2048) : View.canon P.C3 (ix2 0 j) = View.canon P.C2 (ix2 0 j) + ∑ r : Fin 512, P.hd.ds ⟨1024 + r.val, by omega⟩ j := by
  have e : ∀ (r : Fin 512) (x : Fin 1536), k0_pay27 P.cq P.ck P.ls (row2 P.q) (top2 P.k) (top2 P.v) (row2 P.g) (ix2 r x)
      = P.hd.ds ⟨1024 + r.val, by omega⟩ ⟨x.val, by omega⟩ := fun r x => P.ds2_at r x
  unfold C3
  by_cases h : j.val < 1536
  · rw [canon_row_in _ _ _ j ⟨j.val, h⟩ rfl]
    pointwise [k0_pay28]
    simp only [e, fst2_at]
  · rw [canon_row_off _ _ _ j (by omega)]
    exact part_zero fun r => P.hd.ds_zero (by show 1024 + r.val < j.val; omega)

theorem C4_at (j : Fin 2048) : View.canon P.C4 (ix2 0 j) = View.canon P.C3 (ix2 0 j) + ∑ r : Fin 512, P.hd.ds ⟨1536 + r.val, by omega⟩ j := by
  unfold C4
  rw [canon_row_in _ _ _ j j rfl]
  pointwise [k0_pay36]
  simp only [ds3_at, fst3_at]

theorem dc_at (j : Fin 2048) : P.dc (ix2 0 j) = P.hd.gc j := by
  unfold dc
  rw [fst3_at, C4_at, C3_at, C2_at, C1_at]
  unfold Head.gc
  rw [sum_blocks]

end Pt

end Cert.KernelIdeal.Hand

end
-- ==== Proof.Run.lean ====
/- The run of the backward call's body at one grid point, over any values: its inputs come back as they were, its
   outputs hold the values of Values.lean, and the buffer of the log-gates' gradient has the head's row replaced. -/
module

public import proofs.«01_k».proof.Proof.Values
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the whole rectangle of the list's last store holds covers every index. -/
theorem whole_cover {S : Shape} {e : EltTy} {off : Fin S.rank → ℕ} (h : off = fun _ => 0) (inb : ∀ a, off a + S.size a ≤ S.size a)
    (w : S.Idx → Elt F e) (L : List (View.Piece (Elt F) S e)) :
    ∀ y, ∃ p ∈ (⟨Rect.unit off S.size inb, w⟩ : View.Piece (Elt F) S e) :: L, y ∈ p.1.set := by
  intro y
  refine ⟨_, List.mem_cons_self, ?_⟩
  subst h
  rw [Rect.mem_set_unit]
  exact fun a => ⟨Nat.zero_le _, by simpa using (y a).isLt⟩

theorem zz : (![0, 0] : Fin 2 → ℕ) = fun _ => 0 := by funext a; fin_cases a <;> rfl

/-- The four row blocks cover the block of the queries' gradient. -/
theorem dqL_cover (P : Pt F) : ∀ y, ∃ p ∈ P.dqL, y ∈ p.1.set := View.cover_of_tiled _ S512x128.size rfl

/-- One store into a whole buffer held at contents `y`: the stored rectangle replaced, the rest as it was. -/
theorem read_row_store {S : Shape} {e : EltTy} {m : Memref sig .tc .vmem S e} (hm : m.IsWhole) (y : Vec F S e) (r : Rect S)
    (w : r.shape.Idx → Elt F e) : View.read (Elt F) m.view (m.view.writes (Elt F) (hm.unread y) [⟨r, w⟩]) = r.overlay y w := by
  funext j
  by_cases hj : j ∈ r.set
  · obtain ⟨x, rfl⟩ := r.exists_idx_of_mem hj
    exact (View.read_writes_cons_emb _ _ _ _ _ _).trans (r.overlay_emb y w x).symm
  · have hj' : j ∉ Finset.univ.map r.emb := by rwa [Rect.map_emb_univ]
    rw [View.writes_cons, View.read_slice_write_of_not_mem r _ _ _ hj', r.overlay_of_not_mem _ _ hj, View.writes_nil, hm.read_unread]

/-- A load through a whole buffer held at the contents that read `x`. -/
theorem readAt_whole {S : Shape} {e : EltTy} {m : Memref sig .tc .vmem S e} (hm : m.IsWhole) (x : Vec F S e) (r : LoadRect S) :
    View.readAt (Elt F) m.view r (hm.unread x) = fun j => x (r.idx j) :=
  funext fun j => hm.readAt_unread x r j

/-! A read-back of an accumulator is a load of what its stores leave. -/

section
variable {sig : RefSig} {κ : Kind} {sp : Space}
theorem row0_cov (v : View sig κ sp S2048x128 .f32) (L : List (View.Piece (Elt F) S2048x128 .f32)) :
    v.readCov L (Rect.unit (s := S2048x128) ![0, 0] S512x128.size inb_S2048x128_S512x128_0_0).toLoadRect = row0 (View.canon L) := by
  rw [View.readCov_eq_canon']; rfl
theorem top1_cov (v : View sig κ sp S2048x128 .f32) (L : List (View.Piece (Elt F) S2048x128 .f32)) :
    v.readCov L (Rect.unit (s := S2048x128) ![0, 0] S1024x128.size inb_S2048x128_S1024x128_0_0).toLoadRect = top1 (View.canon L) := by
  rw [View.readCov_eq_canon']; rfl
theorem top2_cov (v : View sig κ sp S2048x128 .f32) (L : List (View.Piece (Elt F) S2048x128 .f32)) :
    v.readCov L (Rect.unit (s := S2048x128) ![0, 0] S1536x128.size inb_S2048x128_S1536x128_0_0).toLoadRect = top2 (View.canon L) := by
  rw [View.readCov_eq_canon']; rfl
theorem top3_cov (v : View sig κ sp S2048x128 .f32) (L : List (View.Piece (Elt F) S2048x128 .f32)) :
    v.readCov L (Rect.unit (s := S2048x128) ![0, 0] S2048x128.size inb_S2048x128_S2048x128_0_0).toLoadRect = top3 (View.canon L) := by
  rw [View.readCov_eq_canon']; rfl
theorem fst0_cov (v : View sig κ sp S1x2048 .f32) (L : List (View.Piece (Elt F) S1x2048 .f32)) :
    v.readCov L (Rect.unit (s := S1x2048) ![0, 0] S1x512.size inb_S1x2048_S1x512_0_0).toLoadRect = fst0 (View.canon L) := by
  rw [View.readCov_eq_canon']; rfl
theorem fst1_cov (v : View sig κ sp S1x2048 .f32) (L : List (View.Piece (Elt F) S1x2048 .f32)) :
    v.readCov L (Rect.unit (s := S1x2048) ![0, 0] S1x1024.size inb_S1x2048_S1x1024_0_0).toLoadRect = fst1 (View.canon L) := by
  rw [View.readCov_eq_canon']; rfl
theorem fst2_cov (v : View sig κ sp S1x2048 .f32) (L : List (View.Piece (Elt F) S1x2048 .f32)) :
    v.readCov L (Rect.unit (s := S1x2048) ![0, 0] S1x1536.size inb_S1x2048_S1x1536_0_0).toLoadRect = fst2 (View.canon L) := by
  rw [View.readCov_eq_canon']; rfl
theorem fst3_cov (v : View sig κ sp S1x2048 .f32) (L : List (View.Piece (Elt F) S1x2048 .f32)) :
    v.readCov L (Rect.unit (s := S1x2048) ![0, 0] S1x2048.size inb_S1x2048_S1x2048_0_0).toLoadRect = fst3 (View.canon L) := by
  rw [View.readCov_eq_canon']; rfl
end

set_option maxHeartbeats 1000000 in
theorem body_run (c : Dev nD) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S8x2048 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S8x2048 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S1x2048 .f32) (harg14 : arg14.IsWhole)
    (P : Pt F) (y : Vec F S8x2048 .f32) :
      ∀ (E : Set ℕ) (K : PUnit → sProp 𝕄),
        iprop(owns (c : Thread nD τ) arg1 fullShare P.q ∗ owns (c : Thread nD τ) arg2 fullShare P.k ∗ owns (c : Thread nD τ) arg3 fullShare P.v ∗ owns (c : Thread nD τ) arg4 fullShare P.g ∗ owns (c : Thread nD τ) arg5 fullShare P.c ∗ owns (c : Thread nD τ) arg6 fullShare P.ct ∗ owns (c : Thread nD τ) arg7 fullShare P.l ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare P.q ∗ owns (c : Thread nD τ) arg2 fullShare P.k ∗ owns (c : Thread nD τ) arg3 fullShare P.v ∗ owns (c : Thread nD τ) arg4 fullShare P.g ∗ owns (c : Thread nD τ) arg5 fullShare P.c ∗ owns (c : Thread nD τ) arg6 fullShare P.ct ∗ owns (c : Thread nD τ) arg7 fullShare P.l ∗ owns (c : Thread nD τ) arg8 fullShare P.dq ∗ owns (c : Thread nD τ) arg9 fullShare P.dk ∗ owns (c : Thread nD τ) arg10 fullShare P.dv ∗ owns (c : Thread nD τ) arg11 fullShare (P.dcNew y) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fox_bwd P.i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10
    sl_exec
    sl_step
    have e0 := readAt_whole (F := F) harg1 P.q
    have e1 := readAt_whole (F := F) harg2 P.k
    have e2 := readAt_whole (F := F) harg3 P.v
    have e3 := readAt_whole (F := F) harg4 P.g
    have e4 := readAt_whole (F := F) harg5 P.c
    have e5 := readAt_whole (F := F) harg6 P.ct
    have e6 := readAt_whole (F := F) harg7 P.l
    have h_r : body_run.sl.r c arg5 harg5 P = P.cq := by
      delta body_run.sl.r; simp only [e4]; rfl
    have h_r_1 : body_run.sl.r_1 c arg6 harg6 P = P.ck := by
      delta body_run.sl.r_1; simp only [e5]; rfl
    have h_r_2 : body_run.sl.r_2 c arg7 harg7 P = P.ls := by
      delta body_run.sl.r_2; simp only [e6]; rfl
    have h_r_3 : body_run.sl.r_3 c arg1 harg1 P = row0 P.q := by
      delta body_run.sl.r_3; simp only [e0]; rfl
    have h_r_4 : body_run.sl.r_4 c arg2 harg2 P = row0 P.k := by
      delta body_run.sl.r_4; simp only [e1]; rfl
    have h_r_5 : body_run.sl.r_5 c arg4 harg4 P = row0 P.g := by
      delta body_run.sl.r_5; simp only [e3]; rfl
    have h_r_9 : body_run.sl.r_9 c arg1 harg1 P = row1 P.q := by
      delta body_run.sl.r_9; simp only [e0]; rfl
    have h_r_10 : body_run.sl.r_10 c arg2 harg2 P = top1 P.k := by
      delta body_run.sl.r_10; simp only [e1]; rfl
    have h_r_11 : body_run.sl.r_11 c arg3 harg3 P = top1 P.v := by
      delta body_run.sl.r_11; simp only [e2]; rfl
    have h_r_12 : body_run.sl.r_12 c arg4 harg4 P = row1 P.g := by
      delta body_run.sl.r_12; simp only [e3]; rfl
    have h_r_15 : body_run.sl.r_15 c arg1 harg1 P = row2 P.q := by
      delta body_run.sl.r_15; simp only [e0]; rfl
    have h_r_16 : body_run.sl.r_16 c arg2 harg2 P = top2 P.k := by
      delta body_run.sl.r_16; simp only [e1]; rfl
    have h_r_17 : body_run.sl.r_17 c arg4 harg4 P = row2 P.g := by
      delta body_run.sl.r_17; simp only [e3]; rfl
    have h_r_20 : body_run.sl.r_20 c arg1 harg1 P = row3 P.q := by
      delta body_run.sl.r_20; simp only [e0]; rfl
    have h_r_21 : body_run.sl.r_21 c arg2 harg2 P = top3 P.k := by
      delta body_run.sl.r_21; simp only [e1]; rfl
    have h_r_22 : body_run.sl.r_22 c arg3 harg3 P = top3 P.v := by
      delta body_run.sl.r_22; simp only [e2]; rfl
    have h_r_23 : body_run.sl.r_23 c arg4 harg4 P = row3 P.g := by
      delta body_run.sl.r_23; simp only [e3]; rfl
    have h_r_6 : body_run.sl.r_6 c arg1 harg1 arg2 harg2 arg5 harg5 arg6 harg6 arg7 harg7 P = k0_pay10 P.cq P.ck P.ls (row0 P.q) (row0 P.k) := by
      delta body_run.sl.r_6; simp only [h_r, h_r_1, h_r_2, h_r_3, h_r_4]
    have h_r_7 : body_run.sl.r_7 c arg1 harg1 arg2 harg2 arg3 harg3 arg4 harg4 arg5 harg5 arg6 harg6 arg7 harg7 P = k0_pay13 P.cq P.ck P.ls (row0 P.q) (row0 P.k) (row0 P.v) (row0 P.g) := by
      delta body_run.sl.r_7; simp only [h_r, h_r_1, h_r_2, h_r_3, h_r_4, e0, e1, e2, e3, e4, e5, e6]; rfl
    have h_r_8 : body_run.sl.r_8 c arg1 harg1 arg2 harg2 arg3 harg3 arg4 harg4 arg5 harg5 arg6 harg6 arg7 harg7 P = k0_pay14 P.cq P.ck P.ls (row0 P.q) (row0 P.k) (row0 P.v) (row0 P.g) := by
      delta body_run.sl.r_8; simp only [h_r, h_r_1, h_r_2, h_r_3, h_r_4, e0, e1, e2, e3, e4, e5, e6]; rfl
    have h_r_13 : body_run.sl.r_13 c arg1 harg1 arg2 harg2 arg5 harg5 arg6 harg6 P = P.s1 := by
      delta body_run.sl.r_13; simp only [h_r, h_r_1, e0, e1, e4, e5]; rfl
    have h_r_18 : body_run.sl.r_18 c arg1 harg1 arg2 harg2 arg5 harg5 arg6 harg6 arg7 harg7 P = P.p2 := by
      delta body_run.sl.r_18; simp only [h_r, h_r_1, h_r_2, e0, e1, e4, e5, e6]; rfl
    have h_r_19 : body_run.sl.r_19 c arg1 harg1 arg2 harg2 arg3 harg3 arg4 harg4 arg5 harg5 arg6 harg6 arg7 harg7 P = P.d2 := by
      delta body_run.sl.r_19; simp only [h_r, h_r_1, h_r_2, e0, e1, e2, e3, e4, e5, e6]; rfl
    have h_v215 : body_run.sl.v215 = Pt.io3 := by
      delta body_run.sl.v215; rfl
    have h_r_24 : body_run.sl.r_24 c arg1 harg1 arg2 harg2 arg5 harg5 arg6 harg6 P = P.s3 := by
      delta body_run.sl.r_24; simp only [h_r, h_r_1, e0, e1, e4, e5]; rfl
    have h_r_25 : body_run.sl.r_25 c arg1 harg1 arg2 harg2 arg5 harg5 arg6 harg6 arg7 harg7 P = k0_pay40 P.ls P.s3 Pt.io3 1536#32 := by
      delta body_run.sl.r_25; simp only [h_r_2, h_r_24, h_v215]
    have h_HS0_1 : body_run.sl.HS0_1 = Pt.K0 (F := F) := by
      delta body_run.sl.HS0_1; rfl
    have h_v76 : body_run.sl.v76 c arg12 = row0 (View.canon (Pt.K0 (F := F))) := by
      delta body_run.sl.v76; rw [h_HS0_1]; exact row0_cov _ _
    have h_HS0_2 : body_run.sl.HS0_2 c arg1 harg1 arg2 harg2 arg3 harg3 arg4 harg4 arg5 harg5 arg6 harg6 arg7 harg7 arg12 P = P.K1 := by
      delta body_run.sl.HS0_2; simp only [h_r_3, h_r_7, h_v76, h_HS0_1]; rfl
    have h_v133 : body_run.sl.v133 c arg1 harg1 arg2 harg2 arg3 harg3 arg4 harg4 arg5 harg5 arg6 harg6 arg7 harg7 arg12 P = top1 (View.canon P.K1) := by
      delta body_run.sl.v133; rw [h_HS0_2]; exact top1_cov _ _
    have h_HS0_3 : body_run.sl.HS0_3 c arg1 harg1 arg2 harg2 arg3 harg3 arg4 harg4 arg5 harg5 arg6 harg6 arg7 harg7 arg12 P = P.K2 := by
      delta body_run.sl.HS0_3; simp only [h_r_2, h_r_9, h_r_11, h_r_12, h_r_13, h_v133, h_HS0_2]; rfl
    have h_v190 : body_run.sl.v190 c arg1 harg1 arg2 harg2 arg3 harg3 arg4 harg4 arg5 harg5 arg6 harg6 arg7 harg7 arg12 P = top2 (View.canon P.K2) := by
      delta body_run.sl.v190; rw [h_HS0_3]; exact top2_cov _ _
    have h_HS0_4 : body_run.sl.HS0_4 c arg1 harg1 arg2 harg2 arg3 harg3 arg4 harg4 arg5 harg5 arg6 harg6 arg7 harg7 arg12 P = P.K3 := by
      delta body_run.sl.HS0_4; simp only [h_r_15, h_r_19, h_v190, h_HS0_3]; rfl
    have h_v246 : body_run.sl.v246 c arg1 harg1 arg2 harg2 arg3 harg3 arg4 harg4 arg5 harg5 arg6 harg6 arg7 harg7 arg12 P = top3 (View.canon P.K3) := by
      delta body_run.sl.v246; rw [h_HS0_4]; exact top3_cov _ _
    have h_HS0_5 : body_run.sl.HS0_5 c arg1 harg1 arg2 harg2 arg3 harg3 arg4 harg4 arg5 harg5 arg6 harg6 arg7 harg7 arg12 P = P.K4 := by
      delta body_run.sl.HS0_5; simp only [h_r_2, h_r_20, h_r_22, h_r_23, h_r_24, h_v215, h_v246, h_HS0_4]; rfl
    have h_v259 : body_run.sl.v259 c arg1 harg1 arg2 harg2 arg3 harg3 arg4 harg4 arg5 harg5 arg6 harg6 arg7 harg7 arg12 P = top3 (View.canon P.K4) := by
      delta body_run.sl.v259; rw [h_HS0_5]; exact top3_cov _ _
    have h_HS1_1 : body_run.sl.HS1_1 = Pt.V0 (F := F) := by
      delta body_run.sl.HS1_1; rfl
    have h_v82 : body_run.sl.v82 c arg13 = row0 (View.canon (Pt.V0 (F := F))) := by
      delta body_run.sl.v82; rw [h_HS1_1]; exact row0_cov _ _
    have h_HS1_2 : body_run.sl.HS1_2 c arg1 harg1 arg2 harg2 arg4 harg4 arg5 harg5 arg6 harg6 arg7 harg7 arg13 P = P.V1 := by
      delta body_run.sl.HS1_2; simp only [h_r_5, h_r_6, h_v82, h_HS1_1]; rfl
    have h_v139 : body_run.sl.v139 c arg1 harg1 arg2 harg2 arg4 harg4 arg5 harg5 arg6 harg6 arg7 harg7 arg13 P = top1 (View.canon P.V1) := by
      delta body_run.sl.v139; rw [h_HS1_2]; exact top1_cov _ _
    have h_r_14 : body_run.sl.r_14 c arg1 harg1 arg2 harg2 arg4 harg4 arg5 harg5 arg6 harg6 arg7 harg7 arg13 P = k0_pay24 P.ls (row1 P.g) P.s1 (top1 (View.canon P.V1)) := by
      delta body_run.sl.r_14; simp only [h_r_2, h_r_12, h_r_13, h_v139]
    have h_HS1_3 : body_run.sl.HS1_3 c arg1 harg1 arg2 harg2 arg4 harg4 arg5 harg5 arg6 harg6 arg7 harg7 arg13 P = P.V2 := by
      delta body_run.sl.HS1_3; simp only [h_r_14, h_HS1_2]; rfl
    have h_v196 : body_run.sl.v196 c arg1 harg1 arg2 harg2 arg4 harg4 arg5 harg5 arg6 harg6 arg7 harg7 arg13 P = top2 (View.canon P.V2) := by
      delta body_run.sl.v196; rw [h_HS1_3]; exact top2_cov _ _
    have h_HS1_4 : body_run.sl.HS1_4 c arg1 harg1 arg2 harg2 arg4 harg4 arg5 harg5 arg6 harg6 arg7 harg7 arg13 P = P.V3 := by
      delta body_run.sl.HS1_4; simp only [h_r_17, h_r_18, h_v196, h_HS1_3]; rfl
    have h_v252 : body_run.sl.v252 c arg1 harg1 arg2 harg2 arg4 harg4 arg5 harg5 arg6 harg6 arg7 harg7 arg13 P = top3 (View.canon P.V3) := by
      delta body_run.sl.v252; rw [h_HS1_4]; exact top3_cov _ _
    have h_HS1_5 : body_run.sl.HS1_5 c arg1 harg1 arg2 harg2 arg4 harg4 arg5 harg5 arg6 harg6 arg7 harg7 arg13 P = P.V4 := by
      delta body_run.sl.HS1_5; simp only [h_r_23, h_v252, h_r_25, h_HS1_4]; rfl
    have h_v264 : body_run.sl.v264 c arg1 harg1 arg2 harg2 arg4 harg4 arg5 harg5 arg6 harg6 arg7 harg7 arg13 P = top3 (View.canon P.V4) := by
      delta body_run.sl.v264; rw [h_HS1_5]; exact top3_cov _ _
    have h_HS2_1 : body_run.sl.HS2_1 = Pt.C0 (F := F) := by
      delta body_run.sl.HS2_1; rfl
    have h_v63 : body_run.sl.v63 c arg14 = fst0 (View.canon (Pt.C0 (F := F))) := by
      delta body_run.sl.v63; rw [h_HS2_1]; exact fst0_cov _ _
    have h_HS2_2 : body_run.sl.HS2_2 c arg1 harg1 arg2 harg2 arg3 harg3 arg4 harg4 arg5 harg5 arg6 harg6 arg7 harg7 arg14 P = P.C1 := by
      delta body_run.sl.HS2_2; simp only [h_r, h_r_1, h_r_2, h_r_3, h_r_4, h_v63, h_HS2_1, e0, e1, e2, e3, e4, e5, e6]; rfl
    have h_v120 : body_run.sl.v120 c arg1 harg1 arg2 harg2 arg3 harg3 arg4 harg4 arg5 harg5 arg6 harg6 arg7 harg7 arg14 P = fst1 (View.canon P.C1) := by
      delta body_run.sl.v120; rw [h_HS2_2]; exact fst1_cov _ _
    have h_HS2_3 : body_run.sl.HS2_3 c arg1 harg1 arg2 harg2 arg3 harg3 arg4 harg4 arg5 harg5 arg6 harg6 arg7 harg7 arg14 P = P.C2 := by
      delta body_run.sl.HS2_3; simp only [h_r_2, h_r_11, h_r_12, h_r_13, h_v120, h_HS2_2]; rfl
    have h_v177 : body_run.sl.v177 c arg1 harg1 arg2 harg2 arg3 harg3 arg4 harg4 arg5 harg5 arg6 harg6 arg7 harg7 arg14 P = fst2 (View.canon P.C2) := by
      delta body_run.sl.v177; rw [h_HS2_3]; exact fst2_cov _ _
    have h_HS2_4 : body_run.sl.HS2_4 c arg1 harg1 arg2 harg2 arg3 harg3 arg4 harg4 arg5 harg5 arg6 harg6 arg7 harg7 arg14 P = P.C3 := by
      delta body_run.sl.HS2_4; simp only [h_r, h_r_1, h_r_2, h_v177, h_HS2_3, e0, e1, e2, e3, e4, e5, e6]; rfl
    have h_v233 : body_run.sl.v233 c arg1 harg1 arg2 harg2 arg3 harg3 arg4 harg4 arg5 harg5 arg6 harg6 arg7 harg7 arg14 P = fst3 (View.canon P.C3) := by
      delta body_run.sl.v233; rw [h_HS2_4]; exact fst3_cov _ _
    have h_HS2_5 : body_run.sl.HS2_5 c arg1 harg1 arg2 harg2 arg3 harg3 arg4 harg4 arg5 harg5 arg6 harg6 arg7 harg7 arg14 P = P.C4 := by
      delta body_run.sl.HS2_5; simp only [h_r_2, h_r_22, h_r_23, h_r_24, h_v215, h_v233, h_HS2_4]; rfl
    have h_v267 : body_run.sl.v267 c arg1 harg1 arg2 harg2 arg3 harg3 arg4 harg4 arg5 harg5 arg6 harg6 arg7 harg7 arg14 P = fst3 (View.canon P.C4) := by
      delta body_run.sl.v267; rw [h_HS2_5]; exact fst3_cov _ _
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; isplitr; swap; · iexact H6
                    ipureintro; exact hf6
    isplitl [H7]
    · iexists _; isplitr; swap; · iexact H7
      ipureintro
      refine Eq.trans ?_ (View.read_writes_eq_canon _ f7 _ (dqL_cover P))
      simp only [h_r_2, h_r_21, h_r_22, h_r_23, h_r_24, h_v215, h_r_16, h_r_19, h_r_10, h_r_11, h_r_12, h_r_13, h_r_8]
      rfl
    isplitl [H8]
    · iexists _; isplitr; swap; · iexact H8
      ipureintro
      refine (View.read_writes_eq_canon _ f8 _ (whole_cover zz _ _ _)).trans ((View.canon_unit_zero zz _ _).trans ?_)
      simp only [h_v259]
      rfl
    isplitl [H9]
    · iexists _; isplitr; swap; · iexact H9
      ipureintro
      refine (View.read_writes_eq_canon _ f9 _ (whole_cover zz _ _ _)).trans ((View.canon_unit_zero zz _ _).trans ?_)
      simp only [h_v264]
      rfl
    isplitl [H10]
    · iexists _; isplitr; swap; · iexact H10
      ipureintro
      refine (read_row_store harg11 y _ _).trans ?_
      simp only [h_v267]
      rfl
    isplitl [HS0]; · iexists _, _; isplitr; swap; · iexact HS0
                     ipureintro; rfl
    isplitl [HS1]; · iexists _, _; isplitr; swap; · iexact HS1
                     ipureintro; rfl
    iexists _, _; isplitr; swap; · iexact HS2
    ipureintro; rfl

end Cert.KernelIdeal.Hand

end
-- ==== Proof.Launch.lean ====
/- The launch of the backward call, over any values: the proof data of its pipeline (the log-gates' gradient, which
   is written row by row over the points, constrained by a relation instead of named), the body's obligation, the
   run of the program, and what it says of the arguments. -/
module

public import proofs.«01_k».proof.Proof.Run
public import proofs.«01_k».proof.Proof.Gen.KernelIdeal.Points
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at point `t`. -/
def pt (c : Dev nD) (t : Fin cfg0.N) : Pt F where
  i := grid0.coords t
  q := iblk m c 0 t
  k := iblk m c 1 t
  v := iblk m c 2 t
  g := iblk m c 3 t
  c := iblk m c 4 t
  ct := iblk m c 5 t
  l := iblk m c 6 t

/-! ## The proof data -/

/-- What each buffer holds after the body at a point: an input its block, the first three outputs their values; the
    fourth output is left to `rdat`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (pt m c t).dq
    | ⟨8, _⟩ => (pt m c t).dk
    | ⟨9, _⟩ => (pt m c t).dv
    | ⟨10, h⟩ => Pipeline.Dat.unnamed (cfg := cfg0) ⟨10, h⟩ t
  Φ _ := Pipeline.ΦA spec0 c
  q w := Pipeline.shareOf spec0 w
  owed _ := 0

/-- The fourth output's relation: the body replaces the head's row and keeps the others. -/
def rowRel (c : Dev nD) : (w : Fin cfg0.W) → Option (Fin cfg0.N → (Y X : (cfg0.win w).block.Idx → Elt F (cfg0.win w).elt) → Prop)
  | ⟨10, _⟩ => some fun t Y X => X = (pt m c t).dcNew Y
  | _ => none

def rdat (c : Dev nD) : RDat τ (Elt F) Unit ℕ (UR sig nD τ) ℕ cfg0 c := (dat m c).toR.override (rowRel m c)

theorem A_eq (c : Dev nD) (w : Fin cfg0.W) : (dat m c).A w = V m c (Pipeline.arrRef spec0 w) := by dsimp only [dat]
theorem rA_eq (c : Dev nD) (w : Fin cfg0.W) : (rdat m c).A w = V m c (Pipeline.arrRef spec0 w) := A_eq m c w

theorem found0 (c : Dev nD) (t : Fin cfg0.N) (d) : (dat m c).before 0 t d = iblk m c 0 t := before0_0_of m (dat m c) (A_eq m c 0) (fun _ => by dsimp only [dat]) t d
theorem found1 (c : Dev nD) (t : Fin cfg0.N) (d) : (dat m c).before 1 t d = iblk m c 1 t := before0_1_of m (dat m c) (A_eq m c 1) (fun _ => by dsimp only [dat]) t d
theorem found2 (c : Dev nD) (t : Fin cfg0.N) (d) : (dat m c).before 2 t d = iblk m c 2 t := before0_2_of m (dat m c) (A_eq m c 2) (fun _ => by dsimp only [dat]) t d
theorem found3 (c : Dev nD) (t : Fin cfg0.N) (d) : (dat m c).before 3 t d = iblk m c 3 t := before0_3_of m (dat m c) (A_eq m c 3) (fun _ => by dsimp only [dat]) t d
theorem found4 (c : Dev nD) (t : Fin cfg0.N) (d) : (dat m c).before 4 t d = iblk m c 4 t := before0_4_of m (dat m c) (A_eq m c 4) (fun _ => by dsimp only [dat]) t d
theorem found5 (c : Dev nD) (t : Fin cfg0.N) (d) : (dat m c).before 5 t d = iblk m c 5 t := before0_5_of m (dat m c) (A_eq m c 5) (fun _ => by dsimp only [dat]) t d
theorem found6 (c : Dev nD) (t : Fin cfg0.N) (d) : (dat m c).before 6 t d = iblk m c 6 t := before0_6_of m (dat m c) (A_eq m c 6) (fun _ => by dsimp only [dat]) t d

/-- What the loop knows of an input's buffer is what the exact data knows. -/
theorem finds_dat (c : Dev nD) {w : Fin cfg0.W} (h : rowRel m c w = none) {t : Fin cfg0.N} {X} (hX : (rdat m c).Finds w t X) :
    ∃ d, X = (dat m c).before w t d :=
  (dat m c).toR_finds w t X (((dat m c).toR.override_finds h t X).mp hX)

/-- A buffer left at the exact data's contents is in the relation. -/
theorem left_dat (c : Dev nD) {w : Fin cfg0.W} (h : rowRel m c w = none) (t : Fin cfg0.N) (Y) (hi : cfg0.idle w (cfg0.grid.coords t) = false)
    (hl : cfg0.loose w = false) : (rdat m c).after w t Y ((dat m c).after w t) := by
  unfold rdat
  rw [(dat m c).toR.override_after_of_eq_none h]
  show (dat m c).Leaves w t _
  rw [Dat.Leaves.live_iff _ (.inl hi), hl]

/-! ## The body at a point -/

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

theorem row_of_body (t : Fin cfg0.N) : defs₀ (F := F) .tc cfg0.body (cfg0.bodyArgs t (cfg0.slots t)) = bodyAt0 t := by
  unfold defs₀; rw [Defs.onTc_tc]

set_option maxHeartbeats 1200000 in
theorem obligation (c : Dev nD) : (rdat (F := F) m c).BodyObligation (defs₀ (F := F)) Variants.none () Set.univ := fun t Y hY => by
  obtain ⟨d0, e0⟩ := finds_dat m c (w := 0) rfl (hY 0)
  obtain ⟨d1, e1⟩ := finds_dat m c (w := 1) rfl (hY 1)
  obtain ⟨d2, e2⟩ := finds_dat m c (w := 2) rfl (hY 2)
  obtain ⟨d3, e3⟩ := finds_dat m c (w := 3) rfl (hY 3)
  obtain ⟨d4, e4⟩ := finds_dat m c (w := 4) rfl (hY 4)
  obtain ⟨d5, e5⟩ := finds_dat m c (w := 5) rfl (hY 5)
  obtain ⟨d6, e6⟩ := finds_dat m c (w := 6) rfl (hY 6)
  rw [found0] at e0; rw [found1] at e1; rw [found2] at e2; rw [found3] at e3; rw [found4] at e4; rw [found5] at e5; rw [found6] at e6
  have a : ∀ {w : Fin cfg0.W} (h : rowRel m c w = none), (rdat m c).after w t (Y w) ((dat m c).after w t) := fun h => left_dat m c h t _ rfl rfl
  rw [bigSep_W0, bigSep_W0, row_of_body, e0, e1, e2, e3, e4, e5, e6]
  rw [show (rdat m c).Φ t.succ = Pipeline.ΦA spec0 c from rfl, show (rdat m c).Φ t.castSucc = Pipeline.ΦA spec0 c from rfl, PhiA_eq]
  rw [show (rdat m c).owesAt () t.succ = (rdat m c).owesAt () t.castSucc from rfl]
  iintro ⟨⟨⟨HS0, HS1, HS2⟩, Hg⟩, Ho, H0, H1, H2, H3, H4, H5, H6, H7, H8, H9, H10⟩
  iapply ((body_run c _ _ _ _ _ _ _ _ _ _ _ _ _ _ _ _ _ _ _ _ _ _ _ _ _ _ _ _ (pt m c t) (Y 10)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexists _; isplitr; swap; · iexact H0
                  ipureintro; exact e0 ▸ a (w := 0) rfl
  isplitl [H1]; · iexists _; isplitr; swap; · iexact H1
                  ipureintro; exact e1 ▸ a (w := 1) rfl
  isplitl [H2]; · iexists _; isplitr; swap; · iexact H2
                  ipureintro; exact e2 ▸ a (w := 2) rfl
  isplitl [H3]; · iexists _; isplitr; swap; · iexact H3
                  ipureintro; exact e3 ▸ a (w := 3) rfl
  isplitl [H4]; · iexists _; isplitr; swap; · iexact H4
                  ipureintro; exact e4 ▸ a (w := 4) rfl
  isplitl [H5]; · iexists _; isplitr; swap; · iexact H5
                  ipureintro; exact e5 ▸ a (w := 5) rfl
  isplitl [H6]; · iexists _; isplitr; swap; · iexact H6
                  ipureintro; exact e6 ▸ a (w := 6) rfl
  isplitl [H7]; · iexists _; isplitr; swap; · iexact H7
                  ipureintro; exact a (w := 7) rfl
  isplitl [H8]; · iexists _; isplitr; swap; · iexact H8
                  ipureintro; exact a (w := 8) rfl
  isplitl [H9]; · iexists _; isplitr; swap; · iexact H9
                  ipureintro; exact a (w := 9) rfl
  iexists _; isplitr; swap; · iexact H10
  ipureintro
  show (rdat m c).after 10 t (Y 10) _
  rfl

/-! ## The run -/

set_option backward.isDefEq.respectTransparency.types false in
/-- The run: the arrays end as the proof data says, every other buffer as the call found it, every counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track_shared (Q' := _) cfgs (0 : Fin 1) launch₀0 defs₀ Variants.none (fun c => rdat m c) m ρ main
    (hbody := obligation m) (hq := fun _ _ _ => rfl) (howed := fun _ _ => rfl) (V := V m) (hmain := hmain m Variants.none)
    (hA := rA_eq m) (hin := fun _ => .rfl) (hout := fun _ => .rfl)

/-- The arguments end as they began. -/
theorem args_kept {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h.arr_in c 2 rfl).trans ((rA_eq m c 2).trans (V_main_arg0 m c)), (h.arr_in c 4 rfl).trans ((rA_eq m c 4).trans (V_main_arg1 m c)),
    (h.arr_in c 3 rfl).trans ((rA_eq m c 3).trans (V_main_arg2 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run_main m ρ)

end Cert.KernelIdeal.Hand

end
-- ==== Proof.Host.lean ====
/- What the host operations before the backward call leave for it, at the exact values: the running log-gates of the
   heads, turned, and each row's log-sum, read stage by stage. -/
module

public import proofs.«01_k».proof.Proof.Launch
public import proofs.«01_k».proof.Proof.Head
public import Idealize.ShloMosaic.Lib.Pointwise
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.Hand

/-! ## A row's log-sum -/

/-- A row's greatest masked score. -/
def top (x : FVec Ideal S8x2048x2048 .f32) : FVec Ideal S8x2048 .f32 :=
  Host.reduce FloatOps.maximumf x (constant S_ .f32 0xFF800000#32) reducesTo_S8x2048x2048_S8x2048_d2 h_S_

theorem top_at (x : FVec Ideal S8x2048x2048 .f32) (i : Fin 8) (r : Fin 2048) :
    top x (ix2 i r) = (Finset.univ.fold max (Ideal.ofBits .f32 0xFF800000#32) fun j : Fin 2048 => x (ix3 i r j) : EReal) := by
  unfold top
  pointwise

/-- The exponentials of the scores' distances from a number of their row. -/
def dist (x : FVec Ideal S8x2048x2048 .f32) (y : FVec Ideal S8x2048 .f32) : FVec Ideal S8x2048x2048 .f32 :=
  Host.exp (subf x (broadcastInDim S8x2048x2048 ![0, 1, 2] bcast_S8x2048x1_S8x2048x2048_0_1_2 (broadcastInDim S8x2048x1 ![0, 1] bcast_S8x2048_S8x2048x1_0_1 y)))

theorem dist_at (x : FVec Ideal S8x2048x2048 .f32) (y : FVec Ideal S8x2048 .f32) (i : Fin 8) (r j : Fin 2048) :
    dist x y (ix3 i r j) = Ideal.exp (x (ix3 i r j) - y (ix2 i r)) := by
  unfold dist
  pointwise

def total (x : FVec Ideal S8x2048x2048 .f32) : FVec Ideal S8x2048 .f32 :=
  Host.reduceAdd x (constant S_ .f32 0x00000000#32) reducesTo_S8x2048x2048_S8x2048_d2 h_S_

theorem total_at (x : FVec Ideal S8x2048x2048 .f32) (i : Fin 8) (r : Fin 2048) :
    total x (ix2 i r) = (∑ j : Fin 2048, x (ix3 i r j) : EReal) := by
  unfold total
  pointwise

def logsum (x : FVec Ideal S8x2048x2048 .f32) : FVec Ideal S2048x8 .f32 :=
  transpose S2048x8 [1, 0] (addf (top x) (Host.log (total (dist x (top x))))) transposes_S8x2048_S2048x8_1_0

theorem turn_at (y z : FVec Ideal S8x2048 .f32) (r : Fin 2048) (i : Fin 8) :
    transpose S2048x8 [1, 0] (addf y (Host.log z)) transposes_S8x2048_S2048x8_1_0 (ix2 r i) = (y (ix2 i r) + Ideal.log (z (ix2 i r)) : EReal) := by
  pointwise

/-- A row's greatest masked score and the logarithm of the sum of the exponentials of the others' distances from it. -/
theorem logsum_at (x : FVec Ideal S8x2048x2048 .f32) (r : Fin 2048) (i : Fin 8) :
    logsum x (ix2 r i) = (top x (ix2 i r) + Ideal.log (∑ j : Fin 2048, Ideal.exp (x (ix3 i r j) - top x (ix2 i r))) : EReal) :=
  (turn_at (top x) (total (dist x (top x))) r i).trans
    (congrArg (fun s : EReal => (top x (ix2 i r) + Ideal.log s : EReal)) ((total_at (dist x (top x)) i r).trans (Finset.sum_congr rfl fun j _ => dist_at x (top x) i r j)))

/-- The score of a row at a key, in the arguments. -/
def score (x0 : FVec Ideal S2048x3072 .bf16) (x1 : FVec Ideal S2048x128 .f32) (i : Fin 8) (r j : Fin 2048) : EReal :=
  (∑ d : Fin 128, x0 (ix2 r ⟨i.val * 128 + d.val, by omega⟩) * x0 (ix2 j ⟨1024 + (i.val * 128 + d.val), by omega⟩)) * scale
    + x1 (ix2 r ⟨i.val, by omega⟩) - x1 (ix2 j ⟨i.val, by omega⟩)

section

variable (W : Valuation τ sig (Elt Ideal))

/-! ## The stages, each over any buffers before it -/

/-- The running log-gates by key. -/
theorem turned_at (i : Fin 8) (j : Fin 2048) :
    StableHlo.after (hostOps0 (F := Ideal)) W (Proc.tc.devRef main_v1) (ix2 i j) = W (Proc.tc.devRef main_arg1) (ix2 j ⟨i.val, by omega⟩) := by
  after_reads_at

theorem scores_at (i : Fin 8) (r j : Fin 2048) :
    StableHlo.after (hostOps0 (F := Ideal)) W (Proc.tc.devRef main_v18) (ix3 i r j)
      = score (W (Proc.tc.devRef main_arg0)) (W (Proc.tc.devRef main_arg1)) i r j := by
  unfold score
  after_reads_at
  rfl

theorem ones_at (r j : Fin 2048) : StableHlo.after (hostOps0 (F := Ideal)) W (Proc.tc.devRef main_v19) (ix2 r j) = 1#1 := by
  after_reads_at

/-- The mask: a row looks at the keys up to its own. -/
theorem tril_at (r j : Fin 2048) :
    StableHlo.after (hostOps0_1 (F := Ideal)) W (Proc.tc.devRef main_v20) (ix2 r j)
      = Scalar.select (IntOp.cmpi .sge (IntOp.addi (BitVec.ofNat 32 r.val) 0#32) (BitVec.ofNat 32 j.val)) (W (Proc.tc.devRef main_v19) (ix2 r j)) 0#1 := by
  after_reads_at

theorem tril_rest : StableHlo.after (hostOps0_1 (F := Ideal)) W (Proc.tc.devRef main_v18) = W (Proc.tc.devRef main_v18) := by
  after_reads_simp

theorem spread_at (r j : Fin 2048) :
    StableHlo.after (hostOps0_2 (F := Ideal)) W (Proc.tc.devRef main_v21) (ix3 0 r j) = W (Proc.tc.devRef main_v20) (ix2 r j) := by
  after_reads_at

theorem spread_cst : StableHlo.after (hostOps0_2 (F := Ideal)) W (Proc.tc.devRef main_cst_0) ix0 = Ideal.ofBits .f32 0xFF800000#32 := by
  after_reads_at

theorem spread_rest : StableHlo.after (hostOps0_2 (F := Ideal)) W (Proc.tc.devRef main_v18) = W (Proc.tc.devRef main_v18) := by
  after_reads_simp

theorem masked_at (i : Fin 8) (r j : Fin 2048) :
    StableHlo.after (hostOps0_3 (F := Ideal)) W (Proc.tc.devRef main_v22) (ix3 i r j)
      = Scalar.select (W (Proc.tc.devRef main_v21) (ix3 0 r j)) (W (Proc.tc.devRef main_v18) (ix3 i r j)) (W (Proc.tc.devRef main_cst_0) ix0) := by
  after_reads_at
  rfl

theorem logsum_eq : StableHlo.after (hostOps0_4 (F := Ideal)) W (Proc.tc.devRef main_v31) = logsum (W (Proc.tc.devRef main_v22)) := by
  after_reads_simp
  rfl

theorem pad_at (r : Fin 2048) (i : Fin 8) :
    StableHlo.after (hostOps0_5 (F := Ideal)) W (Proc.tc.devRef main_v32) (ix2 r ⟨i.val, by omega⟩) = W (Proc.tc.devRef main_v31) (ix2 r i) := by
  after_reads_at

end

end Cert.KernelIdeal.Hand

end
-- ==== Proof.Args.lean ====
/- A head's data out of the arguments of the backward call, and the four results of the call in its terms. -/
module

public import proofs.«01_k».proof.Proof.Head
public import Idealize.ShloMosaic.Lib.ValueIdx

@[expose] public section

noncomputable section

namespace Cert.Hand

open Idealize.ShloMosaic

/-- The arguments: `q`, `k`, `v` of the eight heads side by side, the running log-gates, and the output's gradient. -/
abbrev A0 := (⟨2, ![2048, 3072]⟩ : Shape).Idx → EReal
abbrev A1 := (⟨2, ![2048, 128]⟩ : Shape).Idx → EReal
abbrev A2 := (⟨2, ![2048, 2048]⟩ : Shape).Idx → EReal

section
variable (x0 : A0) (x1 : A1) (x2 : A2) (i : Fin 8)

/-- A head of the arguments, its rows' log-sums still open. -/
def openHead (l : Fin 2048 → EReal) : Head where
  q r d := x0 (ix2 r ⟨i.val * 128 + d.val, by omega⟩)
  k r d := x0 (ix2 r ⟨1024 + (i.val * 128 + d.val), by omega⟩)
  v r d := x0 (ix2 r ⟨2048 + (i.val * 128 + d.val), by omega⟩)
  g r d := x2 (ix2 r ⟨i.val * 128 + d.val, by omega⟩)
  cq r := x1 (ix2 r ⟨i.val, by omega⟩)
  ck r := x1 (ix2 r ⟨i.val, by omega⟩)
  l := l

end

/-- A row's greatest masked score; its log-sum. -/
def Head.top (h : Head) (r : Fin 2048) : EReal := Finset.univ.fold max ⊥ (h.m r)
def Head.lse (h : Head) (r : Fin 2048) : EReal := h.top r + Ideal.log (∑ j, Ideal.exp (h.m r j - h.top r))

/-- The gradient taken through the softmax as a quotient: the exponentials, their sum, the quotient; the quotient's
    gradient, and with it the four results. -/
def Head.e (h : Head) (r j : Fin 2048) : EReal := Ideal.exp (h.m r j - h.top r)
def Head.sum (h : Head) (r : Fin 2048) : EReal := ∑ j, h.e r j
def Head.w (h : Head) (r j : Fin 2048) : EReal := Ideal.div (h.e r j) (h.sum r)
def Head.row (h : Head) (r : Fin 2048) : EReal := ∑ j, h.dp r j * Ideal.div 1 (h.sum r * h.sum r) * h.e r j
def Head.du (h : Head) (r j : Fin 2048) : EReal := if j.val ≤ r.val then (Ideal.div (h.dp r j) (h.sum r) + -h.row r) * h.e r j else 0
def Head.rq (h : Head) (r : Fin 2048) (d : Fin 128) : EReal := ∑ j, h.du r j * scale * h.k j d
def Head.rk (h : Head) (j : Fin 2048) (d : Fin 128) : EReal := ∑ r, h.du r j * scale * h.q r d
def Head.rv (h : Head) (j : Fin 2048) (d : Fin 128) : EReal := ∑ r, h.g r d * h.w r j
def Head.rc (h : Head) (j : Fin 2048) : EReal := -((∑ r, -h.du r j) + ∑ x, h.du j x)

/-- A head of the arguments, with its rows' log-sums. -/
def head (x0 : A0) (x1 : A1) (x2 : A2) (i : Fin 8) : Head := openHead x0 x1 x2 i (openHead x0 x1 x2 i fun _ => 0).lse

/-- The call's four results. -/
def outQ (x0 : A0) (x1 : A1) (x2 : A2) (y : (⟨2, ![2048, 1024]⟩ : Shape).Idx) : EReal :=
  (head x0 x1 x2 ⟨(y 1).val / 128, by have h : (y 1).val < 1024 := (y 1).isLt; omega⟩).gq (y 0) ⟨(y 1).val % 128, by omega⟩
def outK (x0 : A0) (x1 : A1) (x2 : A2) (y : (⟨2, ![2048, 1024]⟩ : Shape).Idx) : EReal :=
  (head x0 x1 x2 ⟨(y 1).val / 128, by have h : (y 1).val < 1024 := (y 1).isLt; omega⟩).gk (y 0) ⟨(y 1).val % 128, by omega⟩
def outV (x0 : A0) (x1 : A1) (x2 : A2) (y : (⟨2, ![2048, 1024]⟩ : Shape).Idx) : EReal :=
  (head x0 x1 x2 ⟨(y 1).val / 128, by have h : (y 1).val < 1024 := (y 1).isLt; omega⟩).gv (y 0) ⟨(y 1).val % 128, by omega⟩
def outC (x0 : A0) (x1 : A1) (x2 : A2) (y : (⟨2, ![8, 2048]⟩ : Shape).Idx) : EReal :=
  (head x0 x1 x2 (y 0)).gc (y 1)

theorem outQ_at (x0 : A0) (x1 : A1) (x2 : A2) (y : (⟨2, ![2048, 1024]⟩ : Shape).Idx) (i : Fin 8) (r : Fin 2048) (d : Fin 128)
    (h0 : (y 0).val = r.val) (h1 : (y 1).val = i.val * 128 + d.val) : outQ x0 x1 x2 y = (head x0 x1 x2 i).gq r d := by
  have a : (⟨(y 1).val / 128, by omega⟩ : Fin 8) = i := Fin.ext (by show (y 1).val / 128 = i.val; omega)
  have b : (⟨(y 1).val % 128, by omega⟩ : Fin 128) = d := Fin.ext (by show (y 1).val % 128 = d.val; omega)
  have e : y 0 = r := Fin.ext h0
  unfold outQ
  rw [a, b, e]

theorem outK_at (x0 : A0) (x1 : A1) (x2 : A2) (y : (⟨2, ![2048, 1024]⟩ : Shape).Idx) (i : Fin 8) (r : Fin 2048) (d : Fin 128)
    (h0 : (y 0).val = r.val) (h1 : (y 1).val = i.val * 128 + d.val) : outK x0 x1 x2 y = (head x0 x1 x2 i).gk r d := by
  have a : (⟨(y 1).val / 128, by omega⟩ : Fin 8) = i := Fin.ext (by show (y 1).val / 128 = i.val; omega)
  have b : (⟨(y 1).val % 128, by omega⟩ : Fin 128) = d := Fin.ext (by show (y 1).val % 128 = d.val; omega)
  have e : y 0 = r := Fin.ext h0
  unfold outK
  rw [a, b, e]

theorem outV_at (x0 : A0) (x1 : A1) (x2 : A2) (y : (⟨2, ![2048, 1024]⟩ : Shape).Idx) (i : Fin 8) (r : Fin 2048) (d : Fin 128)
    (h0 : (y 0).val = r.val) (h1 : (y 1).val = i.val * 128 + d.val) : outV x0 x1 x2 y = (head x0 x1 x2 i).gv r d := by
  have a : (⟨(y 1).val / 128, by omega⟩ : Fin 8) = i := Fin.ext (by show (y 1).val / 128 = i.val; omega)
  have b : (⟨(y 1).val % 128, by omega⟩ : Fin 128) = d := Fin.ext (by show (y 1).val % 128 = d.val; omega)
  have e : y 0 = r := Fin.ext h0
  unfold outV
  rw [a, b, e]

end Cert.Hand

end
-- ==== Proof.Arrays.lean ====
/- What the backward call leaves in its four result arrays, at the exact values, in terms of its arguments. -/
module

public import proofs.«01_k».proof.Proof.Point
public import proofs.«01_k».proof.Proof.Host
public import proofs.«01_k».proof.Proof.Args
public import proofs.«01_k».proof.Proof.Launch
public import Idealize.ShloMosaic.Lib.Pipeline.ValueKit
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic Idealize.SL.Sem
open Idealize.ShloMosaic.Pipeline (Dat RDat)
open Cert.KernelIdeal Cert.KernelIdeal.Gen Cert.Hand

variable (m : (ℓ : Loc nD τ sig) → Buf (Elt Ideal) ℓ) (ρ : Dev nD → PrngReg)

/-- The arguments on a core. -/
abbrev x0 (c : Dev nD) : A0 := m ((c.tc : Thread nD τ).loc main_arg0)
abbrev x1 (c : Dev nD) : A1 := m ((c.tc : Thread nD τ).loc main_arg1)
abbrev x2 (c : Dev nD) : A2 := m ((c.tc : Thread nD τ).loc main_arg2)

/-! ## The host operations' results -/

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => exact ih _

theorem after_all (a b d e f g : List (HloOp τ sig (Elt Ideal))) (W : Valuation τ sig (Elt Ideal)) :
    StableHlo.after (List.flatten [a, b, d, e, f, g]) W
      = StableHlo.after g (StableHlo.after f (StableHlo.after e (StableHlo.after d (StableHlo.after b (StableHlo.after a W))))) := by
  simp only [List.flatten_cons, List.flatten_nil, List.append_nil, after_two]

/-- The masked scores the host works out are the head's. -/
theorem host_masked (W : Valuation τ sig (Elt Ideal)) (i : Fin 8) (r j : Fin 2048) (y2 : A2) (l) :
    StableHlo.after hostOps0_3 (StableHlo.after hostOps0_2 (StableHlo.after hostOps0_1 (StableHlo.after (hostOps0 (F := Ideal)) W)))
        (Proc.tc.devRef main_v22) (ix3 i r j)
      = (openHead (W (Proc.tc.devRef main_arg0)) (W (Proc.tc.devRef main_arg1)) y2 i l).m r j := by
  rw [masked_at, spread_at, spread_cst, spread_rest, tril_at, tril_rest, ones_at, scores_at, minus_inf]
  have e : Scalar.select (IntOp.cmpi .sge (IntOp.addi (BitVec.ofNat 32 r.val) 0#32) (BitVec.ofNat 32 j.val)) 1#1 0#1
      = IntOp.cmpi .sge (IntOp.addi (BitVec.ofNat 32 r.val) 0#32) (BitVec.ofNat 32 j.val) := by
    rcases BitVec.eq_zero_or_eq_one (IntOp.cmpi .sge (IntOp.addi (BitVec.ofNat 32 r.val) 0#32) (BitVec.ofNat 32 j.val)) with h | h <;> rw [h] <;> rfl
  rw [e, mask_full]
  rfl

/-- The rows' log-sums. -/
theorem V_lse (c : Dev nD) (r : Fin 2048) (i : Fin 8) (y2 : A2) (l) :
    V m c main_v32 (ix2 r ⟨i.val, by omega⟩) = (openHead (x0 m c) (x1 m c) y2 i l).lse r := by
  unfold V
  rw [after_all, pad_at, logsum_eq, logsum_at]
  simp only [top_at, minus_inf]
  simp only [host_masked _ i r _ y2 l]
  rfl

theorem V_turned (c : Dev nD) (i : Fin 8) (j : Fin 2048) : V m c main_v1 (ix2 i j) = x1 m c (ix2 j ⟨i.val, by omega⟩) := by
  unfold V
  after_reads_at
  try rfl

/-! ## The blocks a point reads -/

theorem idx (t : Fin cfg0.N) : win0_0.index t = ![0, t.val] ∧ win0_1.index t = ![0, 8 + t.val] ∧ win0_2.index t = ![0, 16 + t.val] ∧ win0_3.index t = ![0, t.val]
    ∧ win0_4.index t = ![0, 0] ∧ win0_5.index t = ![0, 0] ∧ win0_6.index t = ![0, 0] ∧ win0_7.index t = ![0, t.val] ∧ win0_8.index t = ![0, t.val]
    ∧ win0_9.index t = ![0, t.val] ∧ win0_10.index t = ![0, 0] ∧ (grid0.coords t 0).val = t.val :=
  (by decide +kernel : ∀ t : Fin grid0.N, win0_0.index t = ![0, t.val] ∧ win0_1.index t = ![0, 8 + t.val] ∧ win0_2.index t = ![0, 16 + t.val] ∧ win0_3.index t = ![0, t.val]
    ∧ win0_4.index t = ![0, 0] ∧ win0_5.index t = ![0, 0] ∧ win0_6.index t = ![0, 0] ∧ win0_7.index t = ![0, t.val] ∧ win0_8.index t = ![0, t.val]
    ∧ win0_9.index t = ![0, t.val] ∧ win0_10.index t = ![0, 0] ∧ (grid0.coords t 0).val = t.val) t

theorem N_eight (t : Fin cfg0.N) : t.val < 8 := Nat.lt_of_lt_of_eq t.isLt (by decide)

theorem pt_q (c : Dev nD) (t : Fin cfg0.N) (r : Fin 2048) (d : Fin 128) : (pt m c t).q (ix2 r d) = x0 m c (ix2 r ⟨t.val * 128 + d.val, by have := N_eight t; omega⟩) := by
  show iblk m c 0 t (ix2 r d) = _
  unfold iblk
  rw [show V m c (Pipeline.arrRef spec0 0) = x0 m c from V_main_arg0 m c]
  blk_ext [idx t]

theorem pt_k (c : Dev nD) (t : Fin cfg0.N) (r : Fin 2048) (d : Fin 128) : (pt m c t).k (ix2 r d) = x0 m c (ix2 r ⟨1024 + (t.val * 128 + d.val), by have := N_eight t; omega⟩) := by
  show iblk m c 1 t (ix2 r d) = _
  unfold iblk
  rw [show V m c (Pipeline.arrRef spec0 1) = x0 m c from V_main_arg0 m c]
  blk_ext [idx t]

theorem pt_v (c : Dev nD) (t : Fin cfg0.N) (r : Fin 2048) (d : Fin 128) : (pt m c t).v (ix2 r d) = x0 m c (ix2 r ⟨2048 + (t.val * 128 + d.val), by have := N_eight t; omega⟩) := by
  show iblk m c 2 t (ix2 r d) = _
  unfold iblk
  rw [show V m c (Pipeline.arrRef spec0 2) = x0 m c from V_main_arg0 m c]
  blk_ext [idx t]

theorem pt_g (c : Dev nD) (t : Fin cfg0.N) (r : Fin 2048) (d : Fin 128) : (pt m c t).g (ix2 r d) = x2 m c (ix2 r ⟨t.val * 128 + d.val, by have := N_eight t; omega⟩) := by
  show iblk m c 3 t (ix2 r d) = _
  unfold iblk
  rw [show V m c (Pipeline.arrRef spec0 3) = x2 m c from V_main_arg2 m c]
  blk_ext [idx t]

theorem pt_c (c : Dev nD) (t : Fin cfg0.N) (r : Fin 2048) (i : Fin 128) : (pt m c t).c (ix2 r i) = x1 m c (ix2 r i) := by
  show iblk m c 4 t (ix2 r i) = _
  unfold iblk
  rw [show V m c (Pipeline.arrRef spec0 4) = x1 m c from V_main_arg1 m c]
  blk_ext [idx t]

theorem pt_ct (c : Dev nD) (t : Fin cfg0.N) (i : Fin 8) (j : Fin 2048) : (pt m c t).ct (ix2 i j) = V m c main_v1 (ix2 i j) := by
  show iblk m c 5 t (ix2 i j) = _
  unfold iblk
  blk_ext [idx t]

theorem pt_l (c : Dev nD) (t : Fin cfg0.N) (r : Fin 2048) (i : Fin 128) : (pt m c t).l (ix2 r i) = V m c main_v32 (ix2 r i) := by
  show iblk m c 6 t (ix2 r i) = _
  unfold iblk
  blk_ext [idx t]

/-- A point's head is a head of the arguments. -/
theorem pt_hd (c : Dev nD) (t : Fin cfg0.N) : (pt m c t).hd = head (x0 m c) (x1 m c) (x2 m c) ⟨t.val, N_eight t⟩ := by
  have e : ((pt m c t).i 0).val = t.val := (idx t).2.2.2.2.2.2.2.2.2.2.2
  have h8 := N_eight t
  unfold Pt.hd head openHead
  congr 1
  · funext r d; exact pt_q m c t r d
  · funext r d; exact pt_k m c t r d
  · funext r d; exact pt_v m c t r d
  · funext r d; exact pt_g m c t r d
  · funext r; rw [pt_c]; congr 2; exact Fin.ext e
  · funext j; rw [pt_ct, V_turned]; congr 2; exact Fin.ext e
  · funext r
    rw [pt_l]
    have : (⟨((pt m c t).i 0).val, by omega⟩ : Fin 128) = ⟨(⟨t.val, h8⟩ : Fin 8).val, by omega⟩ := Fin.ext e
    rw [this]
    exact V_lse m c r ⟨t.val, h8⟩ (x2 m c) _

/-! ## The result arrays -/

theorem final_q (c : Dev nD) : (dat m c).arrAt 7 cfg0.N = outQ (x0 m c) (x1 m c) (x2 m c) := by
  refine (dat m c).arrAt_eq_of_covers 7 _ (by decide +kernel) fun t hf y => ?_
  blk_simp
  have e0 : (((win0_7.blk t).view.emb y 0 : Fin _) : ℕ) = (y 0).val := by blk_simp [idx t]
  have e1 : (((win0_7.blk t).view.emb y 1 : Fin _) : ℕ) = t.val * 128 + (y 1).val := by blk_simp [idx t]
  refine Eq.trans ?_ (outQ_at _ _ _ _ ⟨t.val, N_eight t⟩ (y 0) (y 1) e0 e1).symm
  refine Eq.trans ?_ (((pt m c t).dq_at (y 0) (y 1)).trans (congrArg (fun h => Head.gq h (y 0) (y 1)) (pt_hd m c t)))
  show (pt m c t).dq y = _
  exact congrArg _ (by funext a; fin_cases a <;> rfl)

theorem final_k (c : Dev nD) : (dat m c).arrAt 8 cfg0.N = outK (x0 m c) (x1 m c) (x2 m c) := by
  refine (dat m c).arrAt_eq_of_covers 8 _ (by decide +kernel) fun t hf y => ?_
  blk_simp
  have e0 : (((win0_8.blk t).view.emb y 0 : Fin _) : ℕ) = (y 0).val := by blk_simp [idx t]
  have e1 : (((win0_8.blk t).view.emb y 1 : Fin _) : ℕ) = t.val * 128 + (y 1).val := by blk_simp [idx t]
  refine Eq.trans ?_ (outK_at _ _ _ _ ⟨t.val, N_eight t⟩ (y 0) (y 1) e0 e1).symm
  refine Eq.trans ?_ (((pt m c t).dk_at (y 0) (y 1)).trans (congrArg (fun h => Head.gk h (y 0) (y 1)) (pt_hd m c t)))
  show (pt m c t).dk y = _
  exact congrArg _ (by funext a; fin_cases a <;> rfl)

theorem final_v (c : Dev nD) : (dat m c).arrAt 9 cfg0.N = outV (x0 m c) (x1 m c) (x2 m c) := by
  refine (dat m c).arrAt_eq_of_covers 9 _ (by decide +kernel) fun t hf y => ?_
  blk_simp
  have e0 : (((win0_9.blk t).view.emb y 0 : Fin _) : ℕ) = (y 0).val := by blk_simp [idx t]
  have e1 : (((win0_9.blk t).view.emb y 1 : Fin _) : ℕ) = t.val * 128 + (y 1).val := by blk_simp [idx t]
  refine Eq.trans ?_ (outV_at _ _ _ _ ⟨t.val, N_eight t⟩ (y 0) (y 1) e0 e1).symm
  refine Eq.trans ?_ (((pt m c t).dv_at (y 0) (y 1)).trans (congrArg (fun h => Head.gv h (y 0) (y 1)) (pt_hd m c t)))
  show (pt m c t).dv y = _
  exact congrArg _ (by funext a; fin_cases a <;> rfl)

/-! ## The log-gates' gradient -/

/-- The row a point replaces, and the rows it keeps. -/
theorem row_new (P : Pt Ideal) (Y : Vec Ideal S8x2048 .f32) (i : Fin 8) (j : Fin 2048) (h : (P.i 0).val = i.val) : P.dcNew Y (ix2 i j) = P.dc (ix2 0 j) := by
  unfold Pt.dcNew
  have e : (ix2 i j : S8x2048.Idx) = (Rect.unit (s := S8x2048) (k0_off1 P.i) S1x2048.size (k0_off1_inb P.i)).emb (ix2 0 j) := by
    funext a
    apply Fin.ext
    fin_cases a
    · have e0 := congrFun (k0_off1_eq P.i) 0
      show i.val = k0_off1 P.i 0 + 1 * 0
      rw [e0]
      show i.val = (P.i 0).val + 1 * 0
      omega
    · have e1 := congrFun (k0_off1_eq P.i) 1
      show j.val = k0_off1 P.i 1 + 1 * j.val
      rw [e1]
      show j.val = 0 + 1 * j.val
      omega
  rw [e, Rect.overlay_emb]

theorem row_old (P : Pt Ideal) (Y : Vec Ideal S8x2048 .f32) (i : Fin 8) (j : Fin 2048) (h : (P.i 0).val ≠ i.val) : P.dcNew Y (ix2 i j) = Y (ix2 i j) := by
  unfold Pt.dcNew
  refine Rect.overlay_of_not_mem _ _ _ fun hm => ?_
  rw [Rect.mem_set_unit (inb := k0_off1_inb P.i)] at hm
  have h0 := hm 0
  rw [congrFun (k0_off1_eq P.i) 0] at h0
  have h1 : (P.i 0).val ≤ i.val ∧ i.val < (P.i 0).val + 1 := h0
  omega

theorem rows_left (c : Dev nD) : ∀ (n : ℕ) (t : Fin cfg0.N) (_ : t.val = n) (X : Vec Ideal S8x2048 .f32) (_ : (rdat m c).Leaves 10 t X) (i : Fin 8) (_ : i.val ≤ n) (j : Fin 2048),
    (X : Vec Ideal S8x2048 .f32) (ix2 i j) = (head (x0 m c) (x1 m c) (x2 m c) i).gc j := by
  intro n
  induction n with
  | zero =>
    rintro t ht X ⟨Y, -, hX⟩ i hi j
    have hX' : X = (pt m c t).dcNew Y := hX
    have e : ((pt m c t).i 0).val = i.val := ((idx t).2.2.2.2.2.2.2.2.2.2.2).trans (by omega)
    rw [hX']
    refine ((row_new _ Y i j e).trans ((pt m c t).dc_at j)).trans ?_
    rw [pt_hd]
    exact congrArg (fun z => (head (x0 m c) (x1 m c) (x2 m c) z).gc j) (Fin.ext (by show t.val = i.val; omega))
  | succ n ih =>
    rintro t ht X ⟨Y, hY, hX⟩ i hi j
    have hX' : X = (pt m c t).dcNew Y := hX
    have et : ((pt m c t).i 0).val = t.val := (idx t).2.2.2.2.2.2.2.2.2.2.2
    by_cases h : i.val = t.val
    · rw [hX']
      refine ((row_new _ Y i j (et.trans h.symm)).trans ((pt m c t).dc_at j)).trans ?_
      rw [pt_hd]
      exact congrArg (fun z => (head (x0 m c) (x1 m c) (x2 m c) z).gc j) (Fin.ext (by show t.val = i.val; omega))
    · rw [hX']
      show (pt m c t).dcNew Y (ix2 i j) = _
      refine (row_old _ Y i j (by omega)).trans ?_
      have h8 := N_eight t
      have hnf : (cfg0.win 10).fetch t = false := (by decide +kernel : ∀ t : Fin grid0.N, win0_10.fetch t = false) t
      have hfl : (cfg0.win 10).flush ⟨t.val - 1, Nat.lt_of_le_of_lt (Nat.sub_le _ _) t.isLt⟩ = false :=
        (by decide +kernel : ∀ t : Fin grid0.N, t.val ≠ 7 → win0_10.flush t = false) _ (by show t.val - 1 ≠ 7; omega)
      rcases ((rdat m c).finds_of_pos hnf (by omega) Y).mp hY with hc | hl
      · rw [hfl] at hc; exact absurd hc (by decide)
      · exact ih ⟨t.val - 1, Nat.lt_of_le_of_lt (Nat.sub_le _ _) t.isLt⟩ (by show t.val - 1 = n; omega) Y hl i (by omega) j

theorem final_c (c : Dev nD) {G : Vec Ideal S8x2048 .f32} (hG : (rdat m c).ArrAt 10 cfg0.N G) : (G : Vec Ideal S8x2048 .f32) = outC (x0 m c) (x1 m c) (x2 m c) := by
  obtain ⟨X, hX, hG⟩ := hG.emb_eq_of_wholeAt (t₀ := t0_7) (by decide +kernel)
  funext y
  have h := hG y
  have ey : ((cfg0.win 10).arr.view.emb y : S8x2048.Idx) = y := rfl
  rw [ey] at h
  refine h.trans ?_
  have ex : (ix2 (y 0) (y 1) : S8x2048.Idx) = y := by funext a; fin_cases a <;> rfl
  exact (congrArg X ex.symm).trans (rows_left m c 7 t0_7 rfl X hX (y 0) (by have : (y 0).val < 8 := (y 0).isLt; omega) (y 1))

/-! ## The run -/

/-- The run: the four result arrays. -/
theorem results : θ_run defs (onTc (τ := τ) (main (F := Ideal))) ⟨m, fun _ => 0, ρ⟩ (fun r => (∀ c : Dev nD,
      r.2.mem ((c.tc : Thread nD τ).loc main_v33_0) = outQ (x0 m c) (x1 m c) (x2 m c)
      ∧ r.2.mem ((c.tc : Thread nD τ).loc main_v33_1) = outK (x0 m c) (x1 m c) (x2 m c)
      ∧ r.2.mem ((c.tc : Thread nD τ).loc main_v33_2) = outV (x0 m c) (x1 m c) (x2 m c)
      ∧ r.2.mem ((c.tc : Thread nD τ).loc main_v33_3) = outC (x0 m c) (x1 m c) (x2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_main m ρ)
  have a : ∀ w, rowRel m c w = none → r.2.mem ((cfg0.spec w).arr.view.loc (c.tc : Thread nD τ)) = (dat m c).arrAt w cfg0.N := fun w hw =>
    ((dat m c).toR_arrAt_iff w _ _).mp (((dat m c).toR.override_arrAt hw _ _).mp ((h.1 c).1 w))
  have b : ∀ w, (rdat m c).ArrAt w cfg0.N (r.2.mem ((cfg0.spec w).arr.view.loc (c.tc : Thread nD τ))) := (h.1 c).1
  exact ⟨(a 7 rfl).trans (final_q m c), (a 8 rfl).trans (final_k m c), (a 9 rfl).trans (final_v m c), final_c m c (b 10), args_kept m h.1 c⟩

end Cert.KernelIdeal.Hand

end
-- ==== Proof.Ref.lean ====
/- The reference's results at an index, at the exact values, in terms of a head's data. -/
module

public import proofs.«01_k».proof.Proof.Args
public import proofs.«01_k».proof.Proof.Gen.ReferenceIdeal.Read
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Read Cert.Hand

variable (x0 : A0) (x1 : A1) (x2 : A2)

/-- A head; its log-sums are not used. -/
abbrev H (i : Fin 8) : Head := openHead x0 x1 x2 i fun _ => 0

theorem zero_f32 : FloatOps.ofBits (F := Ideal) .f32 0x00000000#32 = (0 : EReal) := by
  show Ideal.ofBits .f32 0x00000000#32 = _
  simp [Ideal.ofBits, Ideal.ieee]

theorem one_f32 : FloatOps.ofBits (F := Ideal) .f32 0x3F800000#32 = (1 : EReal) := by
  show Ideal.ofBits .f32 0x3F800000#32 = _
  simp [Ideal.ofBits, Ideal.ieee]
  rw [← EReal.coe_mul]
  norm_num

/-! ## The operands -/

theorem q_at (y : S2048x8x128.Idx) : val_main_v6 (F := Ideal) x0 y = (H x0 x1 x2 (y 1)).q (y 0) (y 2) := by
  rw [val_main_v6_apply, val_main_v1_apply, val_main_v0_apply]
  show x0 _ = x0 _
  congr 1
  have h0 : (y 0).val < 2048 := (y 0).isLt
  have h1 : (y 1).val < 8 := (y 1).isLt
  have h2 : (y 2).val < 128 := (y 2).isLt
  funext a
  apply Fin.ext
  fin_cases a
  · show (((y 0).val * 8 + (y 1).val) * 128 + (y 2).val) / 1024 = (y 0).val
    omega
  · show (((y 0).val * 8 + (y 1).val) * 128 + (y 2).val) % 1024 = (y 1).val * 128 + (y 2).val
    omega

theorem k_at (y : S2048x8x128.Idx) : val_main_v7 (F := Ideal) x0 y = (H x0 x1 x2 (y 1)).k (y 0) (y 2) := by
  rw [val_main_v7_apply, val_main_v2_apply, val_main_v0_apply]
  show x0 _ = x0 _
  congr 1
  have h0 : (y 0).val < 2048 := (y 0).isLt
  have h1 : (y 1).val < 8 := (y 1).isLt
  have h2 : (y 2).val < 128 := (y 2).isLt
  funext a
  apply Fin.ext
  fin_cases a
  · show (((y 0).val * 8 + (y 1).val) * 128 + (y 2).val) / 1024 = (y 0).val
    omega
  · show 1024 + (((y 0).val * 8 + (y 1).val) * 128 + (y 2).val) % 1024 = 1024 + ((y 1).val * 128 + (y 2).val)
    omega

theorem v_at (y : S2048x8x128.Idx) : val_main_v8 (F := Ideal) x0 y = (H x0 x1 x2 (y 1)).v (y 0) (y 2) := by
  rw [val_main_v8_apply, val_main_v3_apply, val_main_v0_apply]
  show x0 _ = x0 _
  congr 1
  have h0 : (y 0).val < 2048 := (y 0).isLt
  have h1 : (y 1).val < 8 := (y 1).isLt
  have h2 : (y 2).val < 128 := (y 2).isLt
  funext a
  apply Fin.ext
  fin_cases a
  · show (((y 0).val * 8 + (y 1).val) * 128 + (y 2).val) / 1024 = (y 0).val
    omega
  · show 2048 + (((y 0).val * 8 + (y 1).val) * 128 + (y 2).val) % 1024 = 2048 + ((y 1).val * 128 + (y 2).val)
    omega

theorem g_at (y : S8x128x2048.Idx) : val_main_v56 (F := Ideal) x2 y = (H x0 x1 x2 (y 0)).g (y 2) (y 1) := by
  rw [val_main_v56_apply, val_main_v55_apply, val_main_v54_apply, val_main_v53_apply]
  show x2 _ = x2 _
  congr 1
  have h0 : (y 0).val < 8 := (y 0).isLt
  have h1 : (y 1).val < 128 := (y 1).isLt
  have h2 : (y 2).val < 2048 := (y 2).isLt
  funext a
  apply Fin.ext
  fin_cases a
  · show (((y 2).val * 8 + (y 0).val) * 128 + (y 1).val) / 1024 = (y 2).val
    omega
  · show (((y 2).val * 8 + (y 0).val) * 128 + (y 1).val) % 1024 = (y 0).val * 128 + (y 1).val
    omega

theorem cum_at (y : S8x2048.Idx) : val_main_v5 (F := Ideal) x1 y = x1 (ix2 (y 1) ⟨(y 0).val, by have h : (y 0).val < 8 := (y 0).isLt; omega⟩) := by
  rw [val_main_v5_apply, val_main_v4_apply]
  congr 1
  funext a
  fin_cases a <;> rfl

/-! ## The scores and the softmax -/

theorem s_at (y : S8x2048x2048.Idx) : val_main_v17 (F := Ideal) x0 x1 y = (H x0 x1 x2 (y 0)).s (y 1) (y 2) := by
  rw [val_main_v17_apply, val_main_v14_apply, val_main_v11_apply, val_main_v9_apply, val_main_v10_apply, val_main_cst_apply, val_main_v13_apply, val_main_v12_apply,
    val_main_v16_apply, val_main_v15_apply, cum_at, cum_at]
  simp only [q_at x0 x1 x2, k_at x0 x1 x2]
  rfl

theorem mask_at (y : S8x2048x2048.Idx) (a b : EReal) : Scalar.select (val_main_v21_1 (F := Ideal) y) a b = if (y 2).val ≤ (y 1).val then a else b := by
  rw [val_main_v21_1_apply, val_main_v20_apply, val_main_v19_apply, val_main_call0_v4_apply, val_main_call0_v2_apply, val_main_call0_v0_apply, val_main_call0_v1_apply,
    val_main_call0_c_apply, val_main_call0_v3_apply, val_main_v18_apply, val_main_c_apply, val_main_call0_v5_apply, val_main_call0_c_0_apply]
  refine Eq.trans ?_ (mask_full (y 1) (y 2) a b)
  have e : ∀ z : BitVec 1, Scalar.select z 1#1 0#1 = z := by decide
  exact congrArg (fun z => Scalar.select z a b) (e _)

theorem m_at (y : S8x2048x2048.Idx) : val_main_v21_0 (F := Ideal) x0 x1 y = (H x0 x1 x2 (y 0)).m (y 1) (y 2) := by
  rw [val_main_v21_0_apply, mask_at, s_at x0 x1 x2, val_main_call1_v2_apply, val_main_call1_v0_apply, val_main_cst_0_apply]
  exact congrArg (fun z => if (y 2).val ≤ (y 1).val then (H x0 x1 x2 (y 0)).s (y 1) (y 2) else z) minus_inf

theorem top_at (y : S8x2048.Idx) : val_main_v29 (F := Ideal) x0 x1 y = (H x0 x1 x2 (y 0)).top (y 1) := by
  have e : val_main_v22 (F := Ideal) x0 x1 (ix2 (y 0) (y 1)) = (H x0 x1 x2 (y 0)).top (y 1) := by
    unfold val_main_v22 Head.top
    have h : (fun j => (H x0 x1 x2 (y 0)).m (y 1) j) = fun j : Fin 2048 => val_main_v21_0 (F := Ideal) x0 x1 (ix3 (y 0) (y 1) j) := funext fun j => (m_at x0 x1 x2 (ix3 (y 0) (y 1) j)).symm
    rw [show (H x0 x1 x2 (y 0)).m (y 1) = _ from h]
    generalize val_main_v21_0 (F := Ideal) x0 x1 = z
    unfold val_main_cst_1
    rw [← minus_inf]
    pointwise
  have ey : (ix2 (y 0) (y 1) : S8x2048.Idx) = y := by funext a; fin_cases a <;> rfl
  rw [ey] at e
  rw [val_main_v29_apply, e, val_main_v28_apply, val_main_cst_3_apply]
  show max (Ideal.ofBits .f32 0xFF800000#32) _ = _
  rw [minus_inf]
  exact bot_sup_eq _

theorem e_at (y : S8x2048x2048.Idx) : val_main_v42 (F := Ideal) x0 x1 y = (H x0 x1 x2 (y 0)).e (y 1) (y 2) := by
  rw [val_main_v42_apply, val_main_v41_apply, val_main_v40_apply, val_main_v39_apply, m_at x0 x1 x2, top_at x0 x1 x2]
  rfl

theorem sum_at (y : S8x2048.Idx) : val_main_v43 (F := Ideal) x0 x1 y = (H x0 x1 x2 (y 0)).sum (y 1) := by
  rw [val_main_v43_apply, val_main_cst_9_apply, zero_f32]
  simp only [e_at x0 x1 x2]
  exact zero_add _

theorem w_at (y : S8x2048x2048.Idx) : val_main_v46 (F := Ideal) x0 x1 y = (H x0 x1 x2 (y 0)).w (y 1) (y 2) := by
  rw [val_main_v46_apply, val_main_v45_apply, val_main_v44_apply, e_at x0 x1 x2, sum_at x0 x1 x2]
  rfl

theorem dp_at (y : S8x2048x2048.Idx) : val_main_v57 (F := Ideal) x0 x2 y = (H x0 x1 x2 (y 0)).dp (y 1) (y 2) := by
  rw [val_main_v57_apply]
  simp only [g_at x0 x1 x2, v_at x0 x1 x2]
  rfl

theorem row_at (y : S8x2048.Idx) : val_main_v68 (F := Ideal) x0 x1 x2 y = -(H x0 x1 x2 (y 0)).row (y 1) := by
  rw [val_main_v68_apply, val_main_cst_12_apply, zero_f32]
  simp only [val_main_v65_apply, val_main_v64_apply, val_main_v63_apply, val_main_cst_11_apply, zero_f32, val_main_v62_apply, val_main_v61_apply, val_main_v60_apply,
    val_main_v49_apply, val_main_v48_apply, val_main_cst_10_apply, one_f32, val_main_v47_apply, val_main_v44_apply, dp_at x0 x1 x2, e_at x0 x1 x2, sum_at x0 x1 x2]
  rw [Finset.univ_unique, Finset.sum_singleton, zero_add]
  have e : idx_main_v64 (idx_main_v68 y default) = y := by
    have h0 : (y 0).val < 8 := (y 0).isLt
    have h1 : (y 1).val < 2048 := (y 1).isLt
    funext a
    apply Fin.ext
    fin_cases a
    · show (((y 0).val * 2048 + (y 1).val) * 1 + 0) / 2048 = (y 0).val
      omega
    · show (((y 0).val * 2048 + (y 1).val) * 1 + 0) % 2048 = (y 1).val
      omega
  rw [e, zero_add]
  rfl

theorem du_at (y : S8x2048x2048.Idx) : val_main_v72 (F := Ideal) x0 x1 x2 y = (H x0 x1 x2 (y 0)).du (y 1) (y 2) := by
  rw [val_main_v72_apply, mask_at, val_main_v71_apply, val_main_v70_apply, val_main_v69_apply, val_main_v67_apply, val_main_v66_apply, val_main_v44_apply,
    row_at x0 x1 x2, sum_at x0 x1 x2, e_at x0 x1 x2, dp_at x0 x1 x2, val_main_call2_v0_apply, val_main_call2_cst_apply, zero_f32]
  rfl

/-! ## The results -/

theorem v_grad_at (y : S8x128x2048.Idx) : val_main_v58 (F := Ideal) x0 x1 x2 y = (H x0 x1 x2 (y 0)).rv (y 2) (y 1) := by
  rw [val_main_v58_apply]
  simp only [g_at x0 x1 x2, w_at x0 x1 x2]
  rfl

theorem k_grad_at (y : S8x2048x128.Idx) : val_main_v83 (F := Ideal) x0 x1 x2 y = (H x0 x1 x2 (y 0)).rk (y 1) (y 2) := by
  rw [val_main_v83_apply]
  simp only [val_main_v82_apply, val_main_v81_apply, val_main_cst_17_apply, du_at x0 x1 x2, q_at x0 x1 x2]
  rfl

theorem q_grad_at (y : S8x2048x128.Idx) : val_main_v85 (F := Ideal) x0 x1 x2 y = (H x0 x1 x2 (y 0)).rq (y 1) (y 2) := by
  rw [val_main_v85_apply]
  simp only [val_main_v82_apply, val_main_v81_apply, val_main_cst_17_apply, du_at x0 x1 x2, k_at x0 x1 x2]
  rfl

theorem res_q (r : Fin 2048) (i : Fin 8) (d : Fin 128) : val_main_v90 (F := Ideal) x0 x1 x2 (ix2 r ⟨i.val * 128 + d.val, by omega⟩) = (H x0 x1 x2 i).rq r d := by
  rw [val_main_v90_apply, val_main_v89_apply, val_main_v86_apply, q_grad_at]
  have e : idx_main_v86 (idx_main_v89 (ix2 r ⟨i.val * 128 + d.val, by omega⟩)) = ix3 i r d := by
    funext a
    apply Fin.ext
    fin_cases a
    · show (r.val * 1024 + (i.val * 128 + d.val)) / 128 % 8 = i.val
      omega
    · show (r.val * 1024 + (i.val * 128 + d.val)) / 1024 = r.val
      omega
    · show (r.val * 1024 + (i.val * 128 + d.val)) % 128 = d.val
      omega
  rw [e]
  rfl

theorem res_k (r : Fin 2048) (i : Fin 8) (d : Fin 128) : val_main_v91 (F := Ideal) x0 x1 x2 (ix2 r ⟨i.val * 128 + d.val, by omega⟩) = (H x0 x1 x2 i).rk r d := by
  rw [val_main_v91_apply, val_main_v88_apply, val_main_v84_apply, k_grad_at]
  have e : idx_main_v84 (idx_main_v88 (ix2 r ⟨i.val * 128 + d.val, by omega⟩)) = ix3 i r d := by
    funext a
    apply Fin.ext
    fin_cases a
    · show (r.val * 1024 + (i.val * 128 + d.val)) / 128 % 8 = i.val
      omega
    · show (r.val * 1024 + (i.val * 128 + d.val)) / 1024 = r.val
      omega
    · show (r.val * 1024 + (i.val * 128 + d.val)) % 128 = d.val
      omega
  rw [e]
  rfl

theorem res_v (r : Fin 2048) (i : Fin 8) (d : Fin 128) : val_main_v92 (F := Ideal) x0 x1 x2 (ix2 r ⟨i.val * 128 + d.val, by omega⟩) = (H x0 x1 x2 i).rv r d := by
  rw [val_main_v92_apply, val_main_v87_apply, val_main_v59_apply, v_grad_at]
  have e : idx_main_v59 (idx_main_v87 (ix2 r ⟨i.val * 128 + d.val, by omega⟩)) = ix3 i d r := by
    funext a
    apply Fin.ext
    fin_cases a
    · show (r.val * 1024 + (i.val * 128 + d.val)) / 128 % 8 = i.val
      omega
    · show (r.val * 1024 + (i.val * 128 + d.val)) % 128 = d.val
      omega
    · show (r.val * 1024 + (i.val * 128 + d.val)) / 1024 = r.val
      omega
  rw [e]
  rfl

theorem res_c (i : Fin 8) (j : Fin 2048) : val_main_v93 (F := Ideal) x0 x1 x2 (ix2 i j) = (H x0 x1 x2 i).rc j := by
  rw [val_main_v93_apply, val_main_v80_apply, val_main_v76_apply, val_main_v79_apply, val_main_cst_14_apply, val_main_cst_16_apply, zero_f32]
  simp only [val_main_v75_apply, val_main_v74_apply, val_main_cst_13_apply, zero_f32, val_main_v73_apply, val_main_v78_apply, val_main_v77_apply, val_main_cst_15_apply]
  rw [Finset.univ_unique, Finset.sum_singleton, Finset.sum_singleton]
  simp only [zero_add]
  have e1 : ∀ k, idx_main_v74 (idx_main_v75 (idx_main_v76 (ix2 i j) default)) k = ix3 i k j := fun k => by
    funext a
    apply Fin.ext
    fin_cases a
    · show ((i.val * 1 + 0) * 2048 + j.val) / 2048 = i.val
      omega
    · rfl
    · show ((i.val * 1 + 0) * 2048 + j.val) % 2048 = j.val
      omega
  have e2 : ∀ k, idx_main_v77 (idx_main_v78 (idx_main_v79 (ix2 i j) default)) k = ix3 i j k := fun k => by
    funext a
    apply Fin.ext
    fin_cases a
    · show ((i.val * 2048 + j.val) * 1 + 0) / 2048 = i.val
      omega
    · show ((i.val * 2048 + j.val) * 1 + 0) % 2048 = j.val
      omega
    · rfl
  simp only [e1, e2, du_at x0 x1 x2]
  rfl

end Cert.ReferenceIdeal.Hand

end
-- ==== Proof.Soft.lean ====
/- On finite data the two ways of taking a head's gradient agree: through the weights that the saved log-sums give, and
   through the softmax as a quotient. -/
module

public import proofs.«01_k».proof.Proof.Args

@[expose] public section

noncomputable section

namespace Cert.Hand

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The scale as a real number. -/
def scaleR : ℝ := 11863283 * (2 ^ 27)⁻¹

theorem scale_eq : scale = (scaleR : EReal) := by
  unfold scale scaleR
  simp [Ideal.ofBits, Ideal.ieee]

/-- A head's data, all finite. -/
structure RHead where
  q : Fin 2048 → Fin 128 → ℝ
  k : Fin 2048 → Fin 128 → ℝ
  v : Fin 2048 → Fin 128 → ℝ
  g : Fin 2048 → Fin 128 → ℝ
  cq : Fin 2048 → ℝ
  ck : Fin 2048 → ℝ

namespace RHead

variable (R : RHead)

/-- The head of extended reals. -/
def up (l : Fin 2048 → EReal) : Head where
  q r d := R.q r d
  k r d := R.k r d
  v r d := R.v r d
  g r d := R.g r d
  cq r := R.cq r
  ck r := R.ck r
  l := l

def s (r j : Fin 2048) : ℝ := (∑ d, R.q r d * R.k j d) * scaleR + R.cq r - R.ck j
def dp (r j : Fin 2048) : ℝ := ∑ d, R.g r d * R.v j d

theorem s_up (l) (r j : Fin 2048) : (R.up l).s r j = (R.s r j : EReal) := by
  unfold Head.s s up
  rw [scale_eq, EReal.coe_sub, EReal.coe_add, EReal.coe_mul, coe_sum]
  simp only [EReal.coe_mul]

theorem m_up (l) (r j : Fin 2048) : (R.up l).m r j = if j.val ≤ r.val then (R.s r j : EReal) else ⊥ := by
  unfold Head.m
  rw [s_up]

theorem dp_up (l) (r j : Fin 2048) : (R.up l).dp r j = (R.dp r j : EReal) := by
  unfold Head.dp dp up
  rw [coe_sum]
  simp only [EReal.coe_mul]

/-- A row's greatest masked score is a real number. -/
theorem top_real (l) (r : Fin 2048) : ∃ t : ℝ, (R.up l).top r = (t : EReal) := by
  have hlt : (R.up l).top r < ⊤ := by
    unfold Head.top
    rw [Finset.fold_max_lt]
    refine ⟨bot_lt_top, fun j _ => ?_⟩
    rw [m_up]
    split
    · exact EReal.coe_lt_top _
    · exact bot_lt_top
  have hgt : ⊥ < (R.up l).top r := by
    have h : (R.s r r : EReal) ≤ (R.up l).top r := by
      unfold Head.top
      rw [Finset.le_fold_max]
      refine Or.inr ⟨r, Finset.mem_univ _, ?_⟩
      rw [m_up, if_pos le_rfl]
    exact lt_of_lt_of_le (EReal.bot_lt_coe _) h
  exact ⟨((R.up l).top r).toReal, (EReal.coe_toReal hlt.ne hgt.ne').symm⟩

/-- The exponentials and their sum, from a row's number `t`. -/
def e (t : Fin 2048 → ℝ) (r j : Fin 2048) : ℝ := if j.val ≤ r.val then Real.exp (R.s r j - t r) else 0
def sum (t : Fin 2048 → ℝ) (r : Fin 2048) : ℝ := ∑ j, R.e t r j
def w (t : Fin 2048 → ℝ) (r j : Fin 2048) : ℝ := R.e t r j / R.sum t r
def ds (t : Fin 2048 → ℝ) (r j : Fin 2048) : ℝ := R.w t r j * (R.dp r j - ∑ x, R.w t r x * R.dp r x)

theorem sum_pos (t : Fin 2048 → ℝ) (r : Fin 2048) : 0 < R.sum t r := by
  unfold sum
  refine Finset.sum_pos' (fun j _ => ?_) ⟨r, Finset.mem_univ _, ?_⟩
  · unfold e; split
    · exact (Real.exp_pos _).le
    · exact le_rfl
  · unfold e; rw [if_pos le_rfl]; exact Real.exp_pos _

section
variable {t : Fin 2048 → ℝ} (ht : ∀ l r, (R.up l).top r = (t r : EReal))
include ht

theorem e_up (l) (r j : Fin 2048) : (R.up l).e r j = (R.e t r j : EReal) := by
  unfold Head.e e
  rw [ht, m_up]
  split
  · rw [← EReal.coe_sub, Ideal.exp_coe]
  · rw [EReal.bot_sub, Ideal.exp_bot, EReal.coe_zero]

theorem sum_up (l) (r : Fin 2048) : (R.up l).sum r = (R.sum t r : EReal) := by
  unfold Head.sum sum
  rw [coe_sum]
  exact Finset.sum_congr rfl fun j _ => R.e_up ht l r j

theorem lse_up (l) (r : Fin 2048) : (R.up l).lse r = ((t r + Real.log (R.sum t r) : ℝ) : EReal) := by
  have h : (R.up l).lse r = (R.up l).top r + Ideal.log ((R.up l).sum r) := rfl
  rw [h, ht, R.sum_up ht, Ideal.log_coe, if_neg (not_le.mpr (R.sum_pos t r)), EReal.coe_add]

theorem w_up (l) (r j : Fin 2048) : (R.up l).w r j = (R.w t r j : EReal) := by
  unfold Head.w w
  rw [R.e_up ht, R.sum_up ht, div_coe (R.sum_pos t r).ne']

/-- The weights from the log-sums are the quotients. -/
theorem p_up (l) (r j : Fin 2048) : (R.up (R.up l).lse).p r j = (R.w t r j : EReal) := by
  have h : (R.up (R.up l).lse).p r j = Ideal.exp ((R.up (R.up l).lse).m r j - (R.up l).lse r) := rfl
  rw [h, R.lse_up ht, m_up]
  unfold w e
  split
  · rw [← EReal.coe_sub, Ideal.exp_coe, ← sub_sub, Real.exp_sub, Real.exp_log (R.sum_pos t r)]
  · rw [EReal.bot_sub, Ideal.exp_bot, zero_div, EReal.coe_zero]

theorem ds_up (l) (r j : Fin 2048) : (R.up (R.up l).lse).ds r j = (R.ds t r j : EReal) := by
  unfold Head.ds ds
  simp only [R.p_up ht, dp_up, ← EReal.coe_mul, ← coe_sum, ← EReal.coe_sub]

theorem row_up (l) (r : Fin 2048) : (R.up l).row r = ((∑ j, R.dp r j * (1 / (R.sum t r * R.sum t r)) * R.e t r j : ℝ) : EReal) := by
  unfold Head.row
  have h : ((R.sum t r * R.sum t r : ℝ)) ≠ 0 := (mul_pos (R.sum_pos t r) (R.sum_pos t r)).ne'
  simp only [R.e_up ht, R.sum_up ht, dp_up, ← EReal.coe_mul]
  rw [← EReal.coe_one, div_coe h]
  simp only [← EReal.coe_mul, ← coe_sum]

/-- The two gradients of a score agree. -/
theorem du_up (l) (r j : Fin 2048) : (R.up l).du r j = (R.ds t r j : EReal) := by
  unfold Head.du
  rw [R.row_up ht, R.e_up ht, R.sum_up ht, dp_up, div_coe (R.sum_pos t r).ne', ← EReal.coe_neg, ← EReal.coe_add, ← EReal.coe_mul]
  have hs := (R.sum_pos t r).ne'
  have hrow : (∑ x, R.dp r x * (1 / (R.sum t r * R.sum t r)) * R.e t r x) = (∑ x, R.w t r x * R.dp r x) / R.sum t r := by
    rw [Finset.sum_div]
    refine Finset.sum_congr rfl fun x _ => ?_
    unfold w
    field_simp
  have key : (R.dp r j / R.sum t r + -∑ x, R.dp r x * (1 / (R.sum t r * R.sum t r)) * R.e t r x) * R.e t r j = R.ds t r j := by
    rw [hrow]
    unfold ds
    have hw : R.w t r j = R.e t r j / R.sum t r := rfl
    rw [hw]
    ring
  rw [key]
  split
  · rfl
  · rename_i h
    rw [← EReal.coe_zero]
    congr 1
    unfold ds w e
    rw [if_neg h, zero_div, zero_mul]

theorem ds_row (r : Fin 2048) : ∑ j, R.ds t r j = 0 := by
  have hw : ∑ j, R.w t r j = 1 := by
    unfold w
    rw [← Finset.sum_div]
    exact div_self (R.sum_pos t r).ne'
  unfold ds
  simp only [mul_sub]
  rw [Finset.sum_sub_distrib, ← Finset.sum_mul, hw, one_mul, sub_self]

theorem gq_eq (l) (r : Fin 2048) (d : Fin 128) : (R.up (R.up l).lse).gq r d = (R.up l).rq r d := by
  unfold Head.gq Head.rq
  simp only [R.ds_up ht, R.du_up ht, scale_eq]
  show (∑ j, (R.ds t r j : EReal) * (R.k j d : EReal)) * _ = ∑ j, (R.ds t r j : EReal) * (scaleR : EReal) * (R.k j d : EReal)
  simp only [← EReal.coe_mul, ← coe_sum]
  congr 1
  rw [Finset.sum_mul]
  exact Finset.sum_congr rfl fun j _ => by ring

theorem gk_eq (l) (j : Fin 2048) (d : Fin 128) : (R.up (R.up l).lse).gk j d = (R.up l).rk j d := by
  unfold Head.gk Head.rk
  simp only [R.ds_up ht, R.du_up ht, scale_eq]
  show (∑ r, (R.ds t r j : EReal) * (R.q r d : EReal)) * _ = ∑ r, (R.ds t r j : EReal) * (scaleR : EReal) * (R.q r d : EReal)
  simp only [← EReal.coe_mul, ← coe_sum]
  congr 1
  rw [Finset.sum_mul]
  exact Finset.sum_congr rfl fun j _ => by ring

theorem gv_eq (l) (j : Fin 2048) (d : Fin 128) : (R.up (R.up l).lse).gv j d = (R.up l).rv j d := by
  unfold Head.gv Head.rv
  simp only [R.p_up ht, R.w_up ht]
  exact Finset.sum_congr rfl fun r _ => mul_comm _ _

theorem gc_eq (l) (j : Fin 2048) : (R.up (R.up l).lse).gc j = (R.up l).rc j := by
  unfold Head.gc Head.rc
  simp only [R.ds_up ht, R.du_up ht, ← EReal.coe_neg, ← coe_sum, ← EReal.coe_add]
  rw [R.ds_row ht, Finset.sum_neg_distrib, add_zero, neg_neg]

end

end RHead

end Cert.Hand

end
-- ==== Proof.Finite.lean ====
/- The precondition: the arguments' entries that the call reads are finite. And the two gradients then agree. -/
module

public import proofs.«01_k».proof.Defs
public import proofs.«01_k».proof.Proof.Soft
public import Idealize.ShloMosaic.Lib.Pointwise

@[expose] public section

noncomputable section

namespace Cert.Hand

open Idealize.ShloMosaic Idealize.ShloMosaic.Tactic

theorem pre_facts : Cert.Pre_finite.Facts := ⟨by decide, by decide, by decide, by decide, by decide, by decide⟩

theorem finite_of_abs {x : EReal} (h : Ideal.cmp .olt (max x (-x)) ⊤ = 1#1) : x = (x.toReal : EReal) := by
  refine (EReal.coe_toReal ?_ ?_).symm <;> rintro rfl <;> simp [Ideal.cmp] at h

theorem inf_f32 : Ideal.ofBits .f32 0x7F800000#32 = (⊤ : EReal) := by simp [Ideal.ofBits, Ideal.ieee]

variable [Cert.Pre_finite.Facts] (x0 : A0) (x1 : A1) (x2 : A2)

theorem finite0 (h : (Cert.Pre_finite.fn (F := Ideal) x0 x1 x2).1 = fun _ => 1#1) (y) : x0 y = ((x0 y).toReal : EReal) := by
  have h := congrFun h y
  refine finite_of_abs ?_
  rw [← inf_f32]
  exact h

theorem finite1 (h : (Cert.Pre_finite.fn (F := Ideal) x0 x1 x2).2.1 = fun _ => 1#1) (r : Fin 2048) (i : Fin 8) :
    x1 (ix2 r ⟨i.val, by omega⟩) = ((x1 (ix2 r ⟨i.val, by omega⟩)).toReal : EReal) := by
  have h := congrFun h (ix2 r i)
  refine finite_of_abs ?_
  rw [← inf_f32]
  refine Eq.trans ?_ h
  unfold Cert.Pre_finite.fn
  pointwise
  rfl

theorem finite2 (h : (Cert.Pre_finite.fn (F := Ideal) x0 x1 x2).2.2 = fun _ => 1#1) (r : Fin 2048) (i : Fin 1024) :
    x2 (ix2 r ⟨i.val, by omega⟩) = ((x2 (ix2 r ⟨i.val, by omega⟩)).toReal : EReal) := by
  have h := congrFun h (ix2 r i)
  refine finite_of_abs ?_
  rw [← inf_f32]
  refine Eq.trans ?_ h
  unfold Cert.Pre_finite.fn
  pointwise
  rfl

/-- A head of finite arguments. -/
def realHead (i : Fin 8) : RHead where
  q r d := (x0 (ix2 r ⟨i.val * 128 + d.val, by omega⟩)).toReal
  k r d := (x0 (ix2 r ⟨1024 + (i.val * 128 + d.val), by omega⟩)).toReal
  v r d := (x0 (ix2 r ⟨2048 + (i.val * 128 + d.val), by omega⟩)).toReal
  g r d := (x2 (ix2 r ⟨i.val * 128 + d.val, by omega⟩)).toReal
  cq r := (x1 (ix2 r ⟨i.val, by omega⟩)).toReal
  ck r := (x1 (ix2 r ⟨i.val, by omega⟩)).toReal

variable (h0 : (Cert.Pre_finite.fn (F := Ideal) x0 x1 x2).1 = fun _ => 1#1) (h1 : (Cert.Pre_finite.fn (F := Ideal) x0 x1 x2).2.1 = fun _ => 1#1)
  (h2 : (Cert.Pre_finite.fn (F := Ideal) x0 x1 x2).2.2 = fun _ => 1#1)
include h0 h1 h2

theorem open_up (i : Fin 8) (l) : openHead x0 x1 x2 i l = (realHead x0 x1 x2 i).up l := by
  unfold openHead RHead.up realHead
  congr 1
  · funext r d; exact finite0 x0 x1 x2 h0 _
  · funext r d; exact finite0 x0 x1 x2 h0 _
  · funext r d; exact finite0 x0 x1 x2 h0 _
  · funext r d; exact finite2 x0 x1 x2 h2 r ⟨i.val * 128 + d.val, by omega⟩
  · funext r; exact finite1 x0 x1 x2 h1 r i
  · funext r; exact finite1 x0 x1 x2 h1 r i

theorem head_up (i : Fin 8) : head x0 x1 x2 i = (realHead x0 x1 x2 i).up ((realHead x0 x1 x2 i).up fun _ => 0).lse := by
  unfold head
  rw [open_up x0 x1 x2 h0 h1 h2, open_up x0 x1 x2 h0 h1 h2]

theorem tops (i : Fin 8) : ∃ t : Fin 2048 → ℝ, ∀ l r, ((realHead x0 x1 x2 i).up l).top r = (t r : EReal) := by
  choose t ht using (realHead x0 x1 x2 i).top_real fun _ => 0
  exact ⟨t, fun l r => ht r⟩

theorem same_q (i : Fin 8) (r d) : (head x0 x1 x2 i).gq r d = (openHead x0 x1 x2 i fun _ => 0).rq r d := by
  obtain ⟨t, ht⟩ := tops x0 x1 x2 h0 h1 h2 i
  rw [head_up x0 x1 x2 h0 h1 h2, open_up x0 x1 x2 h0 h1 h2]
  exact (realHead x0 x1 x2 i).gq_eq ht _ r d

theorem same_k (i : Fin 8) (r d) : (head x0 x1 x2 i).gk r d = (openHead x0 x1 x2 i fun _ => 0).rk r d := by
  obtain ⟨t, ht⟩ := tops x0 x1 x2 h0 h1 h2 i
  rw [head_up x0 x1 x2 h0 h1 h2, open_up x0 x1 x2 h0 h1 h2]
  exact (realHead x0 x1 x2 i).gk_eq ht _ r d

theorem same_v (i : Fin 8) (r d) : (head x0 x1 x2 i).gv r d = (openHead x0 x1 x2 i fun _ => 0).rv r d := by
  obtain ⟨t, ht⟩ := tops x0 x1 x2 h0 h1 h2 i
  rw [head_up x0 x1 x2 h0 h1 h2, open_up x0 x1 x2 h0 h1 h2]
  exact (realHead x0 x1 x2 i).gv_eq ht _ r d

theorem same_c (i : Fin 8) (j) : (head x0 x1 x2 i).gc j = (openHead x0 x1 x2 i fun _ => 0).rc j := by
  obtain ⟨t, ht⟩ := tops x0 x1 x2 h0 h1 h2 i
  rw [head_up x0 x1 x2 h0 h1 h2, open_up x0 x1 x2 h0 h1 h2]
  exact (realHead x0 x1 x2 i).gc_eq ht _ j

end Cert.Hand

end
-- ==== Proof.Same.lean ====
/- The kernel and its idealized version are one text: no rule was applied. Here: its body. -/
module

public import proofs.«01_k».proof.Proof.Launch
public import proofs.«01_k».proof.Proof.Gen.Kernel

@[expose] public section

set_option maxRecDepth 16384
set_option maxHeartbeats 2000000

noncomputable section

namespace Cert.Hand.Same

open Idealize.ShloMosaic Idealize.ShloMosaic.TcCoe Idealize.SL.Sem

variable {F : FTy → Type} [FloatOps F]

/-! ## The body, statement block by statement block -/

theorem part1 : @Cert.Kernel.k0_part1 F _ _ = @Cert.KernelIdeal.k0_part1 F _ _ := by
  unfold Cert.Kernel.k0_part1 Cert.KernelIdeal.k0_part1; rfl

theorem part2 : @Cert.Kernel.k0_part2 F _ _ = @Cert.KernelIdeal.k0_part2 F _ _ := rfl
theorem part3 : @Cert.Kernel.k0_part3 F _ _ = @Cert.KernelIdeal.k0_part3 F _ _ := rfl
theorem part4 : @Cert.Kernel.k0_part4 F _ _ = @Cert.KernelIdeal.k0_part4 F _ _ := rfl
theorem part5 : @Cert.Kernel.k0_part5 F _ _ = @Cert.KernelIdeal.k0_part5 F _ _ := rfl
theorem part6 : @Cert.Kernel.k0_part6 F _ _ = @Cert.KernelIdeal.k0_part6 F _ _ := rfl
theorem part7 : @Cert.Kernel.k0_part7 F _ _ = @Cert.KernelIdeal.k0_part7 F _ _ := rfl

theorem body : @Cert.Kernel.cc0_fox_bwd F _ _ = @Cert.KernelIdeal.cc0_fox_bwd F _ _ := by
  unfold Cert.Kernel.cc0_fox_bwd
  simp only [part1, part2, part3, part4, part5, part6, part7]
  rfl

end Cert.Hand.Same

end
-- ==== Proof.SameProgram.lean ====
/- The kernel and its idealized version are one text, table of bodies and program too: so the run proved of one is a run
   of the other. -/
module

public import proofs.«01_k».proof.Proof.Same

@[expose] public section

set_option maxRecDepth 16384
set_option maxHeartbeats 2000000

noncomputable section

namespace Cert.Hand.Same

open Idealize.ShloMosaic Idealize.ShloMosaic.TcCoe Idealize.SL.Sem

variable {F : FTy → Type} [FloatOps F]

open Cert.Kernel Cert.Kernel.Facts₀ in
/-- The table's one entry, at a point and its staging buffers. -/
theorem entry (x : Fin grid0.N × ((w : Fin 11) → Fin (win0 w).nbuf)) : Cert.Kernel.cc0_fox_bwd (F := F)
      (grid0.coords x.1) (win0_0.stage (x.2 0)) (hstage0_0 ((x.2 0).cast nbuf0_0)) (win0_1.stage (x.2 1)) (hstage0_1 ((x.2 1).cast nbuf0_1)) (win0_2.stage (x.2 2))
      (hstage0_2 ((x.2 2).cast nbuf0_2)) (win0_3.stage (x.2 3)) (hstage0_3 ((x.2 3).cast nbuf0_3)) (win0_4.stage (x.2 4)) (hstage0_4 ((x.2 4).cast nbuf0_4))
      (win0_5.stage (x.2 5)) (hstage0_5 ((x.2 5).cast nbuf0_5)) (win0_6.stage (x.2 6)) (hstage0_6 ((x.2 6).cast nbuf0_6)) (win0_7.stage (x.2 7))
      (hstage0_7 ((x.2 7).cast nbuf0_7)) (win0_8.stage (x.2 8)) (hstage0_8 ((x.2 8).cast nbuf0_8)) (win0_9.stage (x.2 9)) (hstage0_9 ((x.2 9).cast nbuf0_9))
      (win0_10.stage (x.2 10)) (hstage0_10 ((x.2 10).cast nbuf0_10)) (Memref.whole cc0_scratch0) (Memref.isWhole_whole _) (Memref.whole cc0_scratch1)
      (Memref.isWhole_whole _) (Memref.whole cc0_scratch2) (Memref.isWhole_whole _)
    = Cert.KernelIdeal.cc0_fox_bwd (F := F)
      (grid0.coords x.1) (win0_0.stage (x.2 0)) (hstage0_0 ((x.2 0).cast nbuf0_0)) (win0_1.stage (x.2 1)) (hstage0_1 ((x.2 1).cast nbuf0_1)) (win0_2.stage (x.2 2))
      (hstage0_2 ((x.2 2).cast nbuf0_2)) (win0_3.stage (x.2 3)) (hstage0_3 ((x.2 3).cast nbuf0_3)) (win0_4.stage (x.2 4)) (hstage0_4 ((x.2 4).cast nbuf0_4))
      (win0_5.stage (x.2 5)) (hstage0_5 ((x.2 5).cast nbuf0_5)) (win0_6.stage (x.2 6)) (hstage0_6 ((x.2 6).cast nbuf0_6)) (win0_7.stage (x.2 7))
      (hstage0_7 ((x.2 7).cast nbuf0_7)) (win0_8.stage (x.2 8)) (hstage0_8 ((x.2 8).cast nbuf0_8)) (win0_9.stage (x.2 9)) (hstage0_9 ((x.2 9).cast nbuf0_9))
      (win0_10.stage (x.2 10)) (hstage0_10 ((x.2 10).cast nbuf0_10)) (Memref.whole cc0_scratch0) (Memref.isWhole_whole _) (Memref.whole cc0_scratch1)
      (Memref.isWhole_whole _) (Memref.whole cc0_scratch2) (Memref.isWhole_whole _) := by
  rw [body (F := F)]

theorem bodies : @Cert.Kernel.defs₀ F _ _ = @Cert.KernelIdeal.defs₀ F _ _ := by
  unfold Cert.Kernel.defs₀ Cert.KernelIdeal.defs₀
  refine congrArg _ (funext fun l => funext fun x => ?_)
  obtain rfl : l = (0 : Fin 1) := Subsingleton.elim (α := Fin 1) l 0
  exact entry x

theorem table : Cert.Kernel.defs (F := F) = Cert.KernelIdeal.defs (F := F) :=
  congrArg (Pipeline.defs (Cert.KernelIdeal.pcfgs (F := F))) bodies

theorem program : Cert.Kernel.main (F := F) = Cert.KernelIdeal.main (F := F) := by
  unfold Cert.Kernel.main Cert.KernelIdeal.main
  rfl

/-- The kernel's run. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [table, program]
  exact Cert.KernelIdeal.Hand.frame m ρ

end Cert.Hand.Same

end
-- ==== Proof.lean ====
/- The certificate. The backward call of the forgetting attention runs and leaves what it was given unchanged, as it is
   printed and at the exact values; and at the exact values its four results are the plain gradient's. The same is
   stated of twelve calls around it, the eight products of the backward pass and four of the forward pass, and of two
   calls of the update. -/
module

public import proofs.«01_k».proof.Defs
public import proofs.«01_k».proof.Proof.Gen.Kernel
public import proofs.«01_k».proof.Proof.Gen.ReferenceIdeal.Run
public import proofs.«01_k».proof.Proof.Gen.DActRefIdeal.Run
public import proofs.«01_k».proof.Proof.Gen.DwDownRefIdeal.Run
public import proofs.«01_k».proof.Proof.Gen.DwUpRefIdeal.Run
public import proofs.«01_k».proof.Proof.Gen.MlpUpRefIdeal.Run
public import proofs.«01_k».proof.Proof.Gen.DwInRefIdeal.Run
public import proofs.«01_k».proof.Proof.Gen.DH2RefIdeal.Run
public import proofs.«01_k».proof.Proof.Gen.MlpDownRefIdeal.Run
public import proofs.«01_k».proof.Proof.Gen.DH1RefIdeal.Run
public import proofs.«01_k».proof.Proof.DActValue
public import proofs.«01_k».proof.Proof.DwDownValue
public import proofs.«01_k».proof.Proof.DwUpValue
public import proofs.«01_k».proof.Proof.MlpUpValue
public import proofs.«01_k».proof.Proof.DwInValue
public import proofs.«01_k».proof.Proof.DH2Value
public import proofs.«01_k».proof.Proof.MlpDownValue
public import proofs.«01_k».proof.Proof.DH1Value
public import proofs.«01_k».proof.Proof.Gen.DAttnRefIdeal.Run
public import proofs.«01_k».proof.Proof.Gen.DwOutRefIdeal.Run
public import proofs.«01_k».proof.Proof.Gen.OutProjRefIdeal.Run
public import proofs.«01_k».proof.Proof.Gen.ProjARefIdeal.Run
public import proofs.«01_k».proof.Proof.DAttnValue
public import proofs.«01_k».proof.Proof.DwOutValue
public import proofs.«01_k».proof.Proof.OutProjValue
public import proofs.«01_k».proof.Proof.ProjAValue
public import proofs.«01_k».proof.Proof.Gen.AdamSmallRefIdeal.Run
public import proofs.«01_k».proof.Proof.Gen.AdamModRefIdeal.Run
public import proofs.«01_k».proof.Proof.AdamSmallValue
public import proofs.«01_k».proof.Proof.AdamModValue
public import proofs.«01_k».proof.Proof.AdamDownValue
public import proofs.«01_k».proof.Proof.AdamUpValue
public import proofs.«01_k».proof.Proof.AdamOutValue
public import proofs.«01_k».proof.Proof.AdamInValue
public import proofs.«01_k».proof.Proof.Arrays
public import proofs.«01_k».proof.Proof.Ref
public import proofs.«01_k».proof.Proof.Finite
public import proofs.«01_k».proof.Proof.SameProgram

@[expose] public section

noncomputable section

namespace Cert.Proof

open Idealize.ShloMosaic Idealize.SL.Sem Cert.Hand

/-- The reference's four results, from arguments that are finite, are the call's. -/
theorem ref_q [Cert.Pre_finite.Facts] (x0 : A0) (x1 : A1) (x2 : A2) (h0 : (Cert.Pre_finite.fn (F := Ideal) x0 x1 x2).1 = fun _ => 1#1)
    (h1 : (Cert.Pre_finite.fn (F := Ideal) x0 x1 x2).2.1 = fun _ => 1#1) (h2 : (Cert.Pre_finite.fn (F := Ideal) x0 x1 x2).2.2 = fun _ => 1#1) :
    Cert.ReferenceIdeal.Read.val_main_v90 (F := Ideal) x0 x1 x2 = outQ x0 x1 x2 := by
  funext y
  have hy : (y 1).val < 1024 := (y 1).isLt
  have e : y = ix2 (y 0) ⟨(⟨(y 1).val / 128, by omega⟩ : Fin 8).val * 128 + (⟨(y 1).val % 128, by omega⟩ : Fin 128).val, by show (y 1).val / 128 * 128 + (y 1).val % 128 < 1024; omega⟩ := by
    funext a
    apply Fin.ext
    fin_cases a
    · rfl
    · show (y 1).val = (y 1).val / 128 * 128 + (y 1).val % 128
      omega
  refine (congrArg _ e).trans ((Cert.ReferenceIdeal.Hand.res_q x0 x1 x2 (y 0) _ _).trans ?_)
  exact (same_q x0 x1 x2 h0 h1 h2 _ _ _).symm

theorem ref_k [Cert.Pre_finite.Facts] (x0 : A0) (x1 : A1) (x2 : A2) (h0 : (Cert.Pre_finite.fn (F := Ideal) x0 x1 x2).1 = fun _ => 1#1)
    (h1 : (Cert.Pre_finite.fn (F := Ideal) x0 x1 x2).2.1 = fun _ => 1#1) (h2 : (Cert.Pre_finite.fn (F := Ideal) x0 x1 x2).2.2 = fun _ => 1#1) :
    Cert.ReferenceIdeal.Read.val_main_v91 (F := Ideal) x0 x1 x2 = outK x0 x1 x2 := by
  funext y
  have hy : (y 1).val < 1024 := (y 1).isLt
  have e : y = ix2 (y 0) ⟨(⟨(y 1).val / 128, by omega⟩ : Fin 8).val * 128 + (⟨(y 1).val % 128, by omega⟩ : Fin 128).val, by show (y 1).val / 128 * 128 + (y 1).val % 128 < 1024; omega⟩ := by
    funext a
    apply Fin.ext
    fin_cases a
    · rfl
    · show (y 1).val = (y 1).val / 128 * 128 + (y 1).val % 128
      omega
  refine (congrArg _ e).trans ((Cert.ReferenceIdeal.Hand.res_k x0 x1 x2 (y 0) _ _).trans ?_)
  exact (same_k x0 x1 x2 h0 h1 h2 _ _ _).symm

theorem ref_v [Cert.Pre_finite.Facts] (x0 : A0) (x1 : A1) (x2 : A2) (h0 : (Cert.Pre_finite.fn (F := Ideal) x0 x1 x2).1 = fun _ => 1#1)
    (h1 : (Cert.Pre_finite.fn (F := Ideal) x0 x1 x2).2.1 = fun _ => 1#1) (h2 : (Cert.Pre_finite.fn (F := Ideal) x0 x1 x2).2.2 = fun _ => 1#1) :
    Cert.ReferenceIdeal.Read.val_main_v92 (F := Ideal) x0 x1 x2 = outV x0 x1 x2 := by
  funext y
  have hy : (y 1).val < 1024 := (y 1).isLt
  have e : y = ix2 (y 0) ⟨(⟨(y 1).val / 128, by omega⟩ : Fin 8).val * 128 + (⟨(y 1).val % 128, by omega⟩ : Fin 128).val, by show (y 1).val / 128 * 128 + (y 1).val % 128 < 1024; omega⟩ := by
    funext a
    apply Fin.ext
    fin_cases a
    · rfl
    · show (y 1).val = (y 1).val / 128 * 128 + (y 1).val % 128
      omega
  refine (congrArg _ e).trans ((Cert.ReferenceIdeal.Hand.res_v x0 x1 x2 (y 0) _ _).trans ?_)
  exact (same_v x0 x1 x2 h0 h1 h2 _ _ _).symm

theorem ref_c [Cert.Pre_finite.Facts] (x0 : A0) (x1 : A1) (x2 : A2) (h0 : (Cert.Pre_finite.fn (F := Ideal) x0 x1 x2).1 = fun _ => 1#1)
    (h1 : (Cert.Pre_finite.fn (F := Ideal) x0 x1 x2).2.1 = fun _ => 1#1) (h2 : (Cert.Pre_finite.fn (F := Ideal) x0 x1 x2).2.2 = fun _ => 1#1) :
    Cert.ReferenceIdeal.Read.val_main_v93 (F := Ideal) x0 x1 x2 = outC x0 x1 x2 := by
  funext y
  have e : y = ix2 (y 0) (y 1) := by funext a; fin_cases a <;> rfl
  refine (congrArg _ e).trans ((Cert.ReferenceIdeal.Hand.res_c x0 x1 x2 (y 0) (y 1)).trans ?_)
  exact (same_c x0 x1 x2 h0 h1 h2 _ _).symm

/-- The printed kernel has the text of its idealization, so the one run, over the machine's floats, is its frame too. -/
theorem frame_k : Cert.quiescent_Kernel (hKernel := Cert.Kernel.Gen.facts) := fun m ρ _ => Same.frame (F := Bits) m ρ

theorem frame_i : Cert.quiescent_KernelIdeal (hKernelIdeal := Cert.KernelIdeal.Gen.facts) := fun m ρ _ => Cert.KernelIdeal.Hand.frame m ρ

theorem frame_r : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem values : Cert.algebraic_KernelIdeal_ReferenceIdeal_pre_finite (hKernelIdeal := Cert.KernelIdeal.Gen.facts)
    (hReferenceIdeal := Cert.ReferenceIdeal.Gen.facts) (hPre_finite := pre_facts) := by
  haveI := pre_facts
  intro m g m' g' hpre hagree
  refine ⟨fun c => outQ (Cert.KernelIdeal.Hand.x0 m c) (Cert.KernelIdeal.Hand.x1 m c) (Cert.KernelIdeal.Hand.x2 m c),
    fun c => outK (Cert.KernelIdeal.Hand.x0 m c) (Cert.KernelIdeal.Hand.x1 m c) (Cert.KernelIdeal.Hand.x2 m c),
    fun c => outV (Cert.KernelIdeal.Hand.x0 m c) (Cert.KernelIdeal.Hand.x1 m c) (Cert.KernelIdeal.Hand.x2 m c),
    fun c => outC (Cert.KernelIdeal.Hand.x0 m c) (Cert.KernelIdeal.Hand.x1 m c) (Cert.KernelIdeal.Hand.x2 m c),
    (θ_run Cert.KernelIdeal.defs _ _).mono (fun _ h => h.1) (Cert.KernelIdeal.Hand.results m g),
    (θ_run Cert.ReferenceIdeal.defs _ _).mono (fun r h c => ?_) (Cert.ReferenceIdeal.Value.run (F := Ideal) m' g')⟩
  obtain ⟨hq, hk, hv, hc, hargs⟩ := h c
  obtain ⟨a0, a1, a2⟩ := hagree c
  obtain ⟨p0, p1, p2⟩ := hpre c
  refine ⟨hq.trans ?_, hk.trans ?_, hv.trans ?_, hc.trans ?_, hargs⟩
  · rw [Cert.ReferenceIdeal.Read.val_main_v90_eq, a0, a1, a2]; exact ref_q _ _ _ p0 p1 p2
  · rw [Cert.ReferenceIdeal.Read.val_main_v91_eq, a0, a1, a2]; exact ref_k _ _ _ p0 p1 p2
  · rw [Cert.ReferenceIdeal.Read.val_main_v92_eq, a0, a1, a2]; exact ref_v _ _ _ p0 p1 p2
  · rw [Cert.ReferenceIdeal.Read.val_main_v93_eq, a0, a1, a2]; exact ref_c _ _ _ p0 p1 p2

theorem claim : Cert.Claim := by
  refine ⟨Cert.Kernel.Gen.facts, Cert.KernelIdeal.Gen.facts, Cert.ReferenceIdeal.Gen.facts,
    Cert.DAct.Gen.facts, Cert.DActIdeal.Gen.facts, Cert.DActRefIdeal.Gen.facts,
    Cert.DwDown.Gen.facts, Cert.DwDownIdeal.Gen.facts, Cert.DwDownRefIdeal.Gen.facts,
    Cert.DwUp.Gen.facts, Cert.DwUpIdeal.Gen.facts, Cert.DwUpRefIdeal.Gen.facts,
    Cert.MlpUp.Gen.facts, Cert.MlpUpIdeal.Gen.facts, Cert.MlpUpRefIdeal.Gen.facts,
    Cert.DwIn.Gen.facts, Cert.DwInIdeal.Gen.facts, Cert.DwInRefIdeal.Gen.facts,
    Cert.DH2.Gen.facts, Cert.DH2Ideal.Gen.facts, Cert.DH2RefIdeal.Gen.facts,
    Cert.MlpDown.Gen.facts, Cert.MlpDownIdeal.Gen.facts, Cert.MlpDownRefIdeal.Gen.facts,
    Cert.DH1.Gen.facts, Cert.DH1Ideal.Gen.facts, Cert.DH1RefIdeal.Gen.facts,
    Cert.DAttn.Gen.facts, Cert.DAttnIdeal.Gen.facts, Cert.DAttnRefIdeal.Gen.facts,
    Cert.DwOut.Gen.facts, Cert.DwOutIdeal.Gen.facts, Cert.DwOutRefIdeal.Gen.facts,
    Cert.OutProj.Gen.facts, Cert.OutProjIdeal.Gen.facts, Cert.OutProjRefIdeal.Gen.facts,
    Cert.ProjA.Gen.facts, Cert.ProjAIdeal.Gen.facts, Cert.ProjARefIdeal.Gen.facts,
    Cert.AdamSmall.Gen.facts, Cert.AdamSmallIdeal.Gen.facts, Cert.AdamSmallRefIdeal.Gen.facts,
    Cert.AdamMod.Gen.facts, Cert.AdamModIdeal.Gen.facts, Cert.AdamModRefIdeal.Gen.facts,
    Cert.AdamDown.Gen.facts, Cert.AdamDownIdeal.Gen.facts, Cert.AdamDownRefIdeal.Gen.facts,
    Cert.AdamUp.Gen.facts, Cert.AdamUpIdeal.Gen.facts, Cert.AdamUpRefIdeal.Gen.facts,
    Cert.AdamOut.Gen.facts, Cert.AdamOutIdeal.Gen.facts, Cert.AdamOutRefIdeal.Gen.facts,
    Cert.AdamIn.Gen.facts, Cert.AdamInIdeal.Gen.facts, Cert.AdamInRefIdeal.Gen.facts,
    pre_facts, frame_k, frame_i, ?_, frame_r, ?_,
    DAct.frame_k, DAct.frame_i, DAct.frame_r,
    DwDown.frame_k, DwDown.frame_i, DwDown.frame_r,
    DwUp.frame_k, DwUp.frame_i, DwUp.frame_r,
    MlpUp.frame_k, MlpUp.frame_i, MlpUp.frame_r,
    DwIn.frame_k, DwIn.frame_i, DwIn.frame_r,
    DH2.frame_k, DH2.frame_i, DH2.frame_r,
    MlpDown.frame_k, MlpDown.frame_i, MlpDown.frame_r,
    DH1.frame_k, DH1.frame_i, DH1.frame_r,
    DAttn.frame_k, DAttn.frame_i, DAttn.frame_r,
    DwOut.frame_k, DwOut.frame_i, DwOut.frame_r,
    OutProj.frame_k, OutProj.frame_i, OutProj.frame_r,
    ProjA.frame_k, ProjA.frame_i, ProjA.frame_r,
    AdamSmall.frame_k, AdamSmall.frame_i, AdamSmall.frame_r,
    AdamMod.frame_k, AdamMod.frame_i, AdamMod.frame_r,
    AdamDown.frame_k, AdamDown.frame_i, AdamDown.frame_r,
    AdamUp.frame_k, AdamUp.frame_i, AdamUp.frame_r,
    AdamOut.frame_k, AdamOut.frame_i, AdamOut.frame_r,
    AdamIn.frame_k, AdamIn.frame_i, AdamIn.frame_r,
    trivial, values,
    trivial, DAct.values,
    trivial, DwDown.values,
    trivial, DwUp.values,
    trivial, MlpUp.values,
    trivial, DwIn.values,
    trivial, DH2.values,
    trivial, MlpDown.values,
    trivial, DH1.values,
    trivial, DAttn.values,
    trivial, DwOut.values,
    trivial, OutProj.values,
    trivial, ProjA.values,
    trivial, AdamSmall.values,
    trivial, AdamMod.values,
    trivial, AdamDown.values,
    trivial, AdamUp.values,
    trivial, AdamOut.values,
    trivial, AdamIn.values⟩
  · exact fun m ρ _ => frame_i m ρ trivial
  · exact fun m ρ _ => frame_r m ρ trivial

end Cert.Proof

end
